-- ==== Defs.lean ====
def Pre_GlaMix (m : (ℓ : Loc Cert.GlaMix.nD Cert.GlaMix.τ Cert.GlaMix.sig) → Buf (Elt Bits) ℓ) : Prop :=
  True

def Pre_GlaMixIdeal (m : (ℓ : Loc Cert.GlaMixIdeal.nD Cert.GlaMixIdeal.τ Cert.GlaMixIdeal.sig) → Buf (Elt Ideal) ℓ) : Prop :=
  True

def Pre_GlaMixIdeal_gates_below_inf [hPre_gates_below_inf : Cert.Pre_gates_below_inf.Facts] (m : (ℓ : Loc Cert.GlaMixIdeal.nD Cert.GlaMixIdeal.τ Cert.GlaMixIdeal.sig) → Buf (Elt Ideal) ℓ) : Prop :=
  ∀ c : Dev Cert.GlaMixIdeal.nD,
    (Cert.Pre_gates_below_inf.fn (F := Ideal) (m ((c.tc : Thread Cert.GlaMixIdeal.nD Cert.GlaMixIdeal.τ).loc Cert.GlaMixIdeal.main_arg0)) (m ((c.tc : Thread Cert.GlaMixIdeal.nD Cert.GlaMixIdeal.τ).loc Cert.GlaMixIdeal.main_arg1)) (m ((c.tc : Thread Cert.GlaMixIdeal.nD Cert.GlaMixIdeal.τ).loc Cert.GlaMixIdeal.main_arg2)) (m ((c.tc : Thread Cert.GlaMixIdeal.nD Cert.GlaMixIdeal.τ).loc Cert.GlaMixIdeal.main_arg3)) (m ((c.tc : Thread Cert.GlaMixIdeal.nD Cert.GlaMixIdeal.τ).loc Cert.GlaMixIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gates_below_inf [hPre_gates_below_inf : Cert.Pre_gates_below_inf.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gates_below_inf.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjIdeal_gla_proj_finite [hPre_gla_proj_finite : Cert.Pre_gla_proj_finite.Facts] (m : (ℓ : Loc Cert.GlaProjIdeal.nD Cert.GlaProjIdeal.τ Cert.GlaProjIdeal.sig) → Buf (Elt Ideal) ℓ) : Prop :=
  ∀ c : Dev Cert.GlaProjIdeal.nD,
    (Cert.Pre_gla_proj_finite.fn (F := Ideal) (m ((c.tc : Thread Cert.GlaProjIdeal.nD Cert.GlaProjIdeal.τ).loc Cert.GlaProjIdeal.main_arg0)) (m ((c.tc : Thread Cert.GlaProjIdeal.nD Cert.GlaProjIdeal.τ).loc Cert.GlaProjIdeal.main_arg1)) (m ((c.tc : Thread Cert.GlaProjIdeal.nD Cert.GlaProjIdeal.τ).loc Cert.GlaProjIdeal.main_arg2)) (m ((c.tc : Thread Cert.GlaProjIdeal.nD Cert.GlaProjIdeal.τ).loc Cert.GlaProjIdeal.main_arg3)) (m ((c.tc : Thread Cert.GlaProjIdeal.nD Cert.GlaProjIdeal.τ).loc Cert.GlaProjIdeal.main_arg4))).1 = (fun _ => 1#1)
    ∧ (Cert.Pre_gla_proj_finite.fn (F := Ideal) (m ((c.tc : Thread Cert.GlaProjIdeal.nD Cert.GlaProjIdeal.τ).loc Cert.GlaProjIdeal.main_arg0)) (m ((c.tc : Thread Cert.GlaProjIdeal.nD Cert.GlaProjIdeal.τ).loc Cert.GlaProjIdeal.main_arg1)) (m ((c.tc : Thread Cert.GlaProjIdeal.nD Cert.GlaProjIdeal.τ).loc Cert.GlaProjIdeal.main_arg2)) (m ((c.tc : Thread Cert.GlaProjIdeal.nD Cert.GlaProjIdeal.τ).loc Cert.GlaProjIdeal.main_arg3)) (m ((c.tc : Thread Cert.GlaProjIdeal.nD Cert.GlaProjIdeal.τ).loc Cert.GlaProjIdeal.main_arg4))).2.1 = (fun _ => 1#1)
    ∧ (Cert.Pre_gla_proj_finite.fn (F := Ideal) (m ((c.tc : Thread Cert.GlaProjIdeal.nD Cert.GlaProjIdeal.τ).loc Cert.GlaProjIdeal.main_arg0)) (m ((c.tc : Thread Cert.GlaProjIdeal.nD Cert.GlaProjIdeal.τ).loc Cert.GlaProjIdeal.main_arg1)) (m ((c.tc : Thread Cert.GlaProjIdeal.nD Cert.GlaProjIdeal.τ).loc Cert.GlaProjIdeal.main_arg2)) (m ((c.tc : Thread Cert.GlaProjIdeal.nD Cert.GlaProjIdeal.τ).loc Cert.GlaProjIdeal.main_arg3)) (m ((c.tc : Thread Cert.GlaProjIdeal.nD Cert.GlaProjIdeal.τ).loc Cert.GlaProjIdeal.main_arg4))).2.2 = (fun _ => 1#1)

def Pre_GlaProjRefIdeal (m : (ℓ : Loc Cert.GlaProjRefIdeal.nD Cert.GlaProjRefIdeal.τ Cert.GlaProjRefIdeal.sig) → Buf (Elt Ideal) ℓ) : Prop :=
  True

def Pre_GlaProjRefIdeal_gla_proj_finite [hPre_gla_proj_finite : Cert.Pre_gla_proj_finite.Facts] (m : (ℓ : Loc Cert.GlaProjRefIdeal.nD Cert.GlaProjRefIdeal.τ Cert.GlaProjRefIdeal.sig) → Buf (Elt Ideal) ℓ) : Prop :=
  ∀ c : Dev Cert.GlaProjRefIdeal.nD,
    (Cert.Pre_gla_proj_finite.fn (F := Ideal) (m ((c.tc : Thread Cert.GlaProjRefIdeal.nD Cert.GlaProjRefIdeal.τ).loc Cert.GlaProjRefIdeal.main_arg0)) (m ((c.tc : Thread Cert.GlaProjRefIdeal.nD Cert.GlaProjRefIdeal.τ).loc Cert.GlaProjRefIdeal.main_arg1)) (m ((c.tc : Thread Cert.GlaProjRefIdeal.nD Cert.GlaProjRefIdeal.τ).loc Cert.GlaProjRefIdeal.main_arg2)) (m ((c.tc : Thread Cert.GlaProjRefIdeal.nD Cert.GlaProjRefIdeal.τ).loc Cert.GlaProjRefIdeal.main_arg3)) (m ((c.tc : Thread Cert.GlaProjRefIdeal.nD Cert.GlaProjRefIdeal.τ).loc Cert.GlaProjRefIdeal.main_arg4))).1 = (fun _ => 1#1)
    ∧ (Cert.Pre_gla_proj_finite.fn (F := Ideal) (m ((c.tc : Thread Cert.GlaProjRefIdeal.nD Cert.GlaProjRefIdeal.τ).loc Cert.GlaProjRefIdeal.main_arg0)) (m ((c.tc : Thread Cert.GlaProjRefIdeal.nD Cert.GlaProjRefIdeal.τ).loc Cert.GlaProjRefIdeal.main_arg1)) (m ((c.tc : Thread Cert.GlaProjRefIdeal.nD Cert.GlaProjRefIdeal.τ).loc Cert.GlaProjRefIdeal.main_arg2)) (m ((c.tc : Thread Cert.GlaProjRefIdeal.nD Cert.GlaProjRefIdeal.τ).loc Cert.GlaProjRefIdeal.main_arg3)) (m ((c.tc : Thread Cert.GlaProjRefIdeal.nD Cert.GlaProjRefIdeal.τ).loc Cert.GlaProjRefIdeal.main_arg4))).2.1 = (fun _ => 1#1)
    ∧ (Cert.Pre_gla_proj_finite.fn (F := Ideal) (m ((c.tc : Thread Cert.GlaProjRefIdeal.nD Cert.GlaProjRefIdeal.τ).loc Cert.GlaProjRefIdeal.main_arg0)) (m ((c.tc : Thread Cert.GlaProjRefIdeal.nD Cert.GlaProjRefIdeal.τ).loc Cert.GlaProjRefIdeal.main_arg1)) (m ((c.tc : Thread Cert.GlaProjRefIdeal.nD Cert.GlaProjRefIdeal.τ).loc Cert.GlaProjRefIdeal.main_arg2)) (m ((c.tc : Thread Cert.GlaProjRefIdeal.nD Cert.GlaProjRefIdeal.τ).loc Cert.GlaProjRefIdeal.main_arg3)) (m ((c.tc : Thread Cert.GlaProjRefIdeal.nD Cert.GlaProjRefIdeal.τ).loc Cert.GlaProjRefIdeal.main_arg4))).2.2 = (fun _ => 1#1)

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjRefIdeal (m : (ℓ : Loc Cert.GdnProjRefIdeal.nD Cert.GdnProjRefIdeal.τ Cert.GdnProjRefIdeal.sig) → Buf (Elt Ideal) ℓ) : Prop :=
  True

def Pre_GdnMix (m : (ℓ : Loc Cert.GdnMix.nD Cert.GdnMix.τ Cert.GdnMix.sig) → Buf (Elt Bits) ℓ) : Prop :=
  True

def Pre_GdnMixIdeal (m : (ℓ : Loc Cert.GdnMixIdeal.nD Cert.GdnMixIdeal.τ Cert.GdnMixIdeal.sig) → Buf (Elt Ideal) ℓ) : Prop :=
  True

def Pre_GdnRefIdeal (m : (ℓ : Loc Cert.GdnRefIdeal.nD Cert.GdnRefIdeal.τ Cert.GdnRefIdeal.sig) → Buf (Elt Ideal) ℓ) : Prop :=
  True

def quiescent_GlaMix [hGlaMix : Cert.GlaMix.Facts] : Prop :=
  ∀ (m : (ℓ : Loc Cert.GlaMix.nD Cert.GlaMix.τ Cert.GlaMix.sig) → Buf (Elt Bits) ℓ) (g : Dev Cert.GlaMix.nD → PrngReg), Pre_GlaMix m →
    θ_run (Cert.GlaMix.defs (F := Bits)) (onTc (τ := Cert.GlaMix.τ) (Cert.GlaMix.main (F := Bits))) ⟨m, fun _ => 0, g⟩ (fun r => (∀ c : Dev Cert.GlaMix.nD,
      r.2.mem ((c.tc : Thread Cert.GlaMix.nD Cert.GlaMix.τ).loc Cert.GlaMix.main_arg0) = m ((c.tc : Thread Cert.GlaMix.nD Cert.GlaMix.τ).loc Cert.GlaMix.main_arg0)
      ∧ r.2.mem ((c.tc : Thread Cert.GlaMix.nD Cert.GlaMix.τ).loc Cert.GlaMix.main_arg1) = m ((c.tc : Thread Cert.GlaMix.nD Cert.GlaMix.τ).loc Cert.GlaMix.main_arg1)
      ∧ r.2.mem ((c.tc : Thread Cert.GlaMix.nD Cert.GlaMix.τ).loc Cert.GlaMix.main_arg2) = m ((c.tc : Thread Cert.GlaMix.nD Cert.GlaMix.τ).loc Cert.GlaMix.main_arg2)
      ∧ r.2.mem ((c.tc : Thread Cert.GlaMix.nD Cert.GlaMix.τ).loc Cert.GlaMix.main_arg3) = m ((c.tc : Thread Cert.GlaMix.nD Cert.GlaMix.τ).loc Cert.GlaMix.main_arg3)
      ∧ r.2.mem ((c.tc : Thread Cert.GlaMix.nD Cert.GlaMix.τ).loc Cert.GlaMix.main_arg4) = m ((c.tc : Thread Cert.GlaMix.nD Cert.GlaMix.τ).loc Cert.GlaMix.main_arg4))
      ∧ r.2.sem = fun _ => 0)

def quiescent_GlaMixIdeal [hGlaMixIdeal : Cert.GlaMixIdeal.Facts] : Prop :=
  ∀ (m : (ℓ : Loc Cert.GlaMixIdeal.nD Cert.GlaMixIdeal.τ Cert.GlaMixIdeal.sig) → Buf (Elt Ideal) ℓ) (g : Dev Cert.GlaMixIdeal.nD → PrngReg), Pre_GlaMixIdeal m →
    θ_run (Cert.GlaMixIdeal.defs (F := Ideal)) (onTc (τ := Cert.GlaMixIdeal.τ) (Cert.GlaMixIdeal.main (F := Ideal))) ⟨m, fun _ => 0, g⟩ (fun r => (∀ c : Dev Cert.GlaMixIdeal.nD,
      r.2.mem ((c.tc : Thread Cert.GlaMixIdeal.nD Cert.GlaMixIdeal.τ).loc Cert.GlaMixIdeal.main_arg0) = m ((c.tc : Thread Cert.GlaMixIdeal.nD Cert.GlaMixIdeal.τ).loc Cert.GlaMixIdeal.main_arg0)
      ∧ r.2.mem ((c.tc : Thread Cert.GlaMixIdeal.nD Cert.GlaMixIdeal.τ).loc Cert.GlaMixIdeal.main_arg1) = m ((c.tc : Thread Cert.GlaMixIdeal.nD Cert.GlaMixIdeal.τ).loc Cert.GlaMixIdeal.main_arg1)
      ∧ r.2.mem ((c.tc : Thread Cert.GlaMixIdeal.nD Cert.GlaMixIdeal.τ).loc Cert.GlaMixIdeal.main_arg2) = m ((c.tc : Thread Cert.GlaMixIdeal.nD Cert.GlaMixIdeal.τ).loc Cert.GlaMixIdeal.main_arg2)
      ∧ r.2.mem ((c.tc : Thread Cert.GlaMixIdeal.nD Cert.GlaMixIdeal.τ).loc Cert.GlaMixIdeal.main_arg3) = m ((c.tc : Thread Cert.GlaMixIdeal.nD Cert.GlaMixIdeal.τ).loc Cert.GlaMixIdeal.main_arg3)
      ∧ r.2.mem ((c.tc : Thread Cert.GlaMixIdeal.nD Cert.GlaMixIdeal.τ).loc Cert.GlaMixIdeal.main_arg4) = m ((c.tc : Thread Cert.GlaMixIdeal.nD Cert.GlaMixIdeal.τ).loc Cert.GlaMixIdeal.main_arg4))
      ∧ r.2.sem = fun _ => 0)

def quiescent_GlaMixIdeal_pre_gates_below_inf [hGlaMixIdeal : Cert.GlaMixIdeal.Facts] [hPre_gates_below_inf : Cert.Pre_gates_below_inf.Facts] : Prop :=
  ∀ (m : (ℓ : Loc Cert.GlaMixIdeal.nD Cert.GlaMixIdeal.τ Cert.GlaMixIdeal.sig) → Buf (Elt Ideal) ℓ) (g : Dev Cert.GlaMixIdeal.nD → PrngReg), Pre_GlaMixIdeal_gates_below_inf m →
    θ_run (Cert.GlaMixIdeal.defs (F := Ideal)) (onTc (τ := Cert.GlaMixIdeal.τ) (Cert.GlaMixIdeal.main (F := Ideal))) ⟨m, fun _ => 0, g⟩ (fun r => (∀ c : Dev Cert.GlaMixIdeal.nD,
      r.2.mem ((c.tc : Thread Cert.GlaMixIdeal.nD Cert.GlaMixIdeal.τ).loc Cert.GlaMixIdeal.main_arg0) = m ((c.tc : Thread Cert.GlaMixIdeal.nD Cert.GlaMixIdeal.τ).loc Cert.GlaMixIdeal.main_arg0)
      ∧ r.2.mem ((c.tc : Thread Cert.GlaMixIdeal.nD Cert.GlaMixIdeal.τ).loc Cert.GlaMixIdeal.main_arg1) = m ((c.tc : Thread Cert.GlaMixIdeal.nD Cert.GlaMixIdeal.τ).loc Cert.GlaMixIdeal.main_arg1)
      ∧ r.2.mem ((c.tc : Thread Cert.GlaMixIdeal.nD Cert.GlaMixIdeal.τ).loc Cert.GlaMixIdeal.main_arg2) = m ((c.tc : Thread Cert.GlaMixIdeal.nD Cert.GlaMixIdeal.τ).loc Cert.GlaMixIdeal.main_arg2)
      ∧ r.2.mem ((c.tc : Thread Cert.GlaMixIdeal.nD Cert.GlaMixIdeal.τ).loc Cert.GlaMixIdeal.main_arg3) = m ((c.tc : Thread Cert.GlaMixIdeal.nD Cert.GlaMixIdeal.τ).loc Cert.GlaMixIdeal.main_arg3)
      ∧ r.2.mem ((c.tc : Thread Cert.GlaMixIdeal.nD Cert.GlaMixIdeal.τ).loc Cert.GlaMixIdeal.main_arg4) = m ((c.tc : Thread Cert.GlaMixIdeal.nD Cert.GlaMixIdeal.τ).loc Cert.GlaMixIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_gates_below_inf [hGlaRefIdeal : Cert.GlaRefIdeal.Facts] [hPre_gates_below_inf : Cert.Pre_gates_below_inf.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gates_below_inf m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2)
      ∧ r.2.mem ((c.tc : Thread Cert.GlaProj.nD Cert.GlaProj.τ).loc Cert.GlaProj.main_arg3) = m ((c.tc : Thread Cert.GlaProj.nD Cert.GlaProj.τ).loc Cert.GlaProj.main_arg3)
      ∧ r.2.mem ((c.tc : Thread Cert.GlaProj.nD Cert.GlaProj.τ).loc Cert.GlaProj.main_arg4) = m ((c.tc : Thread Cert.GlaProj.nD Cert.GlaProj.τ).loc Cert.GlaProj.main_arg4))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
      ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
      ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ r.2.sem = fun _ => 0)

def quiescent_GlaProjIdeal_pre_gla_proj_finite [hGlaProjIdeal : Cert.GlaProjIdeal.Facts] [hPre_gla_proj_finite : Cert.Pre_gla_proj_finite.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal_gla_proj_finite m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
      ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
      ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2)
      ∧ r.2.mem ((c.tc : Thread Cert.GlaProjRefIdeal.nD Cert.GlaProjRefIdeal.τ).loc Cert.GlaProjRefIdeal.main_arg3) = m ((c.tc : Thread Cert.GlaProjRefIdeal.nD Cert.GlaProjRefIdeal.τ).loc Cert.GlaProjRefIdeal.main_arg3)
      ∧ r.2.mem ((c.tc : Thread Cert.GlaProjRefIdeal.nD Cert.GlaProjRefIdeal.τ).loc Cert.GlaProjRefIdeal.main_arg4) = m ((c.tc : Thread Cert.GlaProjRefIdeal.nD Cert.GlaProjRefIdeal.τ).loc Cert.GlaProjRefIdeal.main_arg4))
      ∧ r.2.sem = fun _ => 0)

def quiescent_GlaProjRefIdeal_pre_gla_proj_finite [hGlaProjRefIdeal : Cert.GlaProjRefIdeal.Facts] [hPre_gla_proj_finite : Cert.Pre_gla_proj_finite.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal_gla_proj_finite m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2)
      ∧ r.2.mem ((c.tc : Thread Cert.GlaProjRefIdeal.nD Cert.GlaProjRefIdeal.τ).loc Cert.GlaProjRefIdeal.main_arg3) = m ((c.tc : Thread Cert.GlaProjRefIdeal.nD Cert.GlaProjRefIdeal.τ).loc Cert.GlaProjRefIdeal.main_arg3)
      ∧ r.2.mem ((c.tc : Thread Cert.GlaProjRefIdeal.nD Cert.GlaProjRefIdeal.τ).loc Cert.GlaProjRefIdeal.main_arg4) = m ((c.tc : Thread Cert.GlaProjRefIdeal.nD Cert.GlaProjRefIdeal.τ).loc Cert.GlaProjRefIdeal.main_arg4))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ r.2.sem = fun _ => 0)

def quiescent_GdnProjRefIdeal [hGdnProjRefIdeal : Cert.GdnProjRefIdeal.Facts] : Prop :=
  ∀ (m : (ℓ : Loc Cert.GdnProjRefIdeal.nD Cert.GdnProjRefIdeal.τ Cert.GdnProjRefIdeal.sig) → Buf (Elt Ideal) ℓ) (g : Dev Cert.GdnProjRefIdeal.nD → PrngReg), Pre_GdnProjRefIdeal m →
    θ_run (Cert.GdnProjRefIdeal.defs (F := Ideal)) (onTc (τ := Cert.GdnProjRefIdeal.τ) (Cert.GdnProjRefIdeal.main (F := Ideal))) ⟨m, fun _ => 0, g⟩ (fun r => (∀ c : Dev Cert.GdnProjRefIdeal.nD,
      r.2.mem ((c.tc : Thread Cert.GdnProjRefIdeal.nD Cert.GdnProjRefIdeal.τ).loc Cert.GdnProjRefIdeal.main_arg0) = m ((c.tc : Thread Cert.GdnProjRefIdeal.nD Cert.GdnProjRefIdeal.τ).loc Cert.GdnProjRefIdeal.main_arg0)
      ∧ r.2.mem ((c.tc : Thread Cert.GdnProjRefIdeal.nD Cert.GdnProjRefIdeal.τ).loc Cert.GdnProjRefIdeal.main_arg1) = m ((c.tc : Thread Cert.GdnProjRefIdeal.nD Cert.GdnProjRefIdeal.τ).loc Cert.GdnProjRefIdeal.main_arg1)
      ∧ r.2.mem ((c.tc : Thread Cert.GdnProjRefIdeal.nD Cert.GdnProjRefIdeal.τ).loc Cert.GdnProjRefIdeal.main_arg2) = m ((c.tc : Thread Cert.GdnProjRefIdeal.nD Cert.GdnProjRefIdeal.τ).loc Cert.GdnProjRefIdeal.main_arg2))
      ∧ r.2.sem = fun _ => 0)

def quiescent_GdnMix [hGdnMix : Cert.GdnMix.Facts] : Prop :=
  ∀ (m : (ℓ : Loc Cert.GdnMix.nD Cert.GdnMix.τ Cert.GdnMix.sig) → Buf (Elt Bits) ℓ) (g : Dev Cert.GdnMix.nD → PrngReg), Pre_GdnMix m →
    θ_run (Cert.GdnMix.defs (F := Bits)) (onTc (τ := Cert.GdnMix.τ) (Cert.GdnMix.main (F := Bits))) ⟨m, fun _ => 0, g⟩ (fun r => (∀ c : Dev Cert.GdnMix.nD,
      r.2.mem ((c.tc : Thread Cert.GdnMix.nD Cert.GdnMix.τ).loc Cert.GdnMix.main_arg0) = m ((c.tc : Thread Cert.GdnMix.nD Cert.GdnMix.τ).loc Cert.GdnMix.main_arg0)
      ∧ r.2.mem ((c.tc : Thread Cert.GdnMix.nD Cert.GdnMix.τ).loc Cert.GdnMix.main_arg1) = m ((c.tc : Thread Cert.GdnMix.nD Cert.GdnMix.τ).loc Cert.GdnMix.main_arg1)
      ∧ r.2.mem ((c.tc : Thread Cert.GdnMix.nD Cert.GdnMix.τ).loc Cert.GdnMix.main_arg2) = m ((c.tc : Thread Cert.GdnMix.nD Cert.GdnMix.τ).loc Cert.GdnMix.main_arg2)
      ∧ r.2.mem ((c.tc : Thread Cert.GdnMix.nD Cert.GdnMix.τ).loc Cert.GdnMix.main_arg3) = m ((c.tc : Thread Cert.GdnMix.nD Cert.GdnMix.τ).loc Cert.GdnMix.main_arg3)
      ∧ r.2.mem ((c.tc : Thread Cert.GdnMix.nD Cert.GdnMix.τ).loc Cert.GdnMix.main_arg4) = m ((c.tc : Thread Cert.GdnMix.nD Cert.GdnMix.τ).loc Cert.GdnMix.main_arg4)
      ∧ r.2.mem ((c.tc : Thread Cert.GdnMix.nD Cert.GdnMix.τ).loc Cert.GdnMix.main_arg5) = m ((c.tc : Thread Cert.GdnMix.nD Cert.GdnMix.τ).loc Cert.GdnMix.main_arg5)
      ∧ r.2.mem ((c.tc : Thread Cert.GdnMix.nD Cert.GdnMix.τ).loc Cert.GdnMix.main_arg6) = m ((c.tc : Thread Cert.GdnMix.nD Cert.GdnMix.τ).loc Cert.GdnMix.main_arg6)
      ∧ r.2.mem ((c.tc : Thread Cert.GdnMix.nD Cert.GdnMix.τ).loc Cert.GdnMix.main_arg7) = m ((c.tc : Thread Cert.GdnMix.nD Cert.GdnMix.τ).loc Cert.GdnMix.main_arg7))
      ∧ r.2.sem = fun _ => 0)

def quiescent_GdnMixIdeal [hGdnMixIdeal : Cert.GdnMixIdeal.Facts] : Prop :=
  ∀ (m : (ℓ : Loc Cert.GdnMixIdeal.nD Cert.GdnMixIdeal.τ Cert.GdnMixIdeal.sig) → Buf (Elt Ideal) ℓ) (g : Dev Cert.GdnMixIdeal.nD → PrngReg), Pre_GdnMixIdeal m →
    θ_run (Cert.GdnMixIdeal.defs (F := Ideal)) (onTc (τ := Cert.GdnMixIdeal.τ) (Cert.GdnMixIdeal.main (F := Ideal))) ⟨m, fun _ => 0, g⟩ (fun r => (∀ c : Dev Cert.GdnMixIdeal.nD,
      r.2.mem ((c.tc : Thread Cert.GdnMixIdeal.nD Cert.GdnMixIdeal.τ).loc Cert.GdnMixIdeal.main_arg0) = m ((c.tc : Thread Cert.GdnMixIdeal.nD Cert.GdnMixIdeal.τ).loc Cert.GdnMixIdeal.main_arg0)
      ∧ r.2.mem ((c.tc : Thread Cert.GdnMixIdeal.nD Cert.GdnMixIdeal.τ).loc Cert.GdnMixIdeal.main_arg1) = m ((c.tc : Thread Cert.GdnMixIdeal.nD Cert.GdnMixIdeal.τ).loc Cert.GdnMixIdeal.main_arg1)
      ∧ r.2.mem ((c.tc : Thread Cert.GdnMixIdeal.nD Cert.GdnMixIdeal.τ).loc Cert.GdnMixIdeal.main_arg2) = m ((c.tc : Thread Cert.GdnMixIdeal.nD Cert.GdnMixIdeal.τ).loc Cert.GdnMixIdeal.main_arg2)
      ∧ r.2.mem ((c.tc : Thread Cert.GdnMixIdeal.nD Cert.GdnMixIdeal.τ).loc Cert.GdnMixIdeal.main_arg3) = m ((c.tc : Thread Cert.GdnMixIdeal.nD Cert.GdnMixIdeal.τ).loc Cert.GdnMixIdeal.main_arg3)
      ∧ r.2.mem ((c.tc : Thread Cert.GdnMixIdeal.nD Cert.GdnMixIdeal.τ).loc Cert.GdnMixIdeal.main_arg4) = m ((c.tc : Thread Cert.GdnMixIdeal.nD Cert.GdnMixIdeal.τ).loc Cert.GdnMixIdeal.main_arg4)
      ∧ r.2.mem ((c.tc : Thread Cert.GdnMixIdeal.nD Cert.GdnMixIdeal.τ).loc Cert.GdnMixIdeal.main_arg5) = m ((c.tc : Thread Cert.GdnMixIdeal.nD Cert.GdnMixIdeal.τ).loc Cert.GdnMixIdeal.main_arg5)
      ∧ r.2.mem ((c.tc : Thread Cert.GdnMixIdeal.nD Cert.GdnMixIdeal.τ).loc Cert.GdnMixIdeal.main_arg6) = m ((c.tc : Thread Cert.GdnMixIdeal.nD Cert.GdnMixIdeal.τ).loc Cert.GdnMixIdeal.main_arg6)
      ∧ r.2.mem ((c.tc : Thread Cert.GdnMixIdeal.nD Cert.GdnMixIdeal.τ).loc Cert.GdnMixIdeal.main_arg7) = m ((c.tc : Thread Cert.GdnMixIdeal.nD Cert.GdnMixIdeal.τ).loc Cert.GdnMixIdeal.main_arg7))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5)
      ∧ r.2.mem ((c.tc : Thread Cert.GdnRefIdeal.nD Cert.GdnRefIdeal.τ).loc Cert.GdnRefIdeal.main_arg6) = m ((c.tc : Thread Cert.GdnRefIdeal.nD Cert.GdnRefIdeal.τ).loc Cert.GdnRefIdeal.main_arg6)
      ∧ r.2.mem ((c.tc : Thread Cert.GdnRefIdeal.nD Cert.GdnRefIdeal.τ).loc Cert.GdnRefIdeal.main_arg7) = m ((c.tc : Thread Cert.GdnRefIdeal.nD Cert.GdnRefIdeal.τ).loc Cert.GdnRefIdeal.main_arg7))
      ∧ r.2.sem = fun _ => 0)

def preserves_GlaMix_GlaMixIdeal : Prop :=
  True

def algebraic_GlaMixIdeal_GlaRefIdeal_pre_gates_below_inf [hGlaMixIdeal : Cert.GlaMixIdeal.Facts] [hGlaRefIdeal : Cert.GlaRefIdeal.Facts] [hPre_gates_below_inf : Cert.Pre_gates_below_inf.Facts] : Prop :=
  ∀ (m : (ℓ : Loc Cert.GlaMixIdeal.nD Cert.GlaMixIdeal.τ Cert.GlaMixIdeal.sig) → Buf (Elt Ideal) ℓ) (g : Dev Cert.GlaMixIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaMixIdeal_gates_below_inf m →
    (∀ c : Dev Cert.GlaMixIdeal.nD,
      m' ((c.tc : Thread Cert.GlaRefIdeal.nD Cert.GlaRefIdeal.τ).loc Cert.GlaRefIdeal.main_arg0) = m ((c.tc : Thread Cert.GlaMixIdeal.nD Cert.GlaMixIdeal.τ).loc Cert.GlaMixIdeal.main_arg0)
      ∧ m' ((c.tc : Thread Cert.GlaRefIdeal.nD Cert.GlaRefIdeal.τ).loc Cert.GlaRefIdeal.main_arg1) = m ((c.tc : Thread Cert.GlaMixIdeal.nD Cert.GlaMixIdeal.τ).loc Cert.GlaMixIdeal.main_arg1)
      ∧ m' ((c.tc : Thread Cert.GlaRefIdeal.nD Cert.GlaRefIdeal.τ).loc Cert.GlaRefIdeal.main_arg2) = m ((c.tc : Thread Cert.GlaMixIdeal.nD Cert.GlaMixIdeal.τ).loc Cert.GlaMixIdeal.main_arg2)
      ∧ m' ((c.tc : Thread Cert.GlaRefIdeal.nD Cert.GlaRefIdeal.τ).loc Cert.GlaRefIdeal.main_arg3) = m ((c.tc : Thread Cert.GlaMixIdeal.nD Cert.GlaMixIdeal.τ).loc Cert.GlaMixIdeal.main_arg3)
      ∧ m' ((c.tc : Thread Cert.GlaRefIdeal.nD Cert.GlaRefIdeal.τ).loc Cert.GlaRefIdeal.main_arg4) = m ((c.tc : Thread Cert.GlaMixIdeal.nD Cert.GlaMixIdeal.τ).loc Cert.GlaMixIdeal.main_arg4)) →
    ∃ (v0 : (c : Dev Cert.GlaMixIdeal.nD) → Buf (Elt Ideal) ((c.tc : Thread Cert.GlaMixIdeal.nD Cert.GlaMixIdeal.τ).loc Cert.GlaMixIdeal.main_v2)),
      θ_run (Cert.GlaMixIdeal.defs (F := Ideal)) (onTc (τ := Cert.GlaMixIdeal.τ) (Cert.GlaMixIdeal.main (F := Ideal))) ⟨m, fun _ => 0, g⟩ (fun r => ∀ c : Dev Cert.GlaMixIdeal.nD,
          r.2.mem ((c.tc : Thread Cert.GlaMixIdeal.nD Cert.GlaMixIdeal.τ).loc Cert.GlaMixIdeal.main_v2) = v0 c
          ∧ r.2.mem ((c.tc : Thread Cert.GlaMixIdeal.nD Cert.GlaMixIdeal.τ).loc Cert.GlaMixIdeal.main_arg0) = m ((c.tc : Thread Cert.GlaMixIdeal.nD Cert.GlaMixIdeal.τ).loc Cert.GlaMixIdeal.main_arg0)
          ∧ r.2.mem ((c.tc : Thread Cert.GlaMixIdeal.nD Cert.GlaMixIdeal.τ).loc Cert.GlaMixIdeal.main_arg1) = m ((c.tc : Thread Cert.GlaMixIdeal.nD Cert.GlaMixIdeal.τ).loc Cert.GlaMixIdeal.main_arg1)
          ∧ r.2.mem ((c.tc : Thread Cert.GlaMixIdeal.nD Cert.GlaMixIdeal.τ).loc Cert.GlaMixIdeal.main_arg2) = m ((c.tc : Thread Cert.GlaMixIdeal.nD Cert.GlaMixIdeal.τ).loc Cert.GlaMixIdeal.main_arg2)
          ∧ r.2.mem ((c.tc : Thread Cert.GlaMixIdeal.nD Cert.GlaMixIdeal.τ).loc Cert.GlaMixIdeal.main_arg3) = m ((c.tc : Thread Cert.GlaMixIdeal.nD Cert.GlaMixIdeal.τ).loc Cert.GlaMixIdeal.main_arg3)
          ∧ r.2.mem ((c.tc : Thread Cert.GlaMixIdeal.nD Cert.GlaMixIdeal.τ).loc Cert.GlaMixIdeal.main_arg4) = m ((c.tc : Thread Cert.GlaMixIdeal.nD Cert.GlaMixIdeal.τ).loc Cert.GlaMixIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v60) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GlaProj_GlaProjIdeal : Prop :=
  True

def algebraic_GlaProjIdeal_GlaProjRefIdeal_pre_gla_proj_finite [hGlaProjIdeal : Cert.GlaProjIdeal.Facts] [hGlaProjRefIdeal : Cert.GlaProjRefIdeal.Facts] [hPre_gla_proj_finite : Cert.Pre_gla_proj_finite.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal_gla_proj_finite m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)
      ∧ m' ((c.tc : Thread Cert.GlaProjRefIdeal.nD Cert.GlaProjRefIdeal.τ).loc Cert.GlaProjRefIdeal.main_arg2) = m ((c.tc : Thread Cert.GlaProjIdeal.nD Cert.GlaProjIdeal.τ).loc Cert.GlaProjIdeal.main_arg2)
      ∧ m' ((c.tc : Thread Cert.GlaProjRefIdeal.nD Cert.GlaProjRefIdeal.τ).loc Cert.GlaProjRefIdeal.main_arg3) = m ((c.tc : Thread Cert.GlaProjIdeal.nD Cert.GlaProjIdeal.τ).loc Cert.GlaProjIdeal.main_arg3)
      ∧ m' ((c.tc : Thread Cert.GlaProjRefIdeal.nD Cert.GlaProjRefIdeal.τ).loc Cert.GlaProjRefIdeal.main_arg4) = m ((c.tc : Thread Cert.GlaProjIdeal.nD Cert.GlaProjIdeal.τ).loc Cert.GlaProjIdeal.main_arg4)) →
    ∃ (v0 : (c : Dev Cert.GlaProjIdeal.nD) → Buf (Elt Ideal) ((c.tc : Thread Cert.GlaProjIdeal.nD Cert.GlaProjIdeal.τ).loc Cert.GlaProjIdeal.main_v9_0)) (v1 : (c : Dev Cert.GlaProjIdeal.nD) → Buf (Elt Ideal) ((c.tc : Thread Cert.GlaProjIdeal.nD Cert.GlaProjIdeal.τ).loc Cert.GlaProjIdeal.main_v9_1)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v9_0) = v0 c
          ∧ r.2.mem ((c.tc : Thread Cert.GlaProjIdeal.nD Cert.GlaProjIdeal.τ).loc Cert.GlaProjIdeal.main_v9_1) = v1 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
          ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
          ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v16) = v0 c
          ∧ r.2.mem ((c.tc : Thread Cert.GlaProjRefIdeal.nD Cert.GlaProjRefIdeal.τ).loc Cert.GlaProjRefIdeal.main_v23) = v1 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1)
          ∧ r.2.mem ((c.tc : Thread Cert.GlaProjRefIdeal.nD Cert.GlaProjRefIdeal.τ).loc Cert.GlaProjRefIdeal.main_arg2) = m' ((c.tc : Thread Cert.GlaProjRefIdeal.nD Cert.GlaProjRefIdeal.τ).loc Cert.GlaProjRefIdeal.main_arg2)
          ∧ r.2.mem ((c.tc : Thread Cert.GlaProjRefIdeal.nD Cert.GlaProjRefIdeal.τ).loc Cert.GlaProjRefIdeal.main_arg3) = m' ((c.tc : Thread Cert.GlaProjRefIdeal.nD Cert.GlaProjRefIdeal.τ).loc Cert.GlaProjRefIdeal.main_arg3)
          ∧ r.2.mem ((c.tc : Thread Cert.GlaProjRefIdeal.nD Cert.GlaProjRefIdeal.τ).loc Cert.GlaProjRefIdeal.main_arg4) = m' ((c.tc : Thread Cert.GlaProjRefIdeal.nD Cert.GlaProjRefIdeal.τ).loc Cert.GlaProjRefIdeal.main_arg4))

def preserves_GdnProj_GdnProjIdeal : Prop :=
  True

def algebraic_GdnProjIdeal_GdnProjRefIdeal [hGdnProjIdeal : Cert.GdnProjIdeal.Facts] [hGdnProjRefIdeal : Cert.GdnProjRefIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjRefIdeal.nD Cert.GdnProjRefIdeal.τ Cert.GdnProjRefIdeal.sig) → Buf (Elt Ideal) ℓ) (g' : Dev Cert.GdnProjRefIdeal.nD → PrngReg), Pre_GdnProjIdeal m →
    (∀ c : Dev Cert.GdnProjIdeal.nD,
      m' ((c.tc : Thread Cert.GdnProjRefIdeal.nD Cert.GdnProjRefIdeal.τ).loc Cert.GdnProjRefIdeal.main_arg0) = m ((c.tc : Thread Cert.GdnProjIdeal.nD Cert.GdnProjIdeal.τ).loc Cert.GdnProjIdeal.main_arg0)
      ∧ m' ((c.tc : Thread Cert.GdnProjRefIdeal.nD Cert.GdnProjRefIdeal.τ).loc Cert.GdnProjRefIdeal.main_arg1) = m ((c.tc : Thread Cert.GdnProjIdeal.nD Cert.GdnProjIdeal.τ).loc Cert.GdnProjIdeal.main_arg1)
      ∧ m' ((c.tc : Thread Cert.GdnProjRefIdeal.nD Cert.GdnProjRefIdeal.τ).loc Cert.GdnProjRefIdeal.main_arg2) = m ((c.tc : Thread Cert.GdnProjIdeal.nD Cert.GdnProjIdeal.τ).loc Cert.GdnProjIdeal.main_arg2)) →
    ∃ (v0 : (c : Dev Cert.GdnProjIdeal.nD) → Buf (Elt Ideal) ((c.tc : Thread Cert.GdnProjIdeal.nD Cert.GdnProjIdeal.τ).loc Cert.GdnProjIdeal.main_v9_0)) (v1 : (c : Dev Cert.GdnProjIdeal.nD) → Buf (Elt Ideal) ((c.tc : Thread Cert.GdnProjIdeal.nD Cert.GdnProjIdeal.τ).loc Cert.GdnProjIdeal.main_v9_1)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v9_0) = v0 c
          ∧ r.2.mem ((c.tc : Thread Cert.GdnProjIdeal.nD Cert.GdnProjIdeal.τ).loc Cert.GdnProjIdeal.main_v9_1) = v1 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2))
      ∧ θ_run (Cert.GdnProjRefIdeal.defs (F := Ideal)) (onTc (τ := Cert.GdnProjRefIdeal.τ) (Cert.GdnProjRefIdeal.main (F := Ideal))) ⟨m', fun _ => 0, g'⟩ (fun r => ∀ c : Dev Cert.GdnProjRefIdeal.nD,
          r.2.mem ((c.tc : Thread Cert.GdnProjRefIdeal.nD Cert.GdnProjRefIdeal.τ).loc Cert.GdnProjRefIdeal.main_v17) = v0 c
          ∧ r.2.mem ((c.tc : Thread Cert.GdnProjRefIdeal.nD Cert.GdnProjRefIdeal.τ).loc Cert.GdnProjRefIdeal.main_v20) = v1 c
          ∧ r.2.mem ((c.tc : Thread Cert.GdnProjRefIdeal.nD Cert.GdnProjRefIdeal.τ).loc Cert.GdnProjRefIdeal.main_arg0) = m' ((c.tc : Thread Cert.GdnProjRefIdeal.nD Cert.GdnProjRefIdeal.τ).loc Cert.GdnProjRefIdeal.main_arg0)
          ∧ r.2.mem ((c.tc : Thread Cert.GdnProjRefIdeal.nD Cert.GdnProjRefIdeal.τ).loc Cert.GdnProjRefIdeal.main_arg1) = m' ((c.tc : Thread Cert.GdnProjRefIdeal.nD Cert.GdnProjRefIdeal.τ).loc Cert.GdnProjRefIdeal.main_arg1)
          ∧ r.2.mem ((c.tc : Thread Cert.GdnProjRefIdeal.nD Cert.GdnProjRefIdeal.τ).loc Cert.GdnProjRefIdeal.main_arg2) = m' ((c.tc : Thread Cert.GdnProjRefIdeal.nD Cert.GdnProjRefIdeal.τ).loc Cert.GdnProjRefIdeal.main_arg2))

def preserves_GdnMix_GdnMixIdeal : Prop :=
  True

def Claim : Prop :=
  ∃ (hGlaMix : Cert.GlaMix.Facts) (hGlaMixIdeal : Cert.GlaMixIdeal.Facts) (hGlaRefIdeal : Cert.GlaRefIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hGlaProj : Cert.GlaProj.Facts) (hGlaProjIdeal : Cert.GlaProjIdeal.Facts) (hGlaProjRefIdeal : Cert.GlaProjRefIdeal.Facts) (hGdnProj : Cert.GdnProj.Facts) (hGdnProjIdeal : Cert.GdnProjIdeal.Facts) (hGdnProjRefIdeal : Cert.GdnProjRefIdeal.Facts) (hGdnMix : Cert.GdnMix.Facts) (hGdnMixIdeal : Cert.GdnMixIdeal.Facts) (hGdnRefIdeal : Cert.GdnRefIdeal.Facts) (hPre_gates_below_inf : Cert.Pre_gates_below_inf.Facts) (hPre_gla_proj_finite : Cert.Pre_gla_proj_finite.Facts),
    quiescent_GlaMix (hGlaMix := hGlaMix)
    ∧ quiescent_GlaMixIdeal (hGlaMixIdeal := hGlaMixIdeal)
    ∧ quiescent_GlaMixIdeal_pre_gates_below_inf (hGlaMixIdeal := hGlaMixIdeal) (hPre_gates_below_inf := hPre_gates_below_inf)
    ∧ quiescent_GlaRefIdeal (hGlaRefIdeal := hGlaRefIdeal)
    ∧ quiescent_GlaRefIdeal_pre_gates_below_inf (hGlaRefIdeal := hGlaRefIdeal) (hPre_gates_below_inf := hPre_gates_below_inf)
    ∧ quiescent_Ffn (hFfn := hFfn)
    ∧ quiescent_FfnIdeal (hFfnIdeal := hFfnIdeal)
    ∧ quiescent_FfnRefIdeal (hFfnRefIdeal := hFfnRefIdeal)
    ∧ quiescent_Norm (hNorm := hNorm)
    ∧ quiescent_NormIdeal (hNormIdeal := hNormIdeal)
    ∧ quiescent_NormRefIdeal (hNormRefIdeal := hNormRefIdeal)
    ∧ quiescent_GlaProj (hGlaProj := hGlaProj)
    ∧ quiescent_GlaProjIdeal (hGlaProjIdeal := hGlaProjIdeal)
    ∧ quiescent_GlaProjIdeal_pre_gla_proj_finite (hGlaProjIdeal := hGlaProjIdeal) (hPre_gla_proj_finite := hPre_gla_proj_finite)
    ∧ quiescent_GlaProjRefIdeal (hGlaProjRefIdeal := hGlaProjRefIdeal)
    ∧ quiescent_GlaProjRefIdeal_pre_gla_proj_finite (hGlaProjRefIdeal := hGlaProjRefIdeal) (hPre_gla_proj_finite := hPre_gla_proj_finite)
    ∧ quiescent_GdnProj (hGdnProj := hGdnProj)
    ∧ quiescent_GdnProjIdeal (hGdnProjIdeal := hGdnProjIdeal)
    ∧ quiescent_GdnProjRefIdeal (hGdnProjRefIdeal := hGdnProjRefIdeal)
    ∧ quiescent_GdnMix (hGdnMix := hGdnMix)
    ∧ quiescent_GdnMixIdeal (hGdnMixIdeal := hGdnMixIdeal)
    ∧ quiescent_GdnRefIdeal (hGdnRefIdeal := hGdnRefIdeal)
    ∧ preserves_GlaMix_GlaMixIdeal
    ∧ algebraic_GlaMixIdeal_GlaRefIdeal_pre_gates_below_inf (hGlaMixIdeal := hGlaMixIdeal) (hGlaRefIdeal := hGlaRefIdeal) (hPre_gates_below_inf := hPre_gates_below_inf)
    ∧ preserves_Ffn_FfnIdeal
    ∧ algebraic_FfnIdeal_FfnRefIdeal (hFfnIdeal := hFfnIdeal) (hFfnRefIdeal := hFfnRefIdeal)
    ∧ preserves_Norm_NormIdeal
    ∧ algebraic_NormIdeal_NormRefIdeal (hNormIdeal := hNormIdeal) (hNormRefIdeal := hNormRefIdeal)
    ∧ preserves_GlaProj_GlaProjIdeal
    ∧ algebraic_GlaProjIdeal_GlaProjRefIdeal_pre_gla_proj_finite (hGlaProjIdeal := hGlaProjIdeal) (hGlaProjRefIdeal := hGlaProjRefIdeal) (hPre_gla_proj_finite := hPre_gla_proj_finite)
    ∧ preserves_GdnProj_GdnProjIdeal
    ∧ algebraic_GdnProjIdeal_GdnProjRefIdeal (hGdnProjIdeal := hGdnProjIdeal) (hGdnProjRefIdeal := hGdnProjRefIdeal)
    ∧ preserves_GdnMix_GdnMixIdeal
-- ==== Pre_gates_below_inf.lean ====
abbrev S16x4096x3072 : Shape := ⟨3, ![16, 4096, 3072]⟩
abbrev S16x4096x512 : Shape := ⟨3, ![16, 4096, 512]⟩
abbrev S16x4096x1024 : Shape := ⟨3, ![16, 4096, 1024]⟩
abbrev S256 : Shape := ⟨1, ![256]⟩
abbrev S1024x1024 : Shape := ⟨2, ![1024, 1024]⟩
abbrev S_ : Shape := ⟨0, ![]⟩

class Facts : Prop where
  bcast_S_S16x4096x512 : S_.BroadcastsInDim S16x4096x512 (![] : Fin 0 → Fin S16x4096x512.rank)

variable [Facts]

def fn {F : FTy → Type} [FloatOps F] (main_arg0 : FVec F S16x4096x3072 .bf16) (main_arg1 : FVec F S16x4096x512 .f32) (main_arg2 : FVec F S16x4096x1024 .f32) (main_arg3 : FVec F S256 .f32) (main_arg4 : FVec F S1024x1024 .f32) : IVec S16x4096x512 1 :=
  let main_cst : FVec F S_ .f32 := constant S_ .f32 0x7F800000#32
  let main_v0 : FVec F S16x4096x512 .f32 := broadcastInDim S16x4096x512 ![] bcast_S_S16x4096x512 main_cst
  let main_v1 : IVec S16x4096x512 1 := cmpf .olt main_arg1 main_v0
  main_v1
-- ==== Pre_gla_proj_finite.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x16 : Shape := ⟨2, ![1024, 16]⟩
abbrev S_ : Shape := ⟨0, ![]⟩

class Facts : Prop where
  slices_S1024x3088_S1024x16_0_3072 : S1024x3088.Slices ![0, 3072] S1024x16
  bcast_S_S65536x1024 : S_.BroadcastsInDim S65536x1024 (![] : Fin 0 → Fin S65536x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S65536x1024 .f32) (main_arg1 : FVec F S1024 .f32) (main_arg2 : FVec F S1024x3088 .f32) (main_arg3 : FVec F S16x512 .f32) (main_arg4 : FVec F S512 .f32) : IVec S65536x1024 1 × IVec S1024 1 × IVec S1024x16 1 :=
  let main_v0 : FVec F S1024x16 .f32 := (extractStridedSlice S1024x16 ![0, 3072] · slices_S1024x3088_S1024x16_0_3072) main_arg2
  let main_v1 : FVec F S65536x1024 .f32 := Host.absf main_arg0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x16 .f32 := Host.absf main_v0
  let main_cst_1 : FVec F S_ .f32 := constant S_ .f32 0x7F800000#32
  let main_v8 : FVec F S1024x16 .f32 := broadcastInDim S1024x16 ![] bcast_S_S1024x16 main_cst_1
  let main_v9 : IVec S1024x16 1 := cmpf .olt main_v7 main_v8
  (main_v3, main_v6, main_v9)
-- ==== GlaMix.lean ====
abbrev S16x4096x3072 : Shape := ⟨3, ![16, 4096, 3072]⟩
abbrev S16x4096x512 : Shape := ⟨3, ![16, 4096, 512]⟩
abbrev S16x4096x1024 : Shape := ⟨3, ![16, 4096, 1024]⟩
abbrev S256 : Shape := ⟨1, ![256]⟩
abbrev S1024x1024 : Shape := ⟨2, ![1024, 1024]⟩
abbrev S1x256 : Shape := ⟨2, ![1, 256]⟩
abbrev S1x256x512 : Shape := ⟨3, ![1, 256, 512]⟩
abbrev S1x256x1024 : Shape := ⟨3, ![1, 256, 1024]⟩
abbrev S4x256x128 : Shape := ⟨3, ![4, 256, 128]⟩
abbrev S256x256 : Shape := ⟨2, ![256, 256]⟩
abbrev S256x128 : Shape := ⟨2, ![256, 128]⟩
abbrev S1x256x128 : Shape := ⟨3, ![1, 256, 128]⟩
abbrev S1x128 : Shape := ⟨2, ![1, 128]⟩
abbrev S64x128 : Shape := ⟨2, ![64, 128]⟩
abbrev S1x256x256 : Shape := ⟨3, ![1, 256, 256]⟩
abbrev S64x256 : Shape := ⟨2, ![64, 256]⟩
abbrev S256x1 : Shape := ⟨2, ![256, 1]⟩
abbrev S256x1024 : Shape := ⟨2, ![256, 1024]⟩

abbrev nBuf : Space → Nat
  | .hbm => 8
  | .vmem => 17
  | .smem => 0
  | _ => 0

abbrev bufTy : (tb : Table) → Fin (tcTables nBuf tb) → BufTy
  | .hbm, ⟨0, _⟩ => ⟨S16x4096x3072, .bf16⟩
  | .hbm, ⟨1, _⟩ => ⟨S16x4096x512, .f32⟩
  | .hbm, ⟨2, _⟩ => ⟨S16x4096x1024, .f32⟩
  | .hbm, ⟨3, _⟩ => ⟨S256, .f32⟩
  | .hbm, ⟨4, _⟩ => ⟨S1024x1024, .f32⟩
  | .hbm, ⟨5, _⟩ => ⟨S1x256, .f32⟩
  | .hbm, ⟨6, _⟩ => ⟨S1024x1024, .bf16⟩
  | .hbm, ⟨7, _⟩ => ⟨S16x4096x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x512, .f32⟩
  | .local _ .vmem, ⟨9, _⟩ => ⟨S1x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S4x256x128, .f32⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S16x4096x3072 : Shape := ⟨3, ![16, 4096, 3072]⟩
abbrev S16x4096x512 : Shape := ⟨3, ![16, 4096, 512]⟩
abbrev S16x4096x1024 : Shape := ⟨3, ![16, 4096, 1024]⟩
abbrev S256 : Shape := ⟨1, ![256]⟩
abbrev S1024x1024 : Shape := ⟨2, ![1024, 1024]⟩
abbrev S16x64x64x4x128 : Shape := ⟨5, ![16, 64, 64, 4, 128]⟩
abbrev S16x4x64x64x128 : Shape := ⟨5, ![16, 4, 64, 64, 128]⟩
abbrev S16x64x64x4x256 : Shape := ⟨5, ![16, 64, 64, 4, 256]⟩
abbrev S16x4x64x64x256 : Shape := ⟨5, ![16, 4, 64, 64, 256]⟩
abbrev S_ : Shape := ⟨0, ![]⟩
abbrev S16x4x64x1x128 : Shape := ⟨5, ![16, 4, 64, 1, 128]⟩
abbrev S64x64 : Shape := ⟨2, ![64, 64]⟩
abbrev S16x4x64x64x64 : Shape := ⟨5, ![16, 4, 64, 64, 64]⟩
abbrev S16x4x128x256 : Shape := ⟨4, ![16, 4, 128, 256]⟩
abbrev S16x4x64x128 : Shape := ⟨4, ![16, 4, 64, 128]⟩
abbrev S64x16x4x64x128 : Shape := ⟨5, ![64, 16, 4, 64, 128]⟩
abbrev S64x16x4x64x256 : Shape := ⟨5, ![64, 16, 4, 64, 256]⟩
abbrev S64x16x4x128 : Shape := ⟨4, ![64, 16, 4, 128]⟩
abbrev S1x16x4x64x128 : Shape := ⟨5, ![1, 16, 4, 64, 128]⟩
abbrev S1x16x4x64x256 : Shape := ⟨5, ![1, 16, 4, 64, 256]⟩
abbrev S16x4x64x256 : Shape := ⟨4, ![16, 4, 64, 256]⟩
abbrev S1x16x4x128 : Shape := ⟨4, ![1, 16, 4, 128]⟩
abbrev S16x4x128 : Shape := ⟨3, ![16, 4, 128]⟩
abbrev S16x4x128x1 : Shape := ⟨4, ![16, 4, 128, 1]⟩
abbrev S16x4x64x64 : Shape := ⟨4, ![16, 4, 64, 64]⟩
abbrev S16x4x64x64x1 : Shape := ⟨5, ![16, 4, 64, 64, 1]⟩
abbrev S1x1x1x1x256 : Shape := ⟨5, ![1, 1, 1, 1, 256]⟩

abbrev nBuf : Space → Nat
  | .hbm => 141
  | .vmem => 0
  | .smem => 0
  | _ => 0

abbrev hbmTy0_0 (i : Nat) : BufTy := match i % 128 with
  | 0 => ⟨S16x4096x3072, .bf16⟩
  | 1 => ⟨S16x4096x512, .f32⟩
  | 2 => ⟨S16x4096x1024, .f32⟩
  | 3 => ⟨S256, .f32⟩
  | 4 => ⟨S1024x1024, .f32⟩
  | 5 => ⟨S16x4096x3072, .f32⟩
  | 6 => ⟨S16x4096x512, .f32⟩
  | 7 => ⟨S16x4096x512, .f32⟩
  | 8 => ⟨S16x4096x1024, .f32⟩
  | 9 => ⟨S16x4096x1024, .f32⟩
  | 10 => ⟨S16x64x64x4x128, .f32⟩
  | 11 => ⟨S16x4x64x64x128, .f32⟩
  | 12 => ⟨S16x64x64x4x128, .f32⟩
  | 13 => ⟨S16x4x64x64x128, .f32⟩
  | 14 => ⟨S16x64x64x4x256, .f32⟩
  | 15 => ⟨S16x4x64x64x256, .f32⟩
  | 16 => ⟨S16x64x64x4x128, .f32⟩
  | 17 => ⟨S16x4x64x64x128, .f32⟩
  | 18 => ⟨S_, .f32⟩
  | 19 => ⟨S_, .f32⟩
  | 20 => ⟨S16x4x64x64x128, .f32⟩
  | 21 => ⟨S16x4x64x1x128, .f32⟩
  | 22 => ⟨S16x4x64x64x128, .f32⟩
  | 23 => ⟨S16x4x64x64x128, .f32⟩
  | 24 => ⟨S_, .f32⟩
  | 25 => ⟨S16x4x64x64x128, .f32⟩
  | 26 => ⟨S16x4x64x64x128, .f32⟩
  | 27 => ⟨S16x4x64x64x128, .f32⟩
  | 28 => ⟨S16x4x64x64x128, .f32⟩
  | 29 => ⟨S16x4x64x64x128, .f32⟩
  | 30 => ⟨S16x4x64x64x128, .f32⟩
  | 31 => ⟨S16x4x64x64x128, .f32⟩
  | 32 => ⟨S16x4x64x64x128, .f32⟩
  | 33 => ⟨S16x4x64x64x128, .f32⟩
  | 34 => ⟨S_, .i1⟩
  | 35 => ⟨S64x64, .i1⟩
  | 36 => ⟨S64x64, .i32⟩
  | 37 => ⟨S_, .i32⟩
  | 38 => ⟨S64x64, .i32⟩
  | 39 => ⟨S64x64, .i32⟩
  | 40 => ⟨S64x64, .i32⟩
  | 41 => ⟨S64x64, .i1⟩
  | 42 => ⟨S_, .i1⟩
  | 43 => ⟨S64x64, .i1⟩
  | 44 => ⟨S64x64, .i1⟩
  | 45 => ⟨S16x4x64x64x64, .f32⟩
  | 46 => ⟨S_, .f32⟩
  | 47 => ⟨S_, .f32⟩
  | 48 => ⟨S16x4x64x64x64, .i1⟩
  | 49 => ⟨S16x4x64x64x64, .f32⟩
  | 50 => ⟨S16x4x64x64x64, .f32⟩
  | 51 => ⟨S16x4x64x64x256, .f32⟩
  | 52 => ⟨S_, .f32⟩
  | 53 => ⟨S16x4x128x256, .f32⟩
  | 54 => ⟨S16x4x64x128, .f32⟩
  | 55 => ⟨S16x4x64x128, .f32⟩
  | 56 => ⟨S64x16x4x64x128, .f32⟩
  | 57 => ⟨S64x16x4x64x128, .f32⟩
  | 58 => ⟨S64x16x4x64x256, .f32⟩
  | 59 => ⟨S64x16x4x128, .f32⟩
  | 60 => ⟨S_, .f32⟩
  | 61 => ⟨S64x16x4x64x256, .f32⟩
  | 62 => ⟨S_, .i32⟩
  | 63 => ⟨S64x16x4x64x128, .f32⟩
  | 64 => ⟨S64x16x4x64x128, .f32⟩
  | 65 => ⟨S64x16x4x64x256, .f32⟩
  | 66 => ⟨S64x16x4x128, .f32⟩
  | 67 => ⟨S_, .i32⟩
  | 68 => ⟨S16x4x128x256, .f32⟩
  | 69 => ⟨S64x16x4x64x256, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x16x4x64x128, .f32⟩
  | 77 => ⟨S16x4x64x128, .f32⟩
  | 78 => ⟨S_, .i32⟩
  | 79 => ⟨S_, .i32⟩
  | 80 => ⟨S_, .i32⟩
  | 81 => ⟨S_, .i32⟩
  | 82 => ⟨S1x16x4x64x128, .f32⟩
  | 83 => ⟨S16x4x64x128, .f32⟩
  | 84 => ⟨S_, .i32⟩
  | 85 => ⟨S_, .i32⟩
  | 86 => ⟨S_, .i32⟩
  | 87 => ⟨S_, .i32⟩
  | 88 => ⟨S1x16x4x64x256, .f32⟩
  | 89 => ⟨S16x4x64x256, .f32⟩
  | 90 => ⟨S_, .i32⟩
  | 91 => ⟨S_, .i32⟩
  | 92 => ⟨S_, .i32⟩
  | 93 => ⟨S1x16x4x128, .f32⟩
  | 94 => ⟨S16x4x128, .f32⟩
  | 95 => ⟨S16x4x64x256, .f32⟩
  | 96 => ⟨S16x4x128x1, .f32⟩
  | 97 => ⟨S16x4x128x256, .f32⟩
  | 98 => ⟨S16x4x128x256, .f32⟩
  | 99 => ⟨S16x4x128x256, .f32⟩
  | 100 => ⟨S16x4x128x256, .f32⟩
  | 101 => ⟨S1x16x4x64x256, .f32⟩
  | 102 => ⟨S_, .i32⟩
  | 103 => ⟨S_, .i32⟩
  | 104 => ⟨S_, .i32⟩
  | 105 => ⟨S_, .i32⟩
  | 106 => ⟨S64x16x4x64x256, .f32⟩
  | 107 => ⟨S_, .i32⟩
  | 108 => ⟨S_, .i32⟩
  | 109 => ⟨S16x4x64x64x256, .f32⟩
  | 110 => ⟨S16x4x64x64x256, .f32⟩
  | 111 => ⟨S16x4x64x64x256, .f32⟩
  | 112 => ⟨S_, .f32⟩
  | 113 => ⟨S16x4x64x64, .f32⟩
  | 114 => ⟨S16x4x64x64x1, .f32⟩
  | 115 => ⟨S_, .f32⟩
  | 116 => ⟨S16x4x64x64x1, .f32⟩
  | 117 => ⟨S16x4x64x64x1, .f32⟩
  | 118 => ⟨S_, .f32⟩
  | 119 => ⟨S16x4x64x64x1, .f32⟩
  | 120 => ⟨S16x4x64x64x1, .f32⟩
  | 121 => ⟨S16x4x64x64x1, .f32⟩
  | 122 => ⟨S16x4x64x64x256, .f32⟩
  | 123 => ⟨S16x4x64x64x256, .f32⟩
  | 124 => ⟨S1x1x1x1x256, .f32⟩
  | 125 => ⟨S16x4x64x64x256, .f32⟩
  | 126 => ⟨S16x4x64x64x256, .f32⟩
  | 127 => ⟨S16x64x64x4x256, .f32⟩
  | _ => ⟨S16x4096x3072, .bf16⟩

abbrev hbmTy0_1 (i : Nat) : BufTy := match i % 128 with
  | 0 => ⟨S16x4096x1024, .f32⟩
  | 1 => ⟨S16x4096x1024, .f32⟩
  | 2 => ⟨S16x4096x1024, .f32⟩
  | 3 => ⟨S_, .f32⟩
  | 4 => ⟨S16x4096x1024, .f32⟩
  | 5 => ⟨S16x4096x1024, .f32⟩
  | 6 => ⟨S_, .f32⟩
  | 7 => ⟨S16x4096x1024, .f32⟩
  | 8 => ⟨S16x4096x1024, .f32⟩
  | 9 => ⟨S16x4096x1024, .f32⟩
  | 10 => ⟨S16x4096x1024, .f32⟩
  | 11 => ⟨S16x4096x1024, .f32⟩
  | 12 => ⟨S16x4096x1024, .f32⟩
  | _ => ⟨S16x4096x3072, .bf16⟩

abbrev hbmTy (i : Nat) : BufTy := match i / 128 with
  | 0 => hbmTy0_0 i
  | 1 => hbmTy0_1 i
  | _ => ⟨S16x4096x3072, .bf16⟩

abbrev bufTy : (tb : Table) → Fin (tcTables nBuf tb) → BufTy
  | .hbm, ⟨i, _⟩ => hbmTy i
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_cst : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_0 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_c_3 : Ref sig .tc := ⟨.hbm, 62, rfl⟩
abbrev main_v39_0 : Ref sig .tc := ⟨.hbm, 63, rfl⟩
abbrev main_v39_1 : Ref sig .tc := ⟨.hbm, 64, rfl⟩
abbrev main_v39_2 : Ref sig .tc := ⟨.hbm, 65, rfl⟩
abbrev main_v39_3 : Ref sig .tc := ⟨.hbm, 66, rfl⟩
abbrev main_v39_4 : Ref sig .tc := ⟨.hbm, 67, rfl⟩
abbrev main_v39_5 : Ref sig .tc := ⟨.hbm, 68, rfl⟩
abbrev main_v39_6 : Ref sig .tc := ⟨.hbm, 69, rfl⟩
abbrev main_while0c_c_13 : Ref sig .tc := ⟨.hbm, 70, rfl⟩
abbrev main_while0c_v61 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v61 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_c_2 : Ref sig .tc := ⟨.hbm, 81, rfl⟩
abbrev main_while0b_call4_v0 : Ref sig .tc := ⟨.hbm, 82, rfl⟩
abbrev main_while0b_v62 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_c_2 : Ref sig .tc := ⟨.hbm, 87, rfl⟩
abbrev main_while0b_call5_v0 : Ref sig .tc := ⟨.hbm, 88, rfl⟩
abbrev main_while0b_v63 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_v0 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_call7_v0 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_c_1 : Ref sig .tc := ⟨.hbm, 104, rfl⟩
abbrev main_while0b_call7_c_2 : Ref sig .tc := ⟨.hbm, 105, rfl⟩
abbrev main_while0b_v71 : Ref sig .tc := ⟨.hbm, 106, rfl⟩
abbrev main_while0b_c_13 : Ref sig .tc := ⟨.hbm, 107, rfl⟩
abbrev main_while0b_v72 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_cst_4 : Ref sig .tc := ⟨.hbm, 112, rfl⟩
abbrev main_v43 : Ref sig .tc := ⟨.hbm, 113, rfl⟩
abbrev main_v44 : Ref sig .tc := ⟨.hbm, 114, rfl⟩
abbrev main_cst_5 : Ref sig .tc := ⟨.hbm, 115, rfl⟩
abbrev main_v45 : Ref sig .tc := ⟨.hbm, 116, rfl⟩
abbrev main_v46 : Ref sig .tc := ⟨.hbm, 117, rfl⟩
abbrev main_cst_6 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call8_v0 : Ref sig .tc := ⟨.hbm, 129, rfl⟩
abbrev main_call8_v1 : Ref sig .tc := ⟨.hbm, 130, rfl⟩
abbrev main_call8_cst : Ref sig .tc := ⟨.hbm, 131, rfl⟩
abbrev main_call8_v2 : Ref sig .tc := ⟨.hbm, 132, rfl⟩
abbrev main_call8_v3 : Ref sig .tc := ⟨.hbm, 133, rfl⟩
abbrev main_call8_cst_0 : Ref sig .tc := ⟨.hbm, 134, rfl⟩
abbrev main_call8_v4 : Ref sig .tc := ⟨.hbm, 135, rfl⟩
abbrev main_call8_v5 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 8
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x5632, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Norm.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GlaProj.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S128x512 : Shape := ⟨2, ![128, 512]⟩
abbrev S1x1024 : Shape := ⟨2, ![1, 1024]⟩
abbrev S1024x3072 : Shape := ⟨2, ![1024, 3072]⟩
abbrev S1024x16 : Shape := ⟨2, ![1024, 16]⟩
abbrev S1024x128 : Shape := ⟨2, ![1024, 128]⟩
abbrev S1x512 : Shape := ⟨2, ![1, 512]⟩
abbrev S65536x3072 : Shape := ⟨2, ![65536, 3072]⟩
abbrev S65536x512 : Shape := ⟨2, ![65536, 512]⟩
abbrev S512x1024 : Shape := ⟨2, ![512, 1024]⟩
abbrev S512x3072 : Shape := ⟨2, ![512, 3072]⟩
abbrev S512x512 : Shape := ⟨2, ![512, 512]⟩
abbrev S512x1 : Shape := ⟨2, ![512, 1]⟩
abbrev S512x128 : Shape := ⟨2, ![512, 128]⟩

abbrev nBuf : Space → Nat
  | .hbm => 20
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x1024, .f32⟩
  | .hbm, ⟨10, _⟩ => ⟨S1024x3072, .f32⟩
  | .hbm, ⟨11, _⟩ => ⟨S1024x3072, .bf16⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x512, .f32⟩
  | .hbm, ⟨18, _⟩ => ⟨S65536x3072, .bf16⟩
  | .hbm, ⟨19, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x3072, .bf16⟩
  | .local _ .vmem, ⟨8, _⟩ => ⟨S512x3072, .bf16⟩
  | .local _ .vmem, ⟨9, _⟩ => ⟨S512x512, .f32⟩
  | .local _ .vmem, ⟨10, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaProjRefIdeal.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3088 : Shape := ⟨2, ![65536, 3088]⟩
abbrev S65536x3072 : Shape := ⟨2, ![65536, 3072]⟩
abbrev S65536x16 : Shape := ⟨2, ![65536, 16]⟩
abbrev S65536x512 : Shape := ⟨2, ![65536, 512]⟩
abbrev S1x512 : Shape := ⟨2, ![1, 512]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3088, .f32⟩
  | .hbm, ⟨22, _⟩ => ⟨S65536x3072, .f32⟩
  | .hbm, ⟨23, _⟩ => ⟨S65536x16, .f32⟩
  | .hbm, ⟨24, _⟩ => ⟨S65536x3072, .bf16⟩
  | .hbm, ⟨25, _⟩ => ⟨S65536x512, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S_, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .i1⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== GdnProj.lean ====
abbrev S65536x1024 : Shape := ⟨2, ![65536, 1024]⟩
abbrev S1024 : Shape := ⟨1, ![1024]⟩
abbrev S1024x4112 : Shape := ⟨2, ![1024, 4112]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S1x1024 : Shape := ⟨2, ![1, 1024]⟩
abbrev S1024x4096 : Shape := ⟨2, ![1024, 4096]⟩
abbrev S65536x4096 : Shape := ⟨2, ![65536, 4096]⟩
abbrev S65536x256 : Shape := ⟨2, ![65536, 256]⟩
abbrev S512x1024 : Shape := ⟨2, ![512, 1024]⟩
abbrev S512x4096 : Shape := ⟨2, ![512, 4096]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4112, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x256, .f32⟩
  | .hbm, ⟨12, _⟩ => ⟨S1x1024, .f32⟩
  | .hbm, ⟨13, _⟩ => ⟨S1024x4096, .f32⟩
  | .hbm, ⟨14, _⟩ => ⟨S1024x4096, .bf16⟩
  | .hbm, ⟨15, _⟩ => ⟨S1024x256, .bf16⟩
  | .hbm, ⟨16, _⟩ => ⟨S65536x4096, .bf16⟩
  | .hbm, ⟨17, _⟩ => ⟨S65536x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x256, .bf16⟩
  | .local _ .vmem, ⟨5, _⟩ => ⟨S512x4096, .bf16⟩
  | .local _ .vmem, ⟨6, _⟩ => ⟨S512x4096, .bf16⟩
  | .local _ .vmem, ⟨7, _⟩ => ⟨S512x256, .f32⟩
  | .local _ .vmem, ⟨8, _⟩ => ⟨S512x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnProjRefIdeal.lean ====
abbrev S65536x1024 : Shape := ⟨2, ![65536, 1024]⟩
abbrev S1024 : Shape := ⟨1, ![1024]⟩
abbrev S1024x4112 : Shape := ⟨2, ![1024, 4112]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4112 : Shape := ⟨2, ![65536, 4112]⟩
abbrev S65536x4096 : Shape := ⟨2, ![65536, 4096]⟩
abbrev S65536x8 : Shape := ⟨2, ![65536, 8]⟩
abbrev S65536x128 : Shape := ⟨2, ![65536, 128]⟩
abbrev S65536x256 : Shape := ⟨2, ![65536, 256]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4112, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4112, .f32⟩
  | .hbm, ⟨20, _⟩ => ⟨S65536x4096, .f32⟩
  | .hbm, ⟨21, _⟩ => ⟨S65536x8, .f32⟩
  | .hbm, ⟨22, _⟩ => ⟨S65536x8, .f32⟩
  | .hbm, ⟨23, _⟩ => ⟨S65536x4096, .bf16⟩
  | .hbm, ⟨24, _⟩ => ⟨S_, .i32⟩
  | .hbm, ⟨25, _⟩ => ⟨S_, .f32⟩
  | .hbm, ⟨26, _⟩ => ⟨S65536x128, .f32⟩
  | .hbm, ⟨27, _⟩ => ⟨S_, .i32⟩
  | .hbm, ⟨28, _⟩ => ⟨S_, .f32⟩
  | .hbm, ⟨29, _⟩ => ⟨S65536x128, .f32⟩
  | .hbm, ⟨30, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_c_2 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== GdnMix.lean ====
abbrev S16x4096x4096 : Shape := ⟨3, ![16, 4096, 4096]⟩
abbrev S16x4096x256 : Shape := ⟨3, ![16, 4096, 256]⟩
abbrev S16x4096x1024 : Shape := ⟨3, ![16, 4096, 1024]⟩
abbrev S4x3072 : Shape := ⟨2, ![4, 3072]⟩
abbrev S8 : Shape := ⟨1, ![8]⟩
abbrev S128 : Shape := ⟨1, ![128]⟩
abbrev S1024x1024 : Shape := ⟨2, ![1024, 1024]⟩
abbrev S1x8 : Shape := ⟨2, ![1, 8]⟩
abbrev S_ : Shape := ⟨0, ![]⟩
abbrev S1x128 : Shape := ⟨2, ![1, 128]⟩
abbrev S1x256x1024 : Shape := ⟨3, ![1, 256, 1024]⟩
abbrev S1x256x256 : Shape := ⟨3, ![1, 256, 256]⟩
abbrev S8x128x128 : Shape := ⟨3, ![8, 128, 128]⟩
abbrev S3x8x1024 : Shape := ⟨3, ![3, 8, 1024]⟩
abbrev S256x256 : Shape := ⟨2, ![256, 256]⟩
abbrev S128x256 : Shape := ⟨2, ![128, 256]⟩
abbrev S128x128 : Shape := ⟨2, ![128, 128]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S4x128 : Shape := ⟨2, ![4, 128]⟩
abbrev S248x128 : Shape := ⟨2, ![248, 128]⟩
abbrev S256 : Shape := ⟨1, ![256]⟩
abbrev S256x1 : Shape := ⟨2, ![256, 1]⟩
abbrev S1x256 : Shape := ⟨2, ![1, 256]⟩
abbrev S1x128x128 : Shape := ⟨3, ![1, 128, 128]⟩
abbrev S64x128 : Shape := ⟨2, ![64, 128]⟩
abbrev S8x1 : Shape := ⟨2, ![8, 1]⟩
abbrev S256x1024 : Shape := ⟨2, ![256, 1024]⟩

abbrev nBuf : Space → Nat
  | .hbm => 19
  | .vmem => 21
  | .smem => 0
  | _ => 0

abbrev bufTy : (tb : Table) → Fin (tcTables nBuf tb) → BufTy
  | .hbm, ⟨0, _⟩ => ⟨S16x4096x4096, .bf16⟩
  | .hbm, ⟨1, _⟩ => ⟨S16x4096x256, .f32⟩
  | .hbm, ⟨2, _⟩ => ⟨S16x4096x1024, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S128, .f32⟩
  | .hbm, ⟨7, _⟩ => ⟨S1024x1024, .f32⟩
  | .hbm, ⟨8, _⟩ => ⟨S1x8, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S1024x1024, .bf16⟩
  | .hbm, ⟨18, _⟩ => ⟨S16x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x256, .f32⟩
  | .local _ .vmem, ⟨9, _⟩ => ⟨S1x256x256, .f32⟩
  | .local _ .vmem, ⟨10, _⟩ => ⟨S1x256x1024, .f32⟩
  | .local _ .vmem, ⟨11, _⟩ => ⟨S1x256x1024, .f32⟩
  | .local _ .vmem, ⟨12, _⟩ => ⟨S4x3072, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S8x128x128, .f32⟩
  | .local _ .vmem, ⟨20, _⟩ => ⟨S3x8x1024, .f32⟩
  | _, _ => ⟨S16x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== GdnRefIdeal.lean ====
abbrev S16x4096x4096 : Shape := ⟨3, ![16, 4096, 4096]⟩
abbrev S16x4096x256 : Shape := ⟨3, ![16, 4096, 256]⟩
abbrev S16x4096x1024 : Shape := ⟨3, ![16, 4096, 1024]⟩
abbrev S4x3072 : Shape := ⟨2, ![4, 3072]⟩
abbrev S8 : Shape := ⟨1, ![8]⟩
abbrev S128 : Shape := ⟨1, ![128]⟩
abbrev S1024x1024 : Shape := ⟨2, ![1024, 1024]⟩
abbrev S16x4096x3072 : Shape := ⟨3, ![16, 4096, 3072]⟩
abbrev S_ : Shape := ⟨0, ![]⟩
abbrev S16x4099x3072 : Shape := ⟨3, ![16, 4099, 3072]⟩
abbrev S1x3072 : Shape := ⟨2, ![1, 3072]⟩
abbrev S3072 : Shape := ⟨1, ![3072]⟩
abbrev S1x1x3072 : Shape := ⟨3, ![1, 1, 3072]⟩
abbrev S16x4096x8 : Shape := ⟨3, ![16, 4096, 8]⟩
abbrev S1x1x8 : Shape := ⟨3, ![1, 1, 8]⟩
abbrev S16x64x64x8x128 : Shape := ⟨5, ![16, 64, 64, 8, 128]⟩
abbrev S16x8x64x64x128 : Shape := ⟨5, ![16, 8, 64, 64, 128]⟩
abbrev S16x8x64x64 : Shape := ⟨4, ![16, 8, 64, 64]⟩
abbrev S16x8x64x64x1 : Shape := ⟨5, ![16, 8, 64, 64, 1]⟩
abbrev S16x64x64x8 : Shape := ⟨4, ![16, 64, 64, 8]⟩
abbrev S16x8x64x1 : Shape := ⟨4, ![16, 8, 64, 1]⟩
abbrev S16x8x64 : Shape := ⟨3, ![16, 8, 64]⟩
abbrev S64x64 : Shape := ⟨2, ![64, 64]⟩
abbrev S16x8x64x1x64 : Shape := ⟨5, ![16, 8, 64, 1, 64]⟩
abbrev S16x8x64x64x64 : Shape := ⟨5, ![16, 8, 64, 64, 64]⟩
abbrev S16x8x64x64x256 : Shape := ⟨5, ![16, 8, 64, 64, 256]⟩
abbrev S64x1 : Shape := ⟨2, ![64, 1]⟩
abbrev S16x8x128x128 : Shape := ⟨4, ![16, 8, 128, 128]⟩
abbrev S64x16x8x64x64 : Shape := ⟨5, ![64, 16, 8, 64, 64]⟩
abbrev S64x16x8x64x128 : Shape := ⟨5, ![64, 16, 8, 64, 128]⟩
abbrev S64x16x8 : Shape := ⟨3, ![64, 16, 8]⟩
abbrev S1x16x8x64x64 : Shape := ⟨5, ![1, 16, 8, 64, 64]⟩
abbrev S1x16x8x64x128 : Shape := ⟨5, ![1, 16, 8, 64, 128]⟩
abbrev S16x8x64x128 : Shape := ⟨4, ![16, 8, 64, 128]⟩
abbrev S1x16x8 : Shape := ⟨3, ![1, 16, 8]⟩
abbrev S16x8 : Shape := ⟨2, ![16, 8]⟩
abbrev S16x8x1x1 : Shape := ⟨4, ![16, 8, 1, 1]⟩
abbrev S1x1x1x1x128 : Shape := ⟨5, ![1, 1, 1, 1, 128]⟩

abbrev nBuf : Space → Nat
  | .hbm => 325
  | .vmem => 0
  | .smem => 0
  | _ => 0

abbrev hbmTy0_0 (i : Nat) : BufTy := match i % 128 with
  | 0 => ⟨S16x4096x4096, .bf16⟩
  | 1 => ⟨S16x4096x256, .f32⟩
  | 2 => ⟨S16x4096x1024, .f32⟩
  | 3 => ⟨S4x3072, .f32⟩
  | 4 => ⟨S8, .f32⟩
  | 5 => ⟨S8, .f32⟩
  | 6 => ⟨S128, .f32⟩
  | 7 => ⟨S1024x1024, .f32⟩
  | 8 => ⟨S16x4096x4096, .f32⟩
  | 9 => ⟨S16x4096x3072, .f32⟩
  | 10 => ⟨S16x4096x1024, .f32⟩
  | 11 => ⟨S_, .i32⟩
  | 12 => ⟨S_, .f32⟩
  | 13 => ⟨S16x4099x3072, .f32⟩
  | 14 => ⟨S1x3072, .f32⟩
  | 15 => ⟨S3072, .f32⟩
  | 16 => ⟨S16x4096x3072, .f32⟩
  | 17 => ⟨S1x1x3072, .f32⟩
  | 18 => ⟨S16x4096x3072, .f32⟩
  | 19 => ⟨S16x4096x3072, .f32⟩
  | 20 => ⟨S_, .f32⟩
  | 21 => ⟨S16x4096x3072, .f32⟩
  | 22 => ⟨S16x4096x3072, .f32⟩
  | 23 => ⟨S1x3072, .f32⟩
  | 24 => ⟨S3072, .f32⟩
  | 25 => ⟨S16x4096x3072, .f32⟩
  | 26 => ⟨S1x1x3072, .f32⟩
  | 27 => ⟨S16x4096x3072, .f32⟩
  | 28 => ⟨S16x4096x3072, .f32⟩
  | 29 => ⟨S16x4096x3072, .f32⟩
  | 30 => ⟨S1x3072, .f32⟩
  | 31 => ⟨S3072, .f32⟩
  | 32 => ⟨S16x4096x3072, .f32⟩
  | 33 => ⟨S1x1x3072, .f32⟩
  | 34 => ⟨S16x4096x3072, .f32⟩
  | 35 => ⟨S16x4096x3072, .f32⟩
  | 36 => ⟨S16x4096x3072, .f32⟩
  | 37 => ⟨S1x3072, .f32⟩
  | 38 => ⟨S3072, .f32⟩
  | 39 => ⟨S16x4096x3072, .f32⟩
  | 40 => ⟨S1x1x3072, .f32⟩
  | 41 => ⟨S16x4096x3072, .f32⟩
  | 42 => ⟨S16x4096x3072, .f32⟩
  | 43 => ⟨S16x4096x3072, .f32⟩
  | 44 => ⟨S16x4096x3072, .f32⟩
  | 45 => ⟨S16x4096x3072, .f32⟩
  | 46 => ⟨S_, .f32⟩
  | 47 => ⟨S16x4096x3072, .f32⟩
  | 48 => ⟨S16x4096x3072, .f32⟩
  | 49 => ⟨S_, .f32⟩
  | 50 => ⟨S16x4096x3072, .f32⟩
  | 51 => ⟨S16x4096x3072, .f32⟩
  | 52 => ⟨S16x4096x3072, .f32⟩
  | 53 => ⟨S16x4096x1024, .f32⟩
  | 54 => ⟨S16x4096x1024, .f32⟩
  | 55 => ⟨S16x4096x1024, .f32⟩
  | 56 => ⟨S16x4096x8, .f32⟩
  | 57 => ⟨S16x4096x8, .f32⟩
  | 58 => ⟨S16x4096x8, .f32⟩
  | 59 => ⟨S_, .f32⟩
  | 60 => ⟨S16x4096x8, .f32⟩
  | 61 => ⟨S16x4096x8, .f32⟩
  | 62 => ⟨S_, .f32⟩
  | 63 => ⟨S16x4096x8, .f32⟩
  | 64 => ⟨S16x4096x8, .f32⟩
  | 65 => ⟨S8, .f32⟩
  | 66 => ⟨S8, .f32⟩
  | 67 => ⟨S16x4096x8, .f32⟩
  | 68 => ⟨S1x1x8, .f32⟩
  | 69 => ⟨S16x4096x8, .f32⟩
  | 70 => ⟨S16x4096x8, .f32⟩
  | 71 => ⟨S_, .f32⟩
  | 72 => ⟨S16x4096x8, .f32⟩
  | 73 => ⟨S16x4096x8, .f32⟩
  | 74 => ⟨S16x4096x8, .f32⟩
  | 75 => ⟨S16x4096x8, .f32⟩
  | 76 => ⟨S16x4096x8, .i1⟩
  | 77 => ⟨S16x4096x8, .f32⟩
  | 78 => ⟨S16x4096x8, .f32⟩
  | 79 => ⟨S16x4096x8, .f32⟩
  | 80 => ⟨S16x4096x8, .f32⟩
  | 81 => ⟨S16x4096x8, .f32⟩
  | 82 => ⟨S16x4096x8, .f32⟩
  | 83 => ⟨S16x4096x8, .f32⟩
  | 84 => ⟨S16x4096x8, .f32⟩
  | 85 => ⟨S1x1x8, .f32⟩
  | 86 => ⟨S16x4096x8, .f32⟩
  | 87 => ⟨S16x4096x8, .f32⟩
  | 88 => ⟨S16x64x64x8x128, .f32⟩
  | 89 => ⟨S16x8x64x64x128, .f32⟩
  | 90 => ⟨S16x8x64x64x128, .f32⟩
  | 91 => ⟨S_, .f32⟩
  | 92 => ⟨S16x8x64x64, .f32⟩
  | 93 => ⟨S16x8x64x64x1, .f32⟩
  | 94 => ⟨S_, .f32⟩
  | 95 => ⟨S16x8x64x64x1, .f32⟩
  | 96 => ⟨S16x8x64x64x1, .f32⟩
  | 97 => ⟨S16x8x64x64x1, .f32⟩
  | 98 => ⟨S16x8x64x64x128, .f32⟩
  | 99 => ⟨S16x8x64x64x128, .f32⟩
  | 100 => ⟨S16x64x64x8x128, .f32⟩
  | 101 => ⟨S16x8x64x64x128, .f32⟩
  | 102 => ⟨S16x8x64x64x128, .f32⟩
  | 103 => ⟨S_, .f32⟩
  | 104 => ⟨S16x8x64x64, .f32⟩
  | 105 => ⟨S16x8x64x64x1, .f32⟩
  | 106 => ⟨S_, .f32⟩
  | 107 => ⟨S16x8x64x64x1, .f32⟩
  | 108 => ⟨S16x8x64x64x1, .f32⟩
  | 109 => ⟨S16x8x64x64x1, .f32⟩
  | 110 => ⟨S16x8x64x64x128, .f32⟩
  | 111 => ⟨S16x8x64x64x128, .f32⟩
  | 112 => ⟨S16x64x64x8x128, .f32⟩
  | 113 => ⟨S16x8x64x64x128, .f32⟩
  | 114 => ⟨S16x64x64x8, .f32⟩
  | 115 => ⟨S16x8x64x64, .f32⟩
  | 116 => ⟨S16x64x64x8, .f32⟩
  | 117 => ⟨S16x8x64x64, .f32⟩
  | 118 => ⟨S_, .f32⟩
  | 119 => ⟨S16x8x64x64x128, .f32⟩
  | 120 => ⟨S16x8x64x64x128, .f32⟩
  | 121 => ⟨S_, .f32⟩
  | 122 => ⟨S_, .f32⟩
  | 123 => ⟨S16x8x64x64, .f32⟩
  | 124 => ⟨S16x8x64x1, .f32⟩
  | 125 => ⟨S16x8x64, .f32⟩
  | 126 => ⟨S_, .i1⟩
  | 127 => ⟨S64x64, .i1⟩
  | _ => ⟨S16x4096x4096, .bf16⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i32⟩
  | 5 => ⟨S64x64, .i1⟩
  | 6 => ⟨S_, .i1⟩
  | 7 => ⟨S64x64, .i1⟩
  | 8 => ⟨S64x64, .i1⟩
  | 9 => ⟨S_, .i1⟩
  | 10 => ⟨S64x64, .i1⟩
  | 11 => ⟨S64x64, .i32⟩
  | 12 => ⟨S_, .i32⟩
  | 13 => ⟨S64x64, .i32⟩
  | 14 => ⟨S64x64, .i32⟩
  | 15 => ⟨S64x64, .i32⟩
  | 16 => ⟨S64x64, .i1⟩
  | 17 => ⟨S_, .i1⟩
  | 18 => ⟨S64x64, .i1⟩
  | 19 => ⟨S64x64, .i1⟩
  | 20 => ⟨S16x8x64x64x1, .f32⟩
  | 21 => ⟨S16x8x64x1x64, .f32⟩
  | 22 => ⟨S16x8x64x64x64, .f32⟩
  | 23 => ⟨S16x8x64x64x64, .f32⟩
  | 24 => ⟨S16x8x64x64x64, .f32⟩
  | 25 => ⟨S_, .f32⟩
  | 26 => ⟨S16x8x64x64x64, .f32⟩
  | 27 => ⟨S16x8x64x64x64, .f32⟩
  | 28 => ⟨S16x8x64x64x64, .f32⟩
  | 29 => ⟨S_, .f32⟩
  | 30 => ⟨S_, .f32⟩
  | 31 => ⟨S16x8x64x64x64, .i1⟩
  | 32 => ⟨S16x8x64x64x64, .f32⟩
  | 33 => ⟨S16x8x64x64x64, .f32⟩
  | 34 => ⟨S16x8x64x64x1, .f32⟩
  | 35 => ⟨S16x8x64x64x128, .f32⟩
  | 36 => ⟨S16x8x64x64x128, .f32⟩
  | 37 => ⟨S16x8x64x64x64, .f32⟩
  | 38 => ⟨S16x8x64x64x64, .f32⟩
  | 39 => ⟨S_, .f32⟩
  | 40 => ⟨S_, .f32⟩
  | 41 => ⟨S16x8x64x64x64, .i1⟩
  | 42 => ⟨S16x8x64x64x64, .f32⟩
  | 43 => ⟨S16x8x64x64x64, .f32⟩
  | 44 => ⟨S16x8x64x64x1, .f32⟩
  | 45 => ⟨S16x8x64x64x128, .f32⟩
  | 46 => ⟨S16x8x64x64x128, .f32⟩
  | 47 => ⟨S16x8x64x64, .f32⟩
  | 48 => ⟨S16x8x64x64x1, .f32⟩
  | 49 => ⟨S16x8x64x64x128, .f32⟩
  | 50 => ⟨S16x8x64x64x128, .f32⟩
  | 51 => ⟨S16x8x64x64x256, .f32⟩
  | 52 => ⟨S64x1, .i32⟩
  | 53 => ⟨S_, .f32⟩
  | 54 => ⟨S16x8x64x64x256, .f32⟩
  | 55 => ⟨S_, .i32⟩
  | 56 => ⟨S_, .i32⟩
  | 57 => ⟨S64x1, .i32⟩
  | 58 => ⟨S16x8x64x64x64, .f32⟩
  | 59 => ⟨S16x8x64x64x256, .f32⟩
  | 60 => ⟨S_, .i32⟩
  | 61 => ⟨S_, .i32⟩
  | 62 => ⟨S16x8x64x64x256, .f32⟩
  | 63 => ⟨S_, .i32⟩
  | 64 => ⟨S_, .i1⟩
  | 65 => ⟨S_, .i32⟩
  | 66 => ⟨S_, .i32⟩
  | 67 => ⟨S_, .i32⟩
  | 68 => ⟨S64x1, .i32⟩
  | 69 => ⟨S64x1, .i1⟩
  | 70 => ⟨S16x8x64x64x256, .f32⟩
  | 71 => ⟨S16x8x64x64x256, .f32⟩
  | 72 => ⟨S16x8x64x64x256, .i1⟩
  | 73 => ⟨S16x8x64x64x256, .f32⟩
  | 74 => ⟨S_, .i32⟩
  | 75 => ⟨S_, .i32⟩
  | 76 => ⟨S16x8x64x64x128, .f32⟩
  | 77 => ⟨S16x8x64x64x128, .f32⟩
  | 78 => ⟨S16x8x64x64x64, .f32⟩
  | 79 => ⟨S16x8x64x64x64, .f32⟩
  | 80 => ⟨S16x8x64x64, .f32⟩
  | 81 => ⟨S16x8x64x64x1, .f32⟩
  | 82 => ⟨S16x8x64x64x128, .f32⟩
  | 83 => ⟨S16x8x64x64x128, .f32⟩
  | 84 => ⟨S16x8x64x1, .f32⟩
  | 85 => ⟨S16x8x64x64, .f32⟩
  | 86 => ⟨S16x8x64x64, .f32⟩
  | 87 => ⟨S16x8x64x64, .f32⟩
  | 88 => ⟨S16x8x64x64x1, .f32⟩
  | 89 => ⟨S16x8x64x64x128, .f32⟩
  | 90 => ⟨S16x8x64x64x128, .f32⟩
  | 91 => ⟨S_, .f32⟩
  | 92 => ⟨S16x8x128x128, .f32⟩
  | 93 => ⟨S16x8x64, .f32⟩
  | 94 => ⟨S64x16x8x64x64, .f32⟩
  | 95 => ⟨S64x16x8x64x128, .f32⟩
  | 96 => ⟨S64x16x8x64x128, .f32⟩
  | 97 => ⟨S64x16x8x64x128, .f32⟩
  | 98 => ⟨S64x16x8x64x128, .f32⟩
  | 99 => ⟨S64x16x8, .f32⟩
  | 100 => ⟨S_, .f32⟩
  | 101 => ⟨S64x16x8x64x128, .f32⟩
  | 102 => ⟨S_, .i32⟩
  | 103 => ⟨S64x16x8x64x64, .f32⟩
  | 104 => ⟨S64x16x8x64x128, .f32⟩
  | 105 => ⟨S64x16x8x64x128, .f32⟩
  | 106 => ⟨S64x16x8x64x128, .f32⟩
  | 107 => ⟨S64x16x8x64x128, .f32⟩
  | 108 => ⟨S64x16x8, .f32⟩
  | 109 => ⟨S_, .i32⟩
  | 110 => ⟨S16x8x128x128, .f32⟩
  | 111 => ⟨S64x16x8x64x128, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x16x8x64x64, .f32⟩
  | 119 => ⟨S16x8x64x64, .f32⟩
  | 120 => ⟨S_, .i32⟩
  | 121 => ⟨S_, .i32⟩
  | 122 => ⟨S_, .i32⟩
  | 123 => ⟨S_, .i32⟩
  | 124 => ⟨S1x16x8x64x128, .f32⟩
  | 125 => ⟨S16x8x64x128, .f32⟩
  | 126 => ⟨S_, .i32⟩
  | 127 => ⟨S_, .i32⟩
  | _ => ⟨S16x4096x4096, .bf16⟩

abbrev hbmTy0_2 (i : Nat) : BufTy := match i % 128 with
  | 0 => ⟨S_, .i32⟩
  | 1 => ⟨S_, .i32⟩
  | 2 => ⟨S1x16x8x64x128, .f32⟩
  | 3 => ⟨S16x8x64x128, .f32⟩
  | 4 => ⟨S_, .i32⟩
  | 5 => ⟨S_, .i32⟩
  | 6 => ⟨S_, .i32⟩
  | 7 => ⟨S_, .i32⟩
  | 8 => ⟨S1x16x8x64x128, .f32⟩
  | 9 => ⟨S16x8x64x128, .f32⟩
  | 10 => ⟨S_, .i32⟩
  | 11 => ⟨S_, .i32⟩
  | 12 => ⟨S_, .i32⟩
  | 13 => ⟨S_, .i32⟩
  | 14 => ⟨S1x16x8x64x128, .f32⟩
  | 15 => ⟨S16x8x64x128, .f32⟩
  | 16 => ⟨S_, .i32⟩
  | 17 => ⟨S_, .i32⟩
  | 18 => ⟨S1x16x8, .f32⟩
  | 19 => ⟨S16x8, .f32⟩
  | 20 => ⟨S16x8x64x128, .f32⟩
  | 21 => ⟨S16x8x64x128, .f32⟩
  | 22 => ⟨S16x8x64x128, .f32⟩
  | 23 => ⟨S16x8x64x128, .f32⟩
  | 24 => ⟨S16x8x64x128, .f32⟩
  | 25 => ⟨S16x8x1x1, .f32⟩
  | 26 => ⟨S16x8x128x128, .f32⟩
  | 27 => ⟨S16x8x128x128, .f32⟩
  | 28 => ⟨S16x8x128x128, .f32⟩
  | 29 => ⟨S16x8x128x128, .f32⟩
  | 30 => ⟨S1x16x8x64x128, .f32⟩
  | 31 => ⟨S_, .i32⟩
  | 32 => ⟨S_, .i32⟩
  | 33 => ⟨S_, .i32⟩
  | 34 => ⟨S_, .i32⟩
  | 35 => ⟨S64x16x8x64x128, .f32⟩
  | 36 => ⟨S_, .i32⟩
  | 37 => ⟨S_, .i32⟩
  | 38 => ⟨S16x8x64x64x128, .f32⟩
  | 39 => ⟨S16x8x64x64x128, .f32⟩
  | 40 => ⟨S_, .f32⟩
  | 41 => ⟨S16x8x64x64, .f32⟩
  | 42 => ⟨S16x8x64x64x1, .f32⟩
  | 43 => ⟨S_, .f32⟩
  | 44 => ⟨S16x8x64x64x1, .f32⟩
  | 45 => ⟨S16x8x64x64x1, .f32⟩
  | 46 => ⟨S_, .f32⟩
  | 47 => ⟨S16x8x64x64x1, .f32⟩
  | 48 => ⟨S16x8x64x64x1, .f32⟩
  | 49 => ⟨S16x8x64x64x1, .f32⟩
  | 50 => ⟨S16x8x64x64x128, .f32⟩
  | 51 => ⟨S16x8x64x64x128, .f32⟩
  | 52 => ⟨S1x1x1x1x128, .f32⟩
  | 53 => ⟨S16x8x64x64x128, .f32⟩
  | 54 => ⟨S16x8x64x64x128, .f32⟩
  | 55 => ⟨S16x64x64x8x128, .f32⟩
  | 56 => ⟨S16x4096x1024, .f32⟩
  | 57 => ⟨S16x4096x1024, .f32⟩
  | 58 => ⟨S16x4096x1024, .f32⟩
  | 59 => ⟨S_, .f32⟩
  | 60 => ⟨S16x4096x1024, .f32⟩
  | 61 => ⟨S16x4096x1024, .f32⟩
  | 62 => ⟨S_, .f32⟩
  | 63 => ⟨S16x4096x1024, .f32⟩
  | 64 => ⟨S16x4096x1024, .f32⟩
  | 65 => ⟨S16x4096x1024, .f32⟩
  | 66 => ⟨S16x4096x1024, .f32⟩
  | 67 => ⟨S16x4096x1024, .f32⟩
  | 68 => ⟨S16x4096x1024, .f32⟩
  | _ => ⟨S16x4096x4096, .bf16⟩

abbrev hbmTy (i : Nat) : BufTy := match i / 128 with
  | 0 => hbmTy0_0 i
  | 1 => hbmTy0_1 i
  | 2 => hbmTy0_2 i
  | _ => ⟨S16x4096x4096, .bf16⟩

abbrev bufTy : (tb : Table) → Fin (tcTables nBuf tb) → BufTy
  | .hbm, ⟨i, _⟩ => hbmTy i
  | _, _ => ⟨S16x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_0 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_2 : Ref sig .tc := ⟨.hbm, 91, rfl⟩
abbrev main_v57 : Ref sig .tc := ⟨.hbm, 92, rfl⟩
abbrev main_v58 : Ref sig .tc := ⟨.hbm, 93, rfl⟩
abbrev main_cst_3 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_4 : Ref sig .tc := ⟨.hbm, 103, rfl⟩
abbrev main_v67 : Ref sig .tc := ⟨.hbm, 104, rfl⟩
abbrev main_v68 : Ref sig .tc := ⟨.hbm, 105, rfl⟩
abbrev main_cst_5 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_6 : Ref sig .tc := ⟨.hbm, 118, rfl⟩
abbrev main_v80 : Ref sig .tc := ⟨.hbm, 119, rfl⟩
abbrev main_v81 : Ref sig .tc := ⟨.hbm, 120, rfl⟩
abbrev main_call3_call0_cst : Ref sig .tc := ⟨.hbm, 121, rfl⟩
abbrev main_call3_call0_v0 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_7 : Ref sig .tc := ⟨.hbm, 126, rfl⟩
abbrev main_v85 : Ref sig .tc := ⟨.hbm, 127, rfl⟩
abbrev main_call4_v0 : Ref sig .tc := ⟨.hbm, 128, rfl⟩
abbrev main_call4_c : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_c_0 : Ref sig .tc := ⟨.hbm, 134, rfl⟩
abbrev main_call4_v5 : Ref sig .tc := ⟨.hbm, 135, rfl⟩
abbrev main_v86 : Ref sig .tc := ⟨.hbm, 136, rfl⟩
abbrev main_c_8 : Ref sig .tc := ⟨.hbm, 137, rfl⟩
abbrev main_v87 : Ref sig .tc := ⟨.hbm, 138, rfl⟩
abbrev main_call5_v0 : Ref sig .tc := ⟨.hbm, 139, rfl⟩
abbrev main_call5_c : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_c_0 : Ref sig .tc := ⟨.hbm, 145, rfl⟩
abbrev main_call5_v5 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_9 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_cst_10 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_11 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_12 : Ref sig .tc := ⟨.hbm, 181, rfl⟩
abbrev main_v113 : Ref sig .tc := ⟨.hbm, 182, rfl⟩
abbrev main_c_13 : Ref sig .tc := ⟨.hbm, 183, rfl⟩
abbrev main_c_14 : Ref sig .tc := ⟨.hbm, 184, rfl⟩
abbrev main_v114_0 : Ref sig .tc := ⟨.hbm, 185, rfl⟩
abbrev main_v114_1 : Ref sig .tc := ⟨.hbm, 186, rfl⟩
abbrev main_v114_2 : Ref sig .tc := ⟨.hbm, 187, rfl⟩
abbrev main_v114_3 : Ref sig .tc := ⟨.hbm, 188, rfl⟩
abbrev main_v114_4 : Ref sig .tc := ⟨.hbm, 189, rfl⟩
abbrev main_v114_5 : Ref sig .tc := ⟨.hbm, 190, rfl⟩
abbrev main_while0c_c_26 : Ref sig .tc := ⟨.hbm, 191, rfl⟩
abbrev main_while0c_v160 : Ref sig .tc := ⟨.hbm, 192, rfl⟩
abbrev main_while0b_c_26 : Ref sig .tc := ⟨.hbm, 193, rfl⟩
abbrev main_while0b_v160 : Ref sig .tc := ⟨.hbm, 194, rfl⟩
abbrev main_while0b_v161 : Ref sig .tc := ⟨.hbm, 195, rfl⟩
abbrev main_while0b_v162 : Ref sig .tc := ⟨.hbm, 196, rfl⟩
abbrev main_while0b_v163 : Ref sig .tc := ⟨.hbm, 197, rfl⟩
abbrev main_while0b_v164 : Ref sig .tc := ⟨.hbm, 198, rfl⟩
abbrev main_while0b_v165 : Ref sig .tc := ⟨.hbm, 199, rfl⟩
abbrev main_while0b_call8_v0 : Ref sig .tc := ⟨.hbm, 200, rfl⟩
abbrev main_while0b_v166 : Ref sig .tc := ⟨.hbm, 201, rfl⟩
abbrev main_while0b_c_27 : Ref sig .tc := ⟨.hbm, 202, rfl⟩
abbrev main_while0b_v167 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_cst_15 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_cst_16 : Ref sig .tc := ⟨.hbm, 228, rfl⟩
abbrev main_v138 : Ref sig .tc := ⟨.hbm, 229, rfl⟩
abbrev main_c_17 : Ref sig .tc := ⟨.hbm, 230, rfl⟩
abbrev main_v139_0 : Ref sig .tc := ⟨.hbm, 231, rfl⟩
abbrev main_v139_1 : Ref sig .tc := ⟨.hbm, 232, rfl⟩
abbrev main_v139_2 : Ref sig .tc := ⟨.hbm, 233, rfl⟩
abbrev main_v139_3 : Ref sig .tc := ⟨.hbm, 234, rfl⟩
abbrev main_v139_4 : Ref sig .tc := ⟨.hbm, 235, rfl⟩
abbrev main_v139_5 : Ref sig .tc := ⟨.hbm, 236, rfl⟩
abbrev main_v139_6 : Ref sig .tc := ⟨.hbm, 237, rfl⟩
abbrev main_v139_7 : Ref sig .tc := ⟨.hbm, 238, rfl⟩
abbrev main_v139_8 : Ref sig .tc := ⟨.hbm, 239, rfl⟩
abbrev main_while1c_c_29 : Ref sig .tc := ⟨.hbm, 240, rfl⟩
abbrev main_while1c_v160 : Ref sig .tc := ⟨.hbm, 241, rfl⟩
abbrev main_while1b_call9_c : Ref sig .tc := ⟨.hbm, 242, rfl⟩
abbrev main_while1b_call9_c_0 : Ref sig .tc := ⟨.hbm, 243, rfl⟩
abbrev main_while1b_call9_c_1 : Ref sig .tc := ⟨.hbm, 244, rfl⟩
abbrev main_while1b_call9_c_2 : Ref sig .tc := ⟨.hbm, 245, rfl⟩
abbrev main_while1b_call9_v0 : Ref sig .tc := ⟨.hbm, 246, rfl⟩
abbrev main_while1b_v160 : Ref sig .tc := ⟨.hbm, 247, rfl⟩
abbrev main_while1b_call10_c : Ref sig .tc := ⟨.hbm, 248, rfl⟩
abbrev main_while1b_call10_c_0 : Ref sig .tc := ⟨.hbm, 249, rfl⟩
abbrev main_while1b_call10_c_1 : Ref sig .tc := ⟨.hbm, 250, rfl⟩
abbrev main_while1b_call10_c_2 : Ref sig .tc := ⟨.hbm, 251, rfl⟩
abbrev main_while1b_call10_v0 : Ref sig .tc := ⟨.hbm, 252, rfl⟩
abbrev main_while1b_v161 : Ref sig .tc := ⟨.hbm, 253, rfl⟩
abbrev main_while1b_call11_c : Ref sig .tc := ⟨.hbm, 254, rfl⟩
abbrev main_while1b_call11_c_0 : Ref sig .tc := ⟨.hbm, 255, rfl⟩
abbrev main_while1b_call11_c_1 : Ref sig .tc := ⟨.hbm, 256, rfl⟩
abbrev main_while1b_call11_c_2 : Ref sig .tc := ⟨.hbm, 257, rfl⟩
abbrev main_while1b_call11_v0 : Ref sig .tc := ⟨.hbm, 258, rfl⟩
abbrev main_while1b_v162 : Ref sig .tc := ⟨.hbm, 259, rfl⟩
abbrev main_while1b_call12_c : Ref sig .tc := ⟨.hbm, 260, rfl⟩
abbrev main_while1b_call12_c_0 : Ref sig .tc := ⟨.hbm, 261, rfl⟩
abbrev main_while1b_call12_c_1 : Ref sig .tc := ⟨.hbm, 262, rfl⟩
abbrev main_while1b_call12_c_2 : Ref sig .tc := ⟨.hbm, 263, rfl⟩
abbrev main_while1b_call12_v0 : Ref sig .tc := ⟨.hbm, 264, rfl⟩
abbrev main_while1b_v163 : Ref sig .tc := ⟨.hbm, 265, rfl⟩
abbrev main_while1b_call13_c : Ref sig .tc := ⟨.hbm, 266, rfl⟩
abbrev main_while1b_call13_c_0 : Ref sig .tc := ⟨.hbm, 267, rfl⟩
abbrev main_while1b_call13_c_1 : Ref sig .tc := ⟨.hbm, 268, rfl⟩
abbrev main_while1b_call13_c_2 : Ref sig .tc := ⟨.hbm, 269, rfl⟩
abbrev main_while1b_call13_v0 : Ref sig .tc := ⟨.hbm, 270, rfl⟩
abbrev main_while1b_v164 : Ref sig .tc := ⟨.hbm, 271, rfl⟩
abbrev main_while1b_call14_c : Ref sig .tc := ⟨.hbm, 272, rfl⟩
abbrev main_while1b_call14_c_0 : Ref sig .tc := ⟨.hbm, 273, rfl⟩
abbrev main_while1b_call14_v0 : Ref sig .tc := ⟨.hbm, 274, rfl⟩
abbrev main_while1b_v165 : Ref sig .tc := ⟨.hbm, 275, rfl⟩
abbrev main_while1b_v166 : Ref sig .tc := ⟨.hbm, 276, rfl⟩
abbrev main_while1b_v167 : Ref sig .tc := ⟨.hbm, 277, rfl⟩
abbrev main_while1b_v168 : Ref sig .tc := ⟨.hbm, 278, rfl⟩
abbrev main_while1b_v169 : Ref sig .tc := ⟨.hbm, 279, rfl⟩
abbrev main_while1b_v170 : Ref sig .tc := ⟨.hbm, 280, rfl⟩
abbrev main_while1b_v171 : Ref sig .tc := ⟨.hbm, 281, rfl⟩
abbrev main_while1b_v172 : Ref sig .tc := ⟨.hbm, 282, rfl⟩
abbrev main_while1b_v173 : Ref sig .tc := ⟨.hbm, 283, rfl⟩
abbrev main_while1b_v174 : Ref sig .tc := ⟨.hbm, 284, rfl⟩
abbrev main_while1b_v175 : Ref sig .tc := ⟨.hbm, 285, rfl⟩
abbrev main_while1b_call15_v0 : Ref sig .tc := ⟨.hbm, 286, rfl⟩
abbrev main_while1b_call15_c : Ref sig .tc := ⟨.hbm, 287, rfl⟩
abbrev main_while1b_call15_c_0 : Ref sig .tc := ⟨.hbm, 288, rfl⟩
abbrev main_while1b_call15_c_1 : Ref sig .tc := ⟨.hbm, 289, rfl⟩
abbrev main_while1b_call15_c_2 : Ref sig .tc := ⟨.hbm, 290, rfl⟩
abbrev main_while1b_v176 : Ref sig .tc := ⟨.hbm, 291, rfl⟩
abbrev main_while1b_c_29 : Ref sig .tc := ⟨.hbm, 292, rfl⟩
abbrev main_while1b_v177 : Ref sig .tc := ⟨.hbm, 293, rfl⟩
abbrev main_v140 : Ref sig .tc := ⟨.hbm, 294, rfl⟩
abbrev main_v141 : Ref sig .tc := ⟨.hbm, 295, rfl⟩
abbrev main_cst_18 : Ref sig .tc := ⟨.hbm, 296, rfl⟩
abbrev main_v142 : Ref sig .tc := ⟨.hbm, 297, rfl⟩
abbrev main_v143 : Ref sig .tc := ⟨.hbm, 298, rfl⟩
abbrev main_cst_19 : Ref sig .tc := ⟨.hbm, 299, rfl⟩
abbrev main_v144 : Ref sig .tc := ⟨.hbm, 300, rfl⟩
abbrev main_v145 : Ref sig .tc := ⟨.hbm, 301, rfl⟩
abbrev main_cst_20 : Ref sig .tc := ⟨.hbm, 302, rfl⟩
abbrev main_v146 : Ref sig .tc := ⟨.hbm, 303, rfl⟩
abbrev main_v147 : Ref sig .tc := ⟨.hbm, 304, rfl⟩
abbrev main_v148 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_v152 : Ref sig .tc := ⟨.hbm, 309, rfl⟩
abbrev main_v153 : Ref sig .tc := ⟨.hbm, 310, rfl⟩
abbrev main_v154 : Ref sig .tc := ⟨.hbm, 311, rfl⟩
abbrev main_v155 : Ref sig .tc := ⟨.hbm, 312, rfl⟩
abbrev main_call16_v0 : Ref sig .tc := ⟨.hbm, 313, rfl⟩
abbrev main_call16_v1 : Ref sig .tc := ⟨.hbm, 314, rfl⟩
abbrev main_call16_cst : Ref sig .tc := ⟨.hbm, 315, rfl⟩
abbrev main_call16_v2 : Ref sig .tc := ⟨.hbm, 316, rfl⟩
abbrev main_call16_v3 : Ref sig .tc := ⟨.hbm, 317, rfl⟩
abbrev main_call16_cst_0 : Ref sig .tc := ⟨.hbm, 318, rfl⟩
abbrev main_call16_v4 : Ref sig .tc := ⟨.hbm, 319, rfl⟩
abbrev main_call16_v5 : Ref sig .tc := ⟨.hbm, 320, rfl⟩
abbrev main_v156 : Ref sig .tc := ⟨.hbm, 321, rfl⟩
abbrev main_v157 : Ref sig .tc := ⟨.hbm, 322, rfl⟩
abbrev main_v158 : Ref sig .tc := ⟨.hbm, 323, rfl⟩
abbrev main_v159 : Ref sig .tc := ⟨.hbm, 324, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Proof.FfnValue.lean ====
module

public import proofs.«01_k».proof.Defs
public import proofs.«01_k».proof.Proof.Gen.FfnIdeal.Value
public import proofs.«01_k».proof.Proof.Gen.FfnRefIdeal.Run
public import Idealize.ShloMosaic.Lib.Pipeline.Value
public import Idealize.ShloMosaic.Lib.Pointwise
public import Idealize.ShloMosaic.Lib.Claim

/-! The feed-forward call: row `512 t + r` of the result is what point `t` writes in row `r` of its block, and that is the
reference's row: both normalise the row, multiply it with the same weights and gate it by the same logistic. -/

@[expose] public section

noncomputable section

namespace Cert.FfnRefIdeal.Rows

open Cert.FfnRefIdeal Cert.FfnRefIdeal.Gen Idealize.ShloMosaic

/-- The reference's normalised rows. -/
def rms (x : FVec Ideal S65536x1024 .f32) (w : FVec Ideal S1024 .f32) : FVec Ideal S65536x1024 .f32 :=
  (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 w)))

/-- The reference's up projection. -/
def up (x : FVec Ideal S65536x1024 .f32) (w : FVec Ideal S1024 .f32) (win : FVec Ideal S1024x5632 .f32) : FVec Ideal S65536x5632 .f32 :=
  (Host.dotGeneral dot_S65536x1024_S1024x5632_S65536x5632_1_0_0_1_n_n none (rms x w) win)

/-- The reference's result. -/
def ref (x : FVec Ideal S65536x1024 .f32) (w : FVec Ideal S1024 .f32) (win : FVec Ideal S1024x5632 .f32)
    (wout : FVec Ideal S2816x1024 .f32) : FVec Ideal S65536x1024 .f32 :=
  addf x (mulf (broadcastInDim S65536x1024 ![] bcast_S_S65536x1024 (constant S_ .f32 0x3F000000#32)) (Host.dotGeneral dot_S65536x2816_S2816x1024_S65536x1024_1_0_0_1_n_n none (mulf (mulf (extractStridedSlice S65536x2816 ![0, 0] (up x w win) slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] (up x w win) slices_S65536x5632_S65536x2816_0_0)))))) (extractStridedSlice S65536x2816 ![0, 2816] (up x w win) slices_S65536x5632_S65536x2816_0_2816)) wout))

end Cert.FfnRefIdeal.Rows

namespace Cert.FfnIdeal.Rows

open Cert.FfnIdeal Cert.FfnIdeal.Gen Idealize.ShloMosaic Idealize.ShloMosaic.TcCoe Idealize.SL.Sem
open Idealize.ShloMosaic.Pipeline (Dat)
open Cert.FfnRefIdeal.Rows (ref up rms)

theorem zero_sub' (x : EReal) : 0 - x = -x := by rw [sub_eq_add_neg, zero_add]

/-- A row of a block and the row of the array that it holds give the same numbers. -/
theorem pay_eq_ref (x : Vec Ideal S512x1024 .f32) (w : Vec Ideal S1x1024 .f32) (win : Vec Ideal S1024x5632 .bf16)
    (wout : Vec Ideal S2816x1024 .bf16) (X : FVec Ideal S65536x1024 .f32)
    (W : FVec Ideal S1024 .f32) (Win : FVec Ideal S1024x5632 .f32) (Wout : FVec Ideal S2816x1024 .f32) (r : Fin 512) (R : Fin 65536) (l : Fin 1024)
    (hx : ∀ k : Fin 1024, x (ix2 r k) = X (ix2 R k)) (hw : ∀ k : Fin 1024, w (ix2 0 k) = W (ix1 k))
    (hin : win = Win) (hout : wout = Wout) :
    k0_pay1 x w win wout (ix2 r l) = ref X W Win Wout (ix2 R l) := by
  subst hin hout
  pointwise [k0_pay1, ref, up, rms]
  simp only [hx, hw, zero_sub']

variable (m : (ℓ : Loc nD τ sig) → Buf (Elt Ideal) ℓ)

theorem hz : (![0, 0] : Fin 2 → Nat) = fun _ => 0 := funext fun a => by fin_cases a <;> rfl

/-- The body leaves its payload in the output block. -/
theorem out_eq (x : Vec Ideal S512x1024 .f32) (w : Vec Ideal S1x1024 .f32) (win : Vec Ideal S1024x5632 .bf16)
    (wout : Vec Ideal S2816x1024 .bf16) : out0_4 x w win wout = k0_pay1 x w win wout := by
  unfold out0_4
  rw [View.canon_unit_zero hz, View.ld_unit_zero hz, View.ld_unit_zero hz, View.ld_unit_zero hz, View.ld_unit_zero hz]

/-- At point `t` windows 0 and 4 stand at row block `t`. -/
theorem index_eq : ∀ t : Fin cfg0.N, (win0_0.index t 0 = t.val ∧ win0_0.index t 1 = 0) ∧ (win0_4.index t 0 = t.val
    ∧ win0_4.index t 1 = 0) :=
  (by decide +kernel : ∀ t : Fin grid0.N, (win0_0.index t 0 = t.val ∧ win0_0.index t 1 = 0) ∧ (win0_4.index t 0 = t.val
    ∧ win0_4.index t 1 = 0))

/-- The windows of the weights stand at the whole arrays. -/
theorem index_w : ∀ t : Fin cfg0.N, (win0_1.index t 0 = 0 ∧ win0_1.index t 1 = 0) ∧ (win0_2.index t 0 = 0
    ∧ win0_2.index t 1 = 0) ∧ (win0_3.index t 0 = 0 ∧ win0_3.index t 1 = 0) :=
  (by decide +kernel : ∀ t : Fin grid0.N, (win0_1.index t 0 = 0 ∧ win0_1.index t 1 = 0) ∧ (win0_2.index t 0 = 0
    ∧ win0_2.index t 1 = 0) ∧ (win0_3.index t 0 = 0 ∧ win0_3.index t 1 = 0))

theorem lt_N (t : Fin cfg0.N) : t.val < 128 := lt_of_lt_of_eq t.isLt N_0

/-- Row `r` of block `t`. -/
def row (t : Fin cfg0.N) (r : Fin 512) : Fin 65536 := ⟨512 * t.val + r.val, by have := lt_N t; omega⟩

theorem iblk0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(index_eq t).1.1]; omega
  | ⟨1, _⟩ => show win0_0.index t 1 * 1024 + 1 * k.val = k.val; rw [(index_eq t).1.2]; omega

theorem iblk1 (c : Dev nD) (t : Fin cfg0.N) (k : Fin 1024) :
    iblk m c 1 t (ix2 0 k) = m ((c : Thread nD τ).loc main_arg1) (ix1 k) := by
  unfold iblk
  rw [View.read_apply]
  have e : ((cfg0.win 1).blk t).view.emb (ix2 0 k) = ix2 0 k := funext fun a => Fin.ext (by
    match a with
    | ⟨0, _⟩ => show win0_1.index t 0 * 1 + 1 * 0 = 0; rw [(index_w t).1.1]
    | ⟨1, _⟩ => show win0_1.index t 1 * 1024 + 1 * k.val = k.val; rw [(index_w t).1.2]; omega)
  show V m c main_v0 _ = _
  rw [e]
  entry_read
  show shapeCast S1x1024 (m ((c : Thread nD τ).loc main_arg1)) shapeCasts_S1024_S1x1024 (ix2 0 k) = _
  pointwise

theorem iblk2 (c : Dev nD) (t : Fin cfg0.N) :
    (iblk m c 2 t : S1024x5632.Idx → EReal) = m ((c : Thread nD τ).loc main_arg2) := by
  funext j
  unfold iblk
  rw [View.read_apply]
  have e : ((cfg0.win 2).blk t).view.emb j = j := funext fun a => Fin.ext (by
    match a with
    | ⟨0, _⟩ => show win0_2.index t 0 * 1024 + 1 * (j 0).val = (j 0).val; rw [(index_w t).2.1.1]; omega
    | ⟨1, _⟩ => show win0_2.index t 1 * 5632 + 1 * (j 1).val = (j 1).val; rw [(index_w t).2.1.2]; omega)
  show V m c main_v1 _ = _
  rw [e]
  entry_read
  rfl

theorem iblk3 (c : Dev nD) (t : Fin cfg0.N) :
    (iblk m c 3 t : S2816x1024.Idx → EReal) = m ((c : Thread nD τ).loc main_arg3) := by
  funext j
  unfold iblk
  rw [View.read_apply]
  have e : ((cfg0.win 3).blk t).view.emb j = j := funext fun a => Fin.ext (by
    match a with
    | ⟨0, _⟩ => show win0_3.index t 0 * 2816 + 1 * (j 0).val = (j 0).val; rw [(index_w t).2.2.1]; omega
    | ⟨1, _⟩ => show win0_3.index t 1 * 1024 + 1 * (j 1).val = (j 1).val; rw [(index_w t).2.2.2]; omega)
  show V m c main_v2 _ = _
  rw [e]
  entry_read
  rfl

/-- The reference's result at the launch contents. -/
def G (c : Dev nD) : Vec Ideal S65536x1024 .f32 :=
  ref (m ((c : Thread nD τ).loc main_arg0)) (m ((c : Thread nD τ).loc main_arg1)) (m ((c : Thread nD τ).loc main_arg2))
    (m ((c : Thread nD τ).loc main_arg3))

theorem flushed (c : Dev nD) (t : Fin cfg0.N) (hf : (cfg0.win 4).flush t = true) :
    (dats m 0 c).flushed 4 t = ((cfg0.win 4).blk t).view.read (Elt Ideal) (G m c) := by
  rw [Value.flushed4]
  funext j
  obtain ⟨r, l, rfl⟩ : ∃ (r : Fin 512) (l : Fin 1024), j = ix2 r l := ⟨j 0, j 1, ValueIdx.eq_ix2 j⟩
  rw [View.read_apply]
  show out0_4 (iblk m c 0 t) (iblk m c 1 t) (iblk m c 2 t) (iblk m c 3 t) (ix2 r l) = _
  rw [out_eq, pay_eq_ref _ _ _ _ _ _ _ _ r (row t r) l (iblk0 m c t r) (iblk1 m c t) (iblk2 m c t) (iblk3 m c t)]
  refine congrArg _ (funext fun a => Fin.ext ?_)
  match a with
  | ⟨0, _⟩ => show 512 * t.val + r.val = win0_4.index t 0 * 512 + 1 * r.val; rw [(index_eq t).2.1]; omega
  | ⟨1, _⟩ => show l.val = win0_4.index t 1 * 1024 + 1 * l.val; rw [(index_eq t).2.2]; omega

/-- The result array is the reference's. -/
theorem final (c : Dev nD) : (dats m 0 c).arrAt 4 cfg0.N = G m c :=
  (dats m 0 c).arrAt_eq_of_cover 4 _ (flushed m c) fun i => by
    have h0 : (i 0 : Nat) < 65536 := (i 0).isLt
    have h1 : (i 1 : Nat) < 1024 := (i 1).isLt
    refine ⟨⟨(i 0 : Nat) / 512, by rw [show cfg0.N = 128 from N_0]; omega⟩, flush0_4 _, ?_⟩
    generalize ht : (⟨(i 0 : Nat) / 512, _⟩ : Fin cfg0.N) = t
    have htv : t.val = (i 0 : Nat) / 512 := by rw [← ht]
    show i ∈ ((View.whole main_v3).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index_eq t).2.1]; omega
    | ⟨1, _⟩ =>
      show win0_4.index t 1 * 1024 ≤ (i 1 : Nat) ∧ (i 1 : Nat) < win0_4.index t 1 * 1024 + 1024
      rw [(index_eq t).2.2]; omega

end Cert.FfnIdeal.Rows

namespace Cert.Proof
open Idealize.ShloMosaic Idealize.ShloMosaic.TcCoe Idealize.SL.Sem

theorem ffn_algebraic [hFfnIdeal : Cert.FfnIdeal.Facts] [hFfnRefIdeal : Cert.FfnRefIdeal.Facts] :
    Cert.algebraic_FfnIdeal_FfnRefIdeal := by
  pair_intro
  · run_from Cert.FfnIdeal.Value.run_blocks m g
  · run_from Cert.FfnRefIdeal.Value.run m' g'
    exact (Cert.FfnIdeal.Rows.final m c).symm

end Cert.Proof

end
-- ==== Proof.GdnProjValue.lean ====
module

public import proofs.«01_k».proof.Defs
public import proofs.«01_k».proof.Proof.Gen.GdnProjIdeal.Value
public import proofs.«01_k».proof.Proof.Gen.GdnProjRefIdeal.Run
public import Idealize.ShloMosaic.Lib.Pipeline.Value
public import Idealize.ShloMosaic.Lib.Pointwise
public import Idealize.ShloMosaic.Lib.Claim
public import Idealize.ShloMosaic.Lib.KernelVsHost

/-! The input projection of the gated delta-rule mixer: a row of the two results is the normalised row times the columns of the
weight that reference.py splits off, the gate columns spread over 128 lanes each with zeros behind them. -/

@[expose] public section

noncomputable section

namespace Cert.GdnProjRefIdeal.Rows

open Cert.GdnProjRefIdeal Cert.GdnProjRefIdeal.Gen Idealize.ShloMosaic

/-- The reference's normalised rows. -/
def rms (x : FVec Ideal S65536x1024 .f32) (w : FVec Ideal S1024 .f32) : FVec Ideal S65536x1024 .f32 :=
  (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 w)))

/-- The reference's product with the whole weight. -/
def up (x : FVec Ideal S65536x1024 .f32) (w : FVec Ideal S1024 .f32) (win : FVec Ideal S1024x4112 .f32) : FVec Ideal S65536x4112 .f32 :=
  (Host.dotGeneral dot_S65536x1024_S1024x4112_S65536x4112_1_0_0_1_n_n none (rms x w) win)

/-- The reference's first result. -/
def refP (x : FVec Ideal S65536x1024 .f32) (w : FVec Ideal S1024 .f32) (win : FVec Ideal S1024x4112 .f32) : FVec Ideal S65536x4096 .bf16 :=
  truncf .bf16 (extractStridedSlice S65536x4096 ![0, 0] (up x w win) slices_S65536x4112_S65536x4096_0_0) bitsLt_bf16_f32

/-- The reference's second result: the gate inputs. -/
def refG (x : FVec Ideal S65536x1024 .f32) (w : FVec Ideal S1024 .f32) (win : FVec Ideal S1024x4112 .f32) : FVec Ideal S65536x256 .f32 :=
  concatenate S65536x256 1 [⟨S65536x128, (pad S65536x128 ![0, 0] ![0, 120] ![0, 0] (extractStridedSlice S65536x8 ![0, 4096] (up x w win) slices_S65536x4112_S65536x8_0_4096) (sitofp .f32 (constantI S_ 32 0#32)) pads_S65536x8_S65536x128_000_01200 h_S_)⟩, ⟨S65536x128, (pad S65536x128 ![0, 0] ![0, 120] ![0, 0] (extractStridedSlice S65536x8 ![0, 4104] (up x w win) slices_S65536x4112_S65536x8_0_4104) (sitofp .f32 (constantI S_ 32 0#32)) pads_S65536x8_S65536x128_000_01200 h_S_)⟩] concatenates_S65536x128_S65536x128_S65536x256_d1

end Cert.GdnProjRefIdeal.Rows

namespace Cert.GdnProjIdeal.Rows

open Cert.GdnProjIdeal Cert.GdnProjIdeal.Gen Idealize.ShloMosaic Idealize.ShloMosaic.TcCoe Idealize.SL.Sem
open Idealize.ShloMosaic.Pipeline (Dat)
open Cert.GdnProjRefIdeal.Rows (refP refG up rms)

/-- The columns of the weight that the kernel's call takes for the first result. -/
def wP (W : FVec Ideal S1024x4112 .f32) : FVec Ideal S1024x4096 .bf16 :=
  truncf .bf16 (extractStridedSlice S1024x4096 ![0, 0] W slices_S1024x4112_S1024x4096_0_0) bitsLt_bf16_f32

/-- The columns of the weight that the kernel's call takes for the gate inputs. -/
def wG (W : FVec Ideal S1024x4112 .f32) : FVec Ideal S1024x256 .bf16 :=
  truncf .bf16 (concatenate S1024x256 1 [⟨S1024x128, pad S1024x128 ![0, 0] ![0, 120] ![0, 0] (extractStridedSlice S1024x8 ![0, 4096] W slices_S1024x4112_S1024x8_0_4096) (sitofp .f32 (constantI S_ 32 0#32) : FVec Ideal S_ .f32) pads_S1024x8_S1024x128_000_01200 h_S_⟩,
    ⟨S1024x128, pad S1024x128 ![0, 0] ![0, 120] ![0, 0] (extractStridedSlice S1024x8 ![0, 4104] W slices_S1024x4112_S1024x8_0_4104) (sitofp .f32 (constantI S_ 32 0#32) : FVec Ideal S_ .f32) pads_S1024x8_S1024x128_000_01200 h_S_⟩] concatenates_S1024x128_S1024x128_S1024x256_d1) bitsLt_bf16_f32

theorem sitofp_zero' : (FloatOps.sitofp FTy.f32 0#32 : Ideal .f32) = 0 := sitofp_zero

/-- A row of a block and the row of the array that it holds give the same numbers: the first result. -/
theorem payP_eq_ref (x : Vec Ideal S512x1024 .f32) (w : Vec Ideal S1x1024 .f32) (win : Vec Ideal S1024x4096 .bf16)
    (X : FVec Ideal S65536x1024 .f32) (W : FVec Ideal S1024 .f32) (Win : FVec Ideal S1024x4112 .f32) (r : Fin 512) (R : Fin 65536) (l : Fin 4096)
    (hx : ∀ k : Fin 1024, x (ix2 r k) = X (ix2 R k)) (hw : ∀ k : Fin 1024, w (ix2 0 k) = W (ix1 k))
    (hin : win = wP Win) :
    k0_pay2 x w win (ix2 r l) = refP X W Win (ix2 R l) := by
  subst hin
  pointwise [k0_pay1, k0_pay2, refP, up, rms, wP]
  simp only [hx, hw]

/-- The same for the gate inputs. -/
theorem payG_eq_ref (x : Vec Ideal S512x1024 .f32) (w : Vec Ideal S1x1024 .f32) (win : Vec Ideal S1024x256 .bf16)
    (X : FVec Ideal S65536x1024 .f32) (W : FVec Ideal S1024 .f32) (Win : FVec Ideal S1024x4112 .f32) (r : Fin 512) (R : Fin 65536) (l : Fin 256)
    (hx : ∀ k : Fin 1024, x (ix2 r k) = X (ix2 R k)) (hw : ∀ k : Fin 1024, w (ix2 0 k) = W (ix1 k))
    (hin : win = wG Win) :
    k0_pay3 x w win (ix2 r l) = refG X W Win (ix2 R l) := by
  subst hin
  pointwise [k0_pay1, k0_pay3, refG, up, rms, wG]
  simp only [hx, hw, sitofp_zero']
  split_ifs <;> simp only [mul_zero, Finset.sum_const_zero]

variable (m : (ℓ : Loc nD τ sig) → Buf (Elt Ideal) ℓ)

theorem hz : (![0, 0] : Fin 2 → Nat) = fun _ => 0 := funext fun a => by fin_cases a <;> rfl

/-- The body leaves its payloads in the output blocks. -/
theorem out4_eq (x : Vec Ideal S512x1024 .f32) (w : Vec Ideal S1x1024 .f32) (wp : Vec Ideal S1024x4096 .bf16)
    (wg : Vec Ideal S1024x256 .bf16) : out0_4 x w wp wg = k0_pay2 x w wp := by
  unfold out0_4
  rw [View.canon_unit_zero hz, View.ld_unit_zero hz, View.ld_unit_zero hz, View.ld_unit_zero hz]

theorem out5_eq (x : Vec Ideal S512x1024 .f32) (w : Vec Ideal S1x1024 .f32) (wp : Vec Ideal S1024x4096 .bf16)
    (wg : Vec Ideal S1024x256 .bf16) : out0_5 x w wp wg = k0_pay3 x w wg := by
  unfold out0_5
  rw [View.canon_unit_zero hz, View.ld_unit_zero hz, View.ld_unit_zero hz, View.ld_unit_zero hz]

/-- At point `t` windows 0, 4 and 5 stand at row block `t`. -/
theorem index_eq : ∀ t : Fin cfg0.N, (win0_0.index t 0 = t.val ∧ win0_0.index t 1 = 0) ∧ (win0_4.index t 0 = t.val
    ∧ win0_4.index t 1 = 0) ∧ (win0_5.index t 0 = t.val ∧ win0_5.index t 1 = 0) :=
  (by decide +kernel : ∀ t : Fin grid0.N, (win0_0.index t 0 = t.val ∧ win0_0.index t 1 = 0) ∧ (win0_4.index t 0 = t.val
    ∧ win0_4.index t 1 = 0) ∧ (win0_5.index t 0 = t.val ∧ win0_5.index t 1 = 0))

/-- The windows of the weights stand at the whole arrays. -/
theorem index_w : ∀ t : Fin cfg0.N, (win0_1.index t 0 = 0 ∧ win0_1.index t 1 = 0) ∧ (win0_2.index t 0 = 0
    ∧ win0_2.index t 1 = 0) ∧ (win0_3.index t 0 = 0 ∧ win0_3.index t 1 = 0) :=
  (by decide +kernel : ∀ t : Fin grid0.N, (win0_1.index t 0 = 0 ∧ win0_1.index t 1 = 0) ∧ (win0_2.index t 0 = 0
    ∧ win0_2.index t 1 = 0) ∧ (win0_3.index t 0 = 0 ∧ win0_3.index t 1 = 0))

theorem lt_N (t : Fin cfg0.N) : t.val < 128 := lt_of_lt_of_eq t.isLt N_0

/-- Row `r` of block `t`. -/
def row (t : Fin cfg0.N) (r : Fin 512) : Fin 65536 := ⟨512 * t.val + r.val, by have := lt_N t; omega⟩

theorem iblk0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(index_eq t).1.1]; omega
  | ⟨1, _⟩ => show win0_0.index t 1 * 1024 + 1 * k.val = k.val; rw [(index_eq t).1.2]; omega

theorem iblk1 (c : Dev nD) (t : Fin cfg0.N) (k : Fin 1024) :
    iblk m c 1 t (ix2 0 k) = m ((c : Thread nD τ).loc main_arg1) (ix1 k) := by
  unfold iblk
  rw [View.read_apply]
  have e : ((cfg0.win 1).blk t).view.emb (ix2 0 k) = ix2 0 k := funext fun a => Fin.ext (by
    match a with
    | ⟨0, _⟩ => show win0_1.index t 0 * 1 + 1 * 0 = 0; rw [(index_w t).1.1]
    | ⟨1, _⟩ => show win0_1.index t 1 * 1024 + 1 * k.val = k.val; rw [(index_w t).1.2]; omega)
  show V m c main_v5 _ = _
  rw [e]
  entry_read
  show shapeCast S1x1024 (m ((c : Thread nD τ).loc main_arg1)) shapeCasts_S1024_S1x1024 (ix2 0 k) = _
  pointwise

theorem iblk2 (c : Dev nD) (t : Fin cfg0.N) :
    (iblk m c 2 t : S1024x4096.Idx → EReal) = wP (m ((c : Thread nD τ).loc main_arg2)) := by
  funext j
  unfold iblk
  rw [View.read_apply]
  have e : ((cfg0.win 2).blk t).view.emb j = j := funext fun a => Fin.ext (by
    match a with
    | ⟨0, _⟩ => show win0_2.index t 0 * 1024 + 1 * (j 0).val = (j 0).val; rw [(index_w t).2.1.1]; omega
    | ⟨1, _⟩ => show win0_2.index t 1 * 4096 + 1 * (j 1).val = (j 1).val; rw [(index_w t).2.1.2]; omega)
  show V m c main_v7 _ = _
  rw [e]
  entry_read
  rfl

theorem iblk3 (c : Dev nD) (t : Fin cfg0.N) :
    (iblk m c 3 t : S1024x256.Idx → EReal) = wG (m ((c : Thread nD τ).loc main_arg2)) := by
  funext j
  unfold iblk
  rw [View.read_apply]
  have e : ((cfg0.win 3).blk t).view.emb j = j := funext fun a => Fin.ext (by
    match a with
    | ⟨0, _⟩ => show win0_3.index t 0 * 1024 + 1 * (j 0).val = (j 0).val; rw [(index_w t).2.2.1]; omega
    | ⟨1, _⟩ => show win0_3.index t 1 * 256 + 1 * (j 1).val = (j 1).val; rw [(index_w t).2.2.2]; omega)
  show V m c main_v8 _ = _
  rw [e]
  entry_read
  rfl

/-- The reference's result at the launch contents. -/
def GP (c : Dev nD) : Vec Ideal S65536x4096 .bf16 :=
  refP (m ((c : Thread nD τ).loc main_arg0)) (m ((c : Thread nD τ).loc main_arg1)) (m ((c : Thread nD τ).loc main_arg2))

theorem flushedP (c : Dev nD) (t : Fin cfg0.N) (hf : (cfg0.win 4).flush t = true) :
    (dats m 0 c).flushed 4 t = ((cfg0.win 4).blk t).view.read (Elt Ideal) (GP m c) := by
  rw [Value.flushed4]
  funext j
  obtain ⟨r, l, rfl⟩ : ∃ (r : Fin 512) (l : Fin 4096), j = ix2 r l := ⟨j 0, j 1, ValueIdx.eq_ix2 j⟩
  rw [View.read_apply]
  show out0_4 (iblk m c 0 t) (iblk m c 1 t) (iblk m c 2 t) (iblk m c 3 t) (ix2 r l) = _
  rw [out4_eq, payP_eq_ref _ _ _ _ _ _ r (row t r) l (iblk0 m c t r) (iblk1 m c t) (iblk2 m c t)]
  refine congrArg _ (funext fun a => Fin.ext ?_)
  match a with
  | ⟨0, _⟩ => show 512 * t.val + r.val = win0_4.index t 0 * 512 + 1 * r.val; rw [(index_eq t).2.1.1]; omega
  | ⟨1, _⟩ => show l.val = win0_4.index t 1 * 4096 + 1 * l.val; rw [(index_eq t).2.1.2]; omega

/-- The result array is the reference's. -/
theorem finalP (c : Dev nD) : (dats m 0 c).arrAt 4 cfg0.N = GP m c :=
  (dats m 0 c).arrAt_eq_of_cover 4 _ (flushedP m c) fun i => by
    have h0 : (i 0 : Nat) < 65536 := (i 0).isLt
    have h1 : (i 1 : Nat) < 4096 := (i 1).isLt
    refine ⟨⟨(i 0 : Nat) / 512, by rw [show cfg0.N = 128 from N_0]; omega⟩, flush0_4 _, ?_⟩
    generalize ht : (⟨(i 0 : Nat) / 512, _⟩ : Fin cfg0.N) = t
    have htv : t.val = (i 0 : Nat) / 512 := by rw [← ht]
    show i ∈ ((View.whole main_v9_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index_eq t).2.1.1]; omega
    | ⟨1, _⟩ =>
      show win0_4.index t 1 * 4096 ≤ (i 1 : Nat) ∧ (i 1 : Nat) < win0_4.index t 1 * 4096 + 4096
      rw [(index_eq t).2.1.2]; omega

/-- The reference's result at the launch contents. -/
def GG (c : Dev nD) : Vec Ideal S65536x256 .f32 :=
  refG (m ((c : Thread nD τ).loc main_arg0)) (m ((c : Thread nD τ).loc main_arg1)) (m ((c : Thread nD τ).loc main_arg2))

theorem flushedG (c : Dev nD) (t : Fin cfg0.N) (hf : (cfg0.win 5).flush t = true) :
    (dats m 0 c).flushed 5 t = ((cfg0.win 5).blk t).view.read (Elt Ideal) (GG m c) := by
  rw [Value.flushed5]
  funext j
  obtain ⟨r, l, rfl⟩ : ∃ (r : Fin 512) (l : Fin 256), j = ix2 r l := ⟨j 0, j 1, ValueIdx.eq_ix2 j⟩
  rw [View.read_apply]
  show out0_5 (iblk m c 0 t) (iblk m c 1 t) (iblk m c 2 t) (iblk m c 3 t) (ix2 r l) = _
  rw [out5_eq, payG_eq_ref _ _ _ _ _ _ r (row t r) l (iblk0 m c t r) (iblk1 m c t) (iblk3 m c t)]
  refine congrArg _ (funext fun a => Fin.ext ?_)
  match a with
  | ⟨0, _⟩ => show 512 * t.val + r.val = win0_5.index t 0 * 512 + 1 * r.val; rw [(index_eq t).2.2.1]; omega
  | ⟨1, _⟩ => show l.val = win0_5.index t 1 * 256 + 1 * l.val; rw [(index_eq t).2.2.2]; omega

/-- The result array is the reference's. -/
theorem finalG (c : Dev nD) : (dats m 0 c).arrAt 5 cfg0.N = GG m c :=
  (dats m 0 c).arrAt_eq_of_cover 5 _ (flushedG m c) fun i => by
    have h0 : (i 0 : Nat) < 65536 := (i 0).isLt
    have h1 : (i 1 : Nat) < 256 := (i 1).isLt
    refine ⟨⟨(i 0 : Nat) / 512, by rw [show cfg0.N = 128 from N_0]; omega⟩, flush0_5 _, ?_⟩
    generalize ht : (⟨(i 0 : Nat) / 512, _⟩ : Fin cfg0.N) = t
    have htv : t.val = (i 0 : Nat) / 512 := by rw [← ht]
    show i ∈ ((View.whole main_v9_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index_eq t).2.2.1]; omega
    | ⟨1, _⟩ =>
      show win0_5.index t 1 * 256 ≤ (i 1 : Nat) ∧ (i 1 : Nat) < win0_5.index t 1 * 256 + 256
      rw [(index_eq t).2.2.2]; omega

end Cert.GdnProjIdeal.Rows

namespace Cert.Proof
open Idealize.ShloMosaic Idealize.ShloMosaic.TcCoe Idealize.SL.Sem

theorem gdn_proj_algebraic [hGdnProjIdeal : Cert.GdnProjIdeal.Facts] [hGdnProjRefIdeal : Cert.GdnProjRefIdeal.Facts] :
    Cert.algebraic_GdnProjIdeal_GdnProjRefIdeal := by
  pair_intro
  · run_from Cert.GdnProjIdeal.Value.run_blocks m g
  · run_from Cert.GdnProjRefIdeal.Value.run m' g'
    · exact (Cert.GdnProjIdeal.Rows.finalP m c).symm
    · refine Eq.trans ?_ (Cert.GdnProjIdeal.Rows.finalG m c).symm
      change Cert.GdnProjRefIdeal.Rows.refG _ _ _ = Cert.GdnProjRefIdeal.Rows.refG _ _ _
      rw [(hagree c).2.2]

end Cert.Proof

end
-- ==== Proof.GdnRefChain.lean ====
/-
  The text of the gated delta rule's reference, `GdnRefIdeal`, as lists of host operations: @main is 17 stretches, a
  loop (the rows of the triangular solve), a stretch, a second loop (the chunks) and 3 stretches (`main_chain`); either
  loop's body is a chain of stretches (`while0_body_chain`, `while1_body_chain`).
-/
module

public import proofs.«01_k».proof.Defs
public import proofs.«01_k».proof.Proof.Gen.GdnRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1812

noncomputable section

namespace Cert.GdnRefIdeal.Chain

open Cert.GdnRefIdeal Cert.GdnRefIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 4 host operations of @main, in order. -/
abbrev hostOps0 : List (HloOp τ sig (Elt F)) :=
  [ StableHlo.unary main_arg0 main_v0 ((extf .f32 · bitsLt_bf16_f32) : (⟨S16x4096x4096, .bf16⟩ : BufTy).Contents (Elt F) → (⟨S16x4096x4096, .f32⟩ : BufTy).Contents (Elt F)),
    StableHlo.unary main_v0 main_v1 ((extractStridedSlice S16x4096x3072 ![0, 0, 0] · slices_S16x4096x4096_S16x4096x3072_0_0_0) : (⟨S16x4096x4096, .f32⟩ : BufTy).Contents (Elt F) → (⟨S16x4096x3072, .f32⟩ : BufTy).Contents (Elt F)),
    StableHlo.unary main_v0 main_v2 ((extractStridedSlice S16x4096x1024 ![0, 0, 3072] · slices_S16x4096x4096_S16x4096x1024_0_0_3072) : (⟨S16x4096x4096, .f32⟩ : BufTy).Contents (Elt F) → (⟨S16x4096x1024, .f32⟩ : BufTy).Contents (Elt F)),
    StableHlo.nullary main_c (constantI S_ 32 0#32) ]
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub ..⟩
/-- 2 host operations of @_pad (main_call0), in order. -/
abbrev hostOps0_1 : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_v1 : StableHlo.TRef sig ⟨S16x4096x3072, .f32⟩) (.of main_call0_v0 : StableHlo.TRef sig ⟨S_, .f32⟩) (.of main_v3 : StableHlo.TRef sig ⟨S16x4099x3072, .f32⟩) (fun x v => pad S16x4099x3072 ![0, 3, 0] ![0, 0, 0] ![0, 0, 0] x v pads_S16x4096x3072_S16x4099x3072_000_300_000 h_S_) ]
theorem hostOps0_1_sub : (hostOps0_1 : List (HloOp τ sig (Elt F))).Forall fun op => op.bufs ⊆ StableHlo.tcRefs τ sig :=
  ⟨StableHlo.unary_bufs_sub .., StableHlo.binary_bufs_sub ..⟩
/-- 30 host operations of @main, in order. -/
abbrev hostOps0_2 : List (HloOp τ sig (Elt F)) :=
  [ StableHlo.unary main_arg3 main_v4 ((extractStridedSlice S1x3072 ![0, 0] · slices_S4x3072_S1x3072_0_0) : (⟨S4x3072, .f32⟩ : BufTy).Contents (Elt F) → (⟨S1x3072, .f32⟩ : BufTy).Contents (Elt F)),
    StableHlo.reshape main_v4 main_v5 (rfl : (.f32 : EltTy) = .f32) shapeCasts_S1x3072_S3072,
    StableHlo.unary main_v3 main_v6 ((extractStridedSlice S16x4096x3072 ![0, 0, 0] · slices_S16x4099x3072_S16x4096x3072_0_0_0) : (⟨S16x4099x3072, .f32⟩ : BufTy).Contents (Elt F) → (⟨S16x4096x3072, .f32⟩ : BufTy).Contents (Elt F)),
    StableHlo.unary main_v5 main_v7 (broadcastInDim S1x1x3072 ![2] bcast_S3072_S1x1x3072_2 : (⟨S3072, .f32⟩ : BufTy).Contents (Elt F) → (⟨S1x1x3072, .f32⟩ : BufTy).Contents (Elt F)),
    StableHlo.unary main_v7 main_v8 (broadcastInDim S16x4096x3072 ![0, 1, 2] bcast_S1x1x3072_S16x4096x3072_0_1_2 : (⟨S1x1x3072, .f32⟩ : BufTy).Contents (Elt F) → (⟨S16x4096x3072, .f32⟩ : BufTy).Contents (Elt F)),
    StableHlo.binary main_v8 main_v6 main_v9 (mulf : (⟨S16x4096x3072, .f32⟩ : BufTy).Contents (Elt F) → (⟨S16x4096x3072, .f32⟩ : BufTy).Contents (Elt F) → (⟨S16x4096x3072, .f32⟩ : BufTy).Contents (Elt F)),
    StableHlo.nullary main_cst (constant S_ .f32 0x00000000#32),
    StableHlo.unary main_cst main_v10 (broadcastInDim S16x4096x3072 ![] bcast_S_S16x4096x3072 : (⟨S_, .f32⟩ : BufTy).Contents (Elt F) → (⟨S16x4096x3072, .f32⟩ : BufTy).Contents (Elt F)),
    StableHlo.binary main_v10 main_v9 main_v11 (addf : (⟨S16x4096x3072, .f32⟩ : BufTy).Contents (Elt F) → (⟨S16x4096x3072, .f32⟩ : BufTy).Contents (Elt F) → (⟨S16x4096x3072, .f32⟩ : BufTy).Contents (Elt F)),
    StableHlo.unary main_arg3 main_v12 ((extractStridedSlice S1x3072 ![1, 0] · slices_S4x3072_S1x3072_1_0) : (⟨S4x3072, .f32⟩ : BufTy).Contents (Elt F) → (⟨S1x3072, .f32⟩ : BufTy).Contents (Elt F)),
    StableHlo.reshape main_v12 main_v13 (rfl : (.f32 : EltTy) = .f32) shapeCasts_S1x3072_S3072,
    StableHlo.unary main_v3 main_v14 ((extractStridedSlice S16x4096x3072 ![0, 1, 0] · slices_S16x4099x3072_S16x4096x3072_0_1_0) : (⟨S16x4099x3072, .f32⟩ : BufTy).Contents (Elt F) → (⟨S16x4096x3072, .f32⟩ : BufTy).Contents (Elt F)),
    StableHlo.unary main_v13 main_v15 (broadcastInDim S1x1x3072 ![2] bcast_S3072_S1x1x3072_2 : (⟨S3072, .f32⟩ : BufTy).Contents (Elt F) → (⟨S1x1x3072, .f32⟩ : BufTy).Contents (Elt F)),
    StableHlo.unary main_v15 main_v16 (broadcastInDim S16x4096x3072 ![0, 1, 2] bcast_S1x1x3072_S16x4096x3072_0_1_2 : (⟨S1x1x3072, .f32⟩ : BufTy).Contents (Elt F) → (⟨S16x4096x3072, .f32⟩ : BufTy).Contents (Elt F)),
    StableHlo.binary main_v16 main_v14 main_v17 (mulf : (⟨S16x4096x3072, .f32⟩ : BufTy).Contents (Elt F) → (⟨S16x4096x3072, .f32⟩ : BufTy).Contents (Elt F) → (⟨S16x4096x3072, .f32⟩ : BufTy).Contents (Elt F)),
    StableHlo.binary main_v11 main_v17 main_v18 (addf : (⟨S16x4096x3072, .f32⟩ : BufTy).Contents (Elt F) → (⟨S16x4096x3072, .f32⟩ : BufTy).Contents (Elt F) → (⟨S16x4096x3072, .f32⟩ : BufTy).Contents (Elt F)),
    StableHlo.unary main_arg3 main_v19 ((extractStridedSlice S1x3072 ![2, 0] · slices_S4x3072_S1x3072_2_0) : (⟨S4x3072, .f32⟩ : BufTy).Contents (Elt F) → (⟨S1x3072, .f32⟩ : BufTy).Contents (Elt F)),
    StableHlo.reshape main_v19 main_v20 (rfl : (.f32 : EltTy) = .f32) shapeCasts_S1x3072_S3072,
    StableHlo.unary main_v3 main_v21 ((extractStridedSlice S16x4096x3072 ![0, 2, 0] · slices_S16x4099x3072_S16x4096x3072_0_2_0) : (⟨S16x4099x3072, .f32⟩ : BufTy).Contents (Elt F) → (⟨S16x4096x3072, .f32⟩ : BufTy).Contents (Elt F)),
    StableHlo.unary main_v20 main_v22 (broadcastInDim S1x1x3072 ![2] bcast_S3072_S1x1x3072_2 : (⟨S3072, .f32⟩ : BufTy).Contents (Elt F) → (⟨S1x1x3072, .f32⟩ : BufTy).Contents (Elt F)),
    StableHlo.unary main_v22 main_v23 (broadcastInDim S16x4096x3072 ![0, 1, 2] bcast_S1x1x3072_S16x4096x3072_0_1_2 : (⟨S1x1x3072, .f32⟩ : BufTy).Contents (Elt F) → (⟨S16x4096x3072, .f32⟩ : BufTy).Contents (Elt F)),
    StableHlo.binary main_v23 main_v21 main_v24 (mulf : (⟨S16x4096x3072, .f32⟩ : BufTy).Contents (Elt F) → (⟨S16x4096x3072, .f32⟩ : BufTy).Contents (Elt F) → (⟨S16x4096x3072, .f32⟩ : BufTy).Contents (Elt F)),
    StableHlo.binary main_v18 main_v24 main_v25 (addf : (⟨S16x4096x3072, .f32⟩ : BufTy).Contents (Elt F) → (⟨S16x4096x3072, .f32⟩ : BufTy).Contents (Elt F) → (⟨S16x4096x3072, .f32⟩ : BufTy).Contents (Elt F)),
    StableHlo.unary main_arg3 main_v26 ((extractStridedSlice S1x3072 ![3, 0] · slices_S4x3072_S1x3072_3_0) : (⟨S4x3072, .f32⟩ : BufTy).Contents (Elt F) → (⟨S1x3072, .f32⟩ : BufTy).Contents (Elt F)),
    StableHlo.reshape main_v26 main_v27 (rfl : (.f32 : EltTy) = .f32) shapeCasts_S1x3072_S3072,
    StableHlo.unary main_v3 main_v28 ((extractStridedSlice S16x4096x3072 ![0, 3, 0] · slices_S16x4099x3072_S16x4096x3072_0_3_0) : (⟨S16x4099x3072, .f32⟩ : BufTy).Contents (Elt F) → (⟨S16x4096x3072, .f32⟩ : BufTy).Contents (Elt F)),
    StableHlo.unary main_v27 main_v29 (broadcastInDim S1x1x3072 ![2] bcast_S3072_S1x1x3072_2 : (⟨S3072, .f32⟩ : BufTy).Contents (Elt F) → (⟨S1x1x3072, .f32⟩ : BufTy).Contents (Elt F)),
    StableHlo.unary main_v29 main_v30 (broadcastInDim S16x4096x3072 ![0, 1, 2] bcast_S1x1x3072_S16x4096x3072_0_1_2 : (⟨S1x1x3072, .f32⟩ : BufTy).Contents (Elt F) → (⟨S16x4096x3072, .f32⟩ : BufTy).Contents (Elt F)),
    StableHlo.binary main_v30 main_v28 main_v31 (mulf : (⟨S16x4096x3072, .f32⟩ : BufTy).Contents (Elt F) → (⟨S16x4096x3072, .f32⟩ : BufTy).Contents (Elt F) → (⟨S16x4096x3072, .f32⟩ : BufTy).Contents (Elt F)),
    StableHlo.binary main_v25 main_v31 main_v32 (addf : (⟨S16x4096x3072, .f32⟩ : BufTy).Contents (Elt F) → (⟨S16x4096x3072, .f32⟩ : BufTy).Contents (Elt F) → (⟨S16x4096x3072, .f32⟩ : BufTy).Contents (Elt F)) ]
theorem hostOps0_2_sub : (hostOps0_2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub ..⟩
/-- 9 host operations of @silu (main_call1), in order. -/
abbrev hostOps0_3 : List (HloOp τ sig (Elt F)) :=
  [ StableHlo.TRef.unary (.of main_v32 : StableHlo.TRef sig ⟨S16x4096x3072, .f32⟩) (.of main_call1_v0 : StableHlo.TRef sig ⟨S16x4096x3072, .f32⟩) Host.negf,
    StableHlo.TRef.unary (.of main_call1_v0 : StableHlo.TRef sig ⟨S16x4096x3072, .f32⟩) (.of main_call1_v1 : StableHlo.TRef sig ⟨S16x4096x3072, .f32⟩) Host.exp,
    StableHlo.TRef.nullary (.of main_call1_cst : StableHlo.TRef sig ⟨S_, .f32⟩) (constant S_ .f32 0x3F800000#32),
    StableHlo.TRef.unary (.of main_call1_cst : StableHlo.TRef sig ⟨S_, .f32⟩) (.of main_call1_v2 : StableHlo.TRef sig ⟨S16x4096x3072, .f32⟩) (broadcastInDim S16x4096x3072 ![] bcast_S_S16x4096x3072),
    StableHlo.TRef.binary (.of main_call1_v2 : StableHlo.TRef sig ⟨S16x4096x3072, .f32⟩) (.of main_call1_v1 : StableHlo.TRef sig ⟨S16x4096x3072, .f32⟩) (.of main_call1_v3 : StableHlo.TRef sig ⟨S16x4096x3072, .f32⟩) addf,
    StableHlo.TRef.nullary (.of main_call1_cst_0 : StableHlo.TRef sig ⟨S_, .f32⟩) (constant S_ .f32 0x3F800000#32),
    StableHlo.TRef.unary (.of main_call1_cst_0 : StableHlo.TRef sig ⟨S_, .f32⟩) (.of main_call1_v4 : StableHlo.TRef sig ⟨S16x4096x3072, .f32⟩) (broadcastInDim S16x4096x3072 ![] bcast_S_S16x4096x3072),
    StableHlo.TRef.binary (.of main_call1_v4 : StableHlo.TRef sig ⟨S16x4096x3072, .f32⟩) (.of main_call1_v3 : StableHlo.TRef sig ⟨S16x4096x3072, .f32⟩) (.of main_call1_v5 : StableHlo.TRef sig ⟨S16x4096x3072, .f32⟩) Host.divf,
    StableHlo.TRef.binary (.of main_v32 : StableHlo.TRef sig ⟨S16x4096x3072, .f32⟩) (.of main_call1_v5 : StableHlo.TRef sig ⟨S16x4096x3072, .f32⟩) (.of main_v33 : StableHlo.TRef sig ⟨S16x4096x3072, .f32⟩) mulf ]
theorem hostOps0_3_sub : (hostOps0_3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
/-- 18 host operations of @main, in order. -/
abbrev hostOps0_4 : List (HloOp τ sig (Elt F)) :=
  [ StableHlo.unary main_v33 main_v34 ((extractStridedSlice S16x4096x1024 ![0, 0, 0] · slices_S16x4096x3072_S16x4096x1024_0_0_0) : (⟨S16x4096x3072, .f32⟩ : BufTy).Contents (Elt F) → (⟨S16x4096x1024, .f32⟩ : BufTy).Contents (Elt F)),
    StableHlo.unary main_v33 main_v35 ((extractStridedSlice S16x4096x1024 ![0, 0, 1024] · slices_S16x4096x3072_S16x4096x1024_0_0_1024) : (⟨S16x4096x3072, .f32⟩ : BufTy).Contents (Elt F) → (⟨S16x4096x1024, .f32⟩ : BufTy).Contents (Elt F)),
    StableHlo.unary main_v33 main_v36 ((extractStridedSlice S16x4096x1024 ![0, 0, 2048] · slices_S16x4096x3072_S16x4096x1024_0_0_2048) : (⟨S16x4096x3072, .f32⟩ : BufTy).Contents (Elt F) → (⟨S16x4096x1024, .f32⟩ : BufTy).Contents (Elt F)),
    StableHlo.unary main_arg1 main_v37 ((extractStridedSlice S16x4096x8 ![0, 0, 128] · slices_S16x4096x256_S16x4096x8_0_0_128) : (⟨S16x4096x256, .f32⟩ : BufTy).Contents (Elt F) → (⟨S16x4096x8, .f32⟩ : BufTy).Contents (Elt F)),
    StableHlo.unary main_v37 main_v38 (Host.negf : (⟨S16x4096x8, .f32⟩ : BufTy).Contents (Elt F) → (⟨S16x4096x8, .f32⟩ : BufTy).Contents (Elt F)),
    StableHlo.unary main_v38 main_v39 (Host.exp : (⟨S16x4096x8, .f32⟩ : BufTy).Contents (Elt F) → (⟨S16x4096x8, .f32⟩ : BufTy).Contents (Elt F)),
    StableHlo.nullary main_cst_0 (constant S_ .f32 0x3F800000#32),
    StableHlo.unary main_cst_0 main_v40 (broadcastInDim S16x4096x8 ![] bcast_S_S16x4096x8 : (⟨S_, .f32⟩ : BufTy).Contents (Elt F) → (⟨S16x4096x8, .f32⟩ : BufTy).Contents (Elt F)),
    StableHlo.binary main_v40 main_v39 main_v41 (addf : (⟨S16x4096x8, .f32⟩ : BufTy).Contents (Elt F) → (⟨S16x4096x8, .f32⟩ : BufTy).Contents (Elt F) → (⟨S16x4096x8, .f32⟩ : BufTy).Contents (Elt F)),
    StableHlo.nullary main_cst_1 (constant S_ .f32 0x3F800000#32),
    StableHlo.unary main_cst_1 main_v42 (broadcastInDim S16x4096x8 ![] bcast_S_S16x4096x8 : (⟨S_, .f32⟩ : BufTy).Contents (Elt F) → (⟨S16x4096x8, .f32⟩ : BufTy).Contents (Elt F)),
    StableHlo.binary main_v42 main_v41 main_v43 (Host.divf : (⟨S16x4096x8, .f32⟩ : BufTy).Contents (Elt F) → (⟨S16x4096x8, .f32⟩ : BufTy).Contents (Elt F) → (⟨S16x4096x8, .f32⟩ : BufTy).Contents (Elt F)),
    StableHlo.unary main_arg4 main_v44 (Host.exp : (⟨S8, .f32⟩ : BufTy).Contents (Elt F) → (⟨S8, .f32⟩ : BufTy).Contents (Elt F)),
    StableHlo.unary main_v44 main_v45 (Host.negf : (⟨S8, .f32⟩ : BufTy).Contents (Elt F) → (⟨S8, .f32⟩ : BufTy).Contents (Elt F)),
    StableHlo.unary main_arg1 main_v46 ((extractStridedSlice S16x4096x8 ![0, 0, 0] · slices_S16x4096x256_S16x4096x8_0_0_0) : (⟨S16x4096x256, .f32⟩ : BufTy).Contents (Elt F) → (⟨S16x4096x8, .f32⟩ : BufTy).Contents (Elt F)),
    StableHlo.unary main_arg5 main_v47 (broadcastInDim S1x1x8 ![2] bcast_S8_S1x1x8_2 : (⟨S8, .f32⟩ : BufTy).Contents (Elt F) → (⟨S1x1x8, .f32⟩ : BufTy).Contents (Elt F)),
    StableHlo.unary main_v47 main_v48 (broadcastInDim S16x4096x8 ![0, 1, 2] bcast_S1x1x8_S16x4096x8_0_1_2 : (⟨S1x1x8, .f32⟩ : BufTy).Contents (Elt F) → (⟨S16x4096x8, .f32⟩ : BufTy).Contents (Elt F)),
    StableHlo.binary main_v46 main_v48 main_v49 (addf : (⟨S16x4096x8, .f32⟩ : BufTy).Contents (Elt F) → (⟨S16x4096x8, .f32⟩ : BufTy).Contents (Elt F) → (⟨S16x4096x8, .f32⟩ : BufTy).Contents (Elt F)) ]
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub ..⟩
/-- 14 host operations of @softplus (main_call2), in order. -/
abbrev hostOps0_5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S16x4096x8, .f32⟩) (broadcastInDim S16x4096x8 ![] bcast_S_S16x4096x8),
    StableHlo.TRef.binary (.of main_v49 : StableHlo.TRef sig ⟨S16x4096x8, .f32⟩) (.of main_call2_v0 : StableHlo.TRef sig ⟨S16x4096x8, .f32⟩) (.of main_call2_v1 : StableHlo.TRef sig ⟨S16x4096x8, .f32⟩) maximumf,
    StableHlo.TRef.unary (.of main_call2_cst : StableHlo.TRef sig ⟨S_, .f32⟩) (.of main_call2_v2 : StableHlo.TRef sig ⟨S16x4096x8, .f32⟩) (broadcastInDim S16x4096x8 ![] bcast_S_S16x4096x8),
    StableHlo.TRef.binary (.of main_v49 : StableHlo.TRef sig ⟨S16x4096x8, .f32⟩) (.of main_call2_v2 : StableHlo.TRef sig ⟨S16x4096x8, .f32⟩) (.of main_call2_v3 : StableHlo.TRef sig ⟨S16x4096x8, .f32⟩) subf,
    StableHlo.TRef.binary (.of main_call2_v3 : StableHlo.TRef sig ⟨S16x4096x8, .f32⟩) (.of main_call2_v3 : StableHlo.TRef sig ⟨S16x4096x8, .f32⟩) (.of main_call2_v4 : StableHlo.TRef sig ⟨S16x4096x8, .i1⟩) (cmpf .une),
    StableHlo.TRef.unary (.of main_call2_cst : StableHlo.TRef sig ⟨S_, .f32⟩) (.of main_call2_v5 : StableHlo.TRef sig ⟨S16x4096x8, .f32⟩) (broadcastInDim S16x4096x8 ![] bcast_S_S16x4096x8),
    StableHlo.TRef.binary (.of main_v49 : StableHlo.TRef sig ⟨S16x4096x8, .f32⟩) (.of main_call2_v5 : StableHlo.TRef sig ⟨S16x4096x8, .f32⟩) (.of main_call2_v6 : StableHlo.TRef sig ⟨S16x4096x8, .f32⟩) addf,
    StableHlo.TRef.unary (.of main_call2_v3 : StableHlo.TRef sig ⟨S16x4096x8, .f32⟩) (.of main_call2_v7 : StableHlo.TRef sig ⟨S16x4096x8, .f32⟩) Host.absf,
    StableHlo.TRef.unary (.of main_call2_v7 : StableHlo.TRef sig ⟨S16x4096x8, .f32⟩) (.of main_call2_v8 : StableHlo.TRef sig ⟨S16x4096x8, .f32⟩) Host.negf,
    StableHlo.TRef.unary (.of main_call2_v8 : StableHlo.TRef sig ⟨S16x4096x8, .f32⟩) (.of main_call2_v9 : StableHlo.TRef sig ⟨S16x4096x8, .f32⟩) Host.exp,
    StableHlo.TRef.unary (.of main_call2_v9 : StableHlo.TRef sig ⟨S16x4096x8, .f32⟩) (.of main_call2_v10 : StableHlo.TRef sig ⟨S16x4096x8, .f32⟩) Host.log1p,
    StableHlo.TRef.binary (.of main_call2_v1 : StableHlo.TRef sig ⟨S16x4096x8, .f32⟩) (.of main_call2_v10 : StableHlo.TRef sig ⟨S16x4096x8, .f32⟩) (.of main_call2_v11 : StableHlo.TRef sig ⟨S16x4096x8, .f32⟩) addf,
    StableHlo.TRef.ternary (.of main_call2_v4 : StableHlo.TRef sig ⟨S16x4096x8, .i1⟩) (.of main_call2_v6 : StableHlo.TRef sig ⟨S16x4096x8, .f32⟩) (.of main_call2_v11 : StableHlo.TRef sig ⟨S16x4096x8, .f32⟩) (.of main_v50 : StableHlo.TRef sig ⟨S16x4096x8, .f32⟩) select ]
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
/-- 36 host operations of @main, in order. -/
abbrev hostOps0_6 : List (HloOp τ sig (Elt F)) :=
  ( StableHlo.unary main_v45 main_v51 (broadcastInDim S1x1x8 ![2] bcast_S8_S1x1x8_2 : (⟨S8, .f32⟩ : BufTy).Contents (Elt F) → (⟨S1x1x8, .f32⟩ : BufTy).Contents (Elt F))
  :: StableHlo.unary main_v51 main_v52 (broadcastInDim S16x4096x8 ![0, 1, 2] bcast_S1x1x8_S16x4096x8_0_1_2 : (⟨S1x1x8, .f32⟩ : BufTy).Contents (Elt F) → (⟨S16x4096x8, .f32⟩ : BufTy).Contents (Elt F))
  :: StableHlo.binary main_v52 main_v50 main_v53 (mulf : (⟨S16x4096x8, .f32⟩ : BufTy).Contents (Elt F) → (⟨S16x4096x8, .f32⟩ : BufTy).Contents (Elt F) → (⟨S16x4096x8, .f32⟩ : BufTy).Contents (Elt F))
  :: StableHlo.reshape main_v34 main_v54 (rfl : (.f32 : EltTy) = .f32) shapeCasts_S16x4096x1024_S16x64x64x8x128
  :: StableHlo.unary main_v54 main_v55 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F))
  :: StableHlo.binary main_v55 main_v55 main_v56 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.nullary main_cst_2 (constant S_ .f32 0x00000000#32)
  :: StableHlo.binary main_v56 main_cst_2 main_v57 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F))
  :: StableHlo.unary main_v57 main_v58 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F))
  :: StableHlo.nullary main_cst_3 (constant S_ .f32 0x358637BD#32)
  :: StableHlo.unary main_cst_3 main_v59 (broadcastInDim S16x8x64x64x1 ![] bcast_S_S16x8x64x64x1 : (⟨S_, .f32⟩ : BufTy).Contents (Elt F) → (⟨S16x8x64x64x1, .f32⟩ : BufTy).Contents (Elt F))
  :: StableHlo.binary main_v58 main_v59 main_v60 (addf : (⟨S16x8x64x64x1, .f32⟩ : BufTy).Contents (Elt F) → (⟨S16x8x64x64x1, .f32⟩ : BufTy).Contents (Elt F) → (⟨S16x8x64x64x1, .f32⟩ : BufTy).Contents (Elt F))
  :: StableHlo.unary main_v60 main_v61 (Host.rsqrt : (⟨S16x8x64x64x1, .f32⟩ : BufTy).Contents (Elt F) → (⟨S16x8x64x64x1, .f32⟩ : BufTy).Contents (Elt F))
  :: StableHlo.unary main_v61 main_v62 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F))
  :: StableHlo.binary main_v55 main_v62 main_v63 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.reshape main_v35 main_v64 (rfl : (.f32 : EltTy) = .f32) shapeCasts_S16x4096x1024_S16x64x64x8x128
  :: StableHlo.unary main_v64 main_v65 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F))
  :: StableHlo.binary main_v65 main_v65 main_v66 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.nullary main_cst_4 (constant S_ .f32 0x00000000#32)
  :: StableHlo.binary main_v66 main_cst_4 main_v67 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F))
  :: StableHlo.unary main_v67 main_v68 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F))
  :: StableHlo.nullary main_cst_5 (constant S_ .f32 0x358637BD#32)
  :: StableHlo.unary main_cst_5 main_v69 (broadcastInDim S16x8x64x64x1 ![] bcast_S_S16x8x64x64x1 : (⟨S_, .f32⟩ : BufTy).Contents (Elt F) → (⟨S16x8x64x64x1, .f32⟩ : BufTy).Contents (Elt F))
  :: StableHlo.binary main_v68 main_v69 main_v70 (addf : (⟨S16x8x64x64x1, .f32⟩ : BufTy).Contents (Elt F) → (⟨S16x8x64x64x1, .f32⟩ : BufTy).Contents (Elt F) → (⟨S16x8x64x64x1, .f32⟩ : BufTy).Contents (Elt F))
  :: StableHlo.unary main_v70 main_v71 (Host.rsqrt : (⟨S16x8x64x64x1, .f32⟩ : BufTy).Contents (Elt F) → (⟨S16x8x64x64x1, .f32⟩ : BufTy).Contents (Elt F))
  :: StableHlo.unary main_v71 main_v72 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F))
  :: StableHlo.binary main_v65 main_v72 main_v73 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.reshape main_v36 main_v74 (rfl : (.f32 : EltTy) = .f32) shapeCasts_S16x4096x1024_S16x64x64x8x128
  :: StableHlo.unary main_v74 main_v75 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F))
  :: StableHlo.reshape main_v43 main_v76 (rfl : (.f32 : EltTy) = .f32) shapeCasts_S16x4096x8_S16x64x64x8
  :: StableHlo.unary main_v76 main_v77 ((transpose S16x8x64x64 [0, 3, 1, 2] · transposes_S16x64x64x8_S16x8x64x64_0_3_1_2) : (⟨S16x64x64x8, .f32⟩ : BufTy).Contents (Elt F) → (⟨S16x8x64x64, .f32⟩ : BufTy).Contents (Elt F))
  :: StableHlo.reshape main_v53 main_v78 (rfl : (.f32 : EltTy) = .f32) shapeCasts_S16x4096x8_S16x64x64x8
  :: StableHlo.unary main_v78 main_v79 ((transpose S16x8x64x64 [0, 3, 1, 2] · transposes_S16x64x64x8_S16x8x64x64_0_3_1_2) : (⟨S16x64x64x8, .f32⟩ : BufTy).Contents (Elt F) → (⟨S16x8x64x64, .f32⟩ : BufTy).Contents (Elt F))
  :: StableHlo.nullary main_cst_6 (constant S_ .f32 0x3DB504F3#32)
  :: StableHlo.unary main_cst_6 main_v80 (broadcastInDim S16x8x64x64x128 ![] bcast_S_S16x8x64x64x128 : (⟨S_, .f32⟩ : BufTy).Contents (Elt F) → (⟨S16x8x64x64x128, .f32⟩ : BufTy).Contents (Elt F))
  :: StableHlo.binary main_v63 main_v80 main_v81 (mulf : (⟨S16x8x64x64x128, .f32⟩ : BufTy).Contents (Elt F) → (⟨S16x8x64x64x128, .f32⟩ : BufTy).Contents (Elt F) → (⟨S16x8x64x64x128, .f32⟩ : BufTy).Contents (Elt F))
  :: [] )
theorem hostOps0_6_sub : (hostOps0_6 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub ..⟩
/-- 3 host operations of @cumsum (main_call3), in order. -/
abbrev hostOps0_7 : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v79 : StableHlo.TRef sig ⟨S16x8x64x64, .f32⟩) (.of main_call3_call0_v0 : StableHlo.TRef sig ⟨S_, .f32⟩) (.of main_v82 : StableHlo.TRef sig ⟨S16x8x64x64, .f32⟩) (fun x v => Host.reduceWindowAdd ![1, 1, 1, 64] ![1, 1, 1, 1] ![0, 0, 0, 63] ![0, 0, 0, 0] x v reduceWindows_S16x8x64x64_S16x8x64x64_w1s1p0_0_w1s1p0_0_w1s1p0_0_w64s1p63_0 h_S_) ]
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub ..⟩
/-- 4 host operations of @main, in order. -/
abbrev hostOps0_8 : List (HloOp τ sig (Elt F)) :=
  [ StableHlo.unary main_v82 main_v83 ((extractStridedSlice S16x8x64x1 ![0, 0, 0, 63] · slices_S16x8x64x64_S16x8x64x1_0_0_0_63) : (⟨S16x8x64x64, .f32⟩ : BufTy).Contents (Elt F) → (⟨S16x8x64x1, .f32⟩ : BufTy).Contents (Elt F)),
    StableHlo.reshape main_v83 main_v84 (rfl : (.f32 : EltTy) = .f32) shapeCasts_S16x8x64x1_S16x8x64,
    StableHlo.nullary main_c_7 (constantI S_ 1 1#1),
    StableHlo.unary main_c_7 main_v85 (broadcastInDim S64x64 ![] bcast_S_S64x64 : (⟨S_, .i1⟩ : BufTy).Contents (Elt F) → (⟨S64x64, .i1⟩ : BufTy).Contents (Elt F)) ]
theorem hostOps0_8_sub : (hostOps0_8 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub ..⟩
/-- 9 host operations of @tril (main_call4), in order. -/
abbrev hostOps0_9 : List (HloOp τ sig (Elt F)) :=
  [ StableHlo.TRef.nullary (.of main_call4_v0 : StableHlo.TRef sig ⟨S64x64, .i32⟩) (iotaInDim S64x64 32 0),
    StableHlo.TRef.nullary (.of main_call4_c : StableHlo.TRef sig ⟨S_, .i32⟩) (constantI S_ 32 0#32),
    StableHlo.TRef.unary (.of main_call4_c : StableHlo.TRef sig ⟨S_, .i32⟩) (.of main_call4_v1 : StableHlo.TRef sig ⟨S64x64, .i32⟩) (broadcastInDim S64x64 ![] bcast_S_S64x64),
    StableHlo.TRef.binary (.of main_call4_v0 : StableHlo.TRef sig ⟨S64x64, .i32⟩) (.of main_call4_v1 : StableHlo.TRef sig ⟨S64x64, .i32⟩) (.of main_call4_v2 : StableHlo.TRef sig ⟨S64x64, .i32⟩) addi,
    StableHlo.TRef.nullary (.of main_call4_v3 : StableHlo.TRef sig ⟨S64x64, .i32⟩) (iotaInDim S64x64 32 1),
    StableHlo.TRef.binary (.of main_call4_v2 : StableHlo.TRef sig ⟨S64x64, .i32⟩) (.of main_call4_v3 : StableHlo.TRef sig ⟨S64x64, .i32⟩) (.of main_call4_v4 : StableHlo.TRef sig ⟨S64x64, .i1⟩) (cmpi .sge),
    StableHlo.TRef.nullary (.of main_call4_c_0 : StableHlo.TRef sig ⟨S_, .i1⟩) (constantI S_ 1 0#1),
    StableHlo.TRef.unary (.of main_call4_c_0 : StableHlo.TRef sig ⟨S_, .i1⟩) (.of main_call4_v5 : StableHlo.TRef sig ⟨S64x64, .i1⟩) (broadcastInDim S64x64 ![] bcast_S_S64x64),
    StableHlo.TRef.ternary (.of main_call4_v4 : StableHlo.TRef sig ⟨S64x64, .i1⟩) (.of main_v85 : StableHlo.TRef sig ⟨S64x64, .i1⟩) (.of main_call4_v5 : StableHlo.TRef sig ⟨S64x64, .i1⟩) (.of main_v86 : StableHlo.TRef sig ⟨S64x64, .i1⟩) select ]
theorem hostOps0_9_sub : (hostOps0_9 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
/-- 2 host operations of @main, in order. -/
abbrev hostOps0_10 : List (HloOp τ sig (Elt F)) :=
  [ StableHlo.nullary main_c_8 (constantI S_ 1 1#1),
    StableHlo.unary main_c_8 main_v87 (broadcastInDim S64x64 ![] bcast_S_S64x64 : (⟨S_, .i1⟩ : BufTy).Contents (Elt F) → (⟨S64x64, .i1⟩ : BufTy).Contents (Elt F)) ]
theorem hostOps0_10_sub : (hostOps0_10 : List (HloOp τ sig (Elt F))).Forall fun op => op.bufs ⊆ StableHlo.tcRefs τ sig :=
  ⟨StableHlo.nullary_bufs_sub .., StableHlo.unary_bufs_sub ..⟩
/-- 9 host operations of @tril_1 (main_call5), in order. -/
abbrev hostOps0_11 : List (HloOp τ sig (Elt F)) :=
  [ StableHlo.TRef.nullary (.of main_call5_v0 : StableHlo.TRef sig ⟨S64x64, .i32⟩) (iotaInDim S64x64 32 0),
    StableHlo.TRef.nullary (.of main_call5_c : StableHlo.TRef sig ⟨S_, .i32⟩) (constantI S_ 32 4294967295#32),
    StableHlo.TRef.unary (.of main_call5_c : StableHlo.TRef sig ⟨S_, .i32⟩) (.of main_call5_v1 : StableHlo.TRef sig ⟨S64x64, .i32⟩) (broadcastInDim S64x64 ![] bcast_S_S64x64),
    StableHlo.TRef.binary (.of main_call5_v0 : StableHlo.TRef sig ⟨S64x64, .i32⟩) (.of main_call5_v1 : StableHlo.TRef sig ⟨S64x64, .i32⟩) (.of main_call5_v2 : StableHlo.TRef sig ⟨S64x64, .i32⟩) addi,
    StableHlo.TRef.nullary (.of main_call5_v3 : StableHlo.TRef sig ⟨S64x64, .i32⟩) (iotaInDim S64x64 32 1),
    StableHlo.TRef.binary (.of main_call5_v2 : StableHlo.TRef sig ⟨S64x64, .i32⟩) (.of main_call5_v3 : StableHlo.TRef sig ⟨S64x64, .i32⟩) (.of main_call5_v4 : StableHlo.TRef sig ⟨S64x64, .i1⟩) (cmpi .sge),
    StableHlo.TRef.nullary (.of main_call5_c_0 : StableHlo.TRef sig ⟨S_, .i1⟩) (constantI S_ 1 0#1),
    StableHlo.TRef.unary (.of main_call5_c_0 : StableHlo.TRef sig ⟨S_, .i1⟩) (.of main_call5_v5 : StableHlo.TRef sig ⟨S64x64, .i1⟩) (broadcastInDim S64x64 ![] bcast_S_S64x64),
    StableHlo.TRef.ternary (.of main_call5_v4 : StableHlo.TRef sig ⟨S64x64, .i1⟩) (.of main_v87 : StableHlo.TRef sig ⟨S64x64, .i1⟩) (.of main_call5_v5 : StableHlo.TRef sig ⟨S64x64, .i1⟩) (.of main_v88 : StableHlo.TRef sig ⟨S64x64, .i1⟩) select ]
theorem hostOps0_11_sub : (hostOps0_11 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
/-- 10 host operations of @main, in order. -/
abbrev hostOps0_12 : List (HloOp τ sig (Elt F)) :=
  [ StableHlo.unary main_v82 main_v89 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v82 main_v90 (broadcastInDim S16x8x64x1x64 ![0, 1, 2, 4] bcast_S16x8x64x64_S16x8x64x1x64_0_1_2_4 : (⟨S16x8x64x64, .f32⟩ : BufTy).Contents (Elt F) → (⟨S16x8x64x1x64, .f32⟩ : BufTy).Contents (Elt F)),
    StableHlo.unary main_v89 main_v91 (broadcastInDim S16x8x64x64x64 ![0, 1, 2, 3, 4] bcast_S16x8x64x64x1_S16x8x64x64x64_0_1_2_3_4 : (⟨S16x8x64x64x1, .f32⟩ : BufTy).Contents (Elt F) → (⟨S16x8x64x64x64, .f32⟩ : BufTy).Contents (Elt F)),
    StableHlo.unary main_v90 main_v92 (broadcastInDim S16x8x64x64x64 ![0, 1, 2, 3, 4] bcast_S16x8x64x1x64_S16x8x64x64x64_0_1_2_3_4 : (⟨S16x8x64x1x64, .f32⟩ : BufTy).Contents (Elt F) → (⟨S16x8x64x64x64, .f32⟩ : BufTy).Contents (Elt F)),
    StableHlo.binary main_v91 main_v92 main_v93 (subf : (⟨S16x8x64x64x64, .f32⟩ : BufTy).Contents (Elt F) → (⟨S16x8x64x64x64, .f32⟩ : BufTy).Contents (Elt F) → (⟨S16x8x64x64x64, .f32⟩ : BufTy).Contents (Elt F)),
    StableHlo.nullary main_cst_9 (constant S_ .f32 0x00000000#32),
    StableHlo.unary main_cst_9 main_v94 (broadcastInDim S16x8x64x64x64 ![] bcast_S_S16x8x64x64x64 : (⟨S_, .f32⟩ : BufTy).Contents (Elt F) → (⟨S16x8x64x64x64, .f32⟩ : BufTy).Contents (Elt F)),
    StableHlo.binary main_v93 main_v94 main_v95 (minimumf : (⟨S16x8x64x64x64, .f32⟩ : BufTy).Contents (Elt F) → (⟨S16x8x64x64x64, .f32⟩ : BufTy).Contents (Elt F) → (⟨S16x8x64x64x64, .f32⟩ : BufTy).Contents (Elt F)),
    StableHlo.unary main_v95 main_v96 (Host.exp : (⟨S16x8x64x64x64, .f32⟩ : BufTy).Contents (Elt F) → (⟨S16x8x64x64x64, .f32⟩ : BufTy).Contents (Elt F)),
    StableHlo.nullary main_cst_10 (constant S_ .f32 0x00000000#32) ]
theorem hostOps0_12_sub : (hostOps0_12 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
/-- 4 host operations of @_where (main_call6), in order. -/
abbrev hostOps0_13 : List (HloOp τ sig (Elt F)) :=
  [ StableHlo.TRef.unary (.of main_cst_10 : StableHlo.TRef sig ⟨S_, .f32⟩) (.of main_call6_v0 : StableHlo.TRef sig ⟨S_, .f32⟩) id,
    StableHlo.TRef.unary (.of main_v86 : StableHlo.TRef sig ⟨S64x64, .i1⟩) (.of main_call6_v1 : StableHlo.TRef sig ⟨S16x8x64x64x64, .i1⟩) (broadcastInDim S16x8x64x64x64 ![3, 4] bcast_S64x64_S16x8x64x64x64_3_4),
    StableHlo.TRef.unary (.of main_call6_v0 : StableHlo.TRef sig ⟨S_, .f32⟩) (.of main_call6_v2 : StableHlo.TRef sig ⟨S16x8x64x64x64, .f32⟩) (broadcastInDim S16x8x64x64x64 ![] bcast_S_S16x8x64x64x64),
    StableHlo.TRef.ternary (.of main_call6_v1 : StableHlo.TRef sig ⟨S16x8x64x64x64, .i1⟩) (.of main_v96 : StableHlo.TRef sig ⟨S16x8x64x64x64, .f32⟩) (.of main_call6_v2 : StableHlo.TRef sig ⟨S16x8x64x64x64, .f32⟩) (.of main_v97 : StableHlo.TRef sig ⟨S16x8x64x64x64, .f32⟩) select ]
theorem hostOps0_13_sub : (hostOps0_13 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 6 host operations of @main, in order. -/
abbrev hostOps0_14 : List (HloOp τ sig (Elt F)) :=
  [ StableHlo.unary main_v77 main_v98 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v98 main_v99 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v73 main_v99 main_v100 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.binary main_v100 main_v73 main_v101 ((fun l r => Host.dotGeneral dot_S16x8x64x64x128_S16x8x64x64x128_S16x8x64x64x64_4_4_3_3_012_012 none l r) : (⟨S16x8x64x64x128, .f32⟩ : BufTy).Contents (Elt F) → (⟨S16x8x64x64x128, .f32⟩ : BufTy).Contents (Elt F) → (⟨S16x8x64x64x64, .f32⟩ : BufTy).Contents (Elt F)),
    StableHlo.binary main_v101 main_v97 main_v102 (mulf : (⟨S16x8x64x64x64, .f32⟩ : BufTy).Contents (Elt F) → (⟨S16x8x64x64x64, .f32⟩ : BufTy).Contents (Elt F) → (⟨S16x8x64x64x64, .f32⟩ : BufTy).Contents (Elt F)),
    StableHlo.nullary main_cst_11 (constant S_ .f32 0x00000000#32) ]
theorem hostOps0_14_sub : (hostOps0_14 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.nullary_bufs_sub ..⟩
/-- 4 host operations of @_where (main_call7), in order. -/
abbrev hostOps0_15 : List (HloOp τ sig (Elt F)) :=
  [ StableHlo.TRef.unary (.of main_cst_11 : StableHlo.TRef sig ⟨S_, .f32⟩) (.of main_call7_v0 : StableHlo.TRef sig ⟨S_, .f32⟩) id,
    StableHlo.TRef.unary (.of main_v88 : StableHlo.TRef sig ⟨S64x64, .i1⟩) (.of main_call7_v1 : StableHlo.TRef sig ⟨S16x8x64x64x64, .i1⟩) (broadcastInDim S16x8x64x64x64 ![3, 4] bcast_S64x64_S16x8x64x64x64_3_4),
    StableHlo.TRef.unary (.of main_call7_v0 : StableHlo.TRef sig ⟨S_, .f32⟩) (.of main_call7_v2 : StableHlo.TRef sig ⟨S16x8x64x64x64, .f32⟩) (broadcastInDim S16x8x64x64x64 ![] bcast_S_S16x8x64x64x64),
    StableHlo.TRef.ternary (.of main_call7_v1 : StableHlo.TRef sig ⟨S16x8x64x64x64, .i1⟩) (.of main_v102 : StableHlo.TRef sig ⟨S16x8x64x64x64, .f32⟩) (.of main_call7_v2 : StableHlo.TRef sig ⟨S16x8x64x64x64, .f32⟩) (.of main_v103 : StableHlo.TRef sig ⟨S16x8x64x64x64, .f32⟩) select ]
theorem hostOps0_15_sub : (hostOps0_15 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 19 host operations of @main, in order. -/
abbrev hostOps0_16 : List (HloOp τ sig (Elt F)) :=
  [ StableHlo.unary main_v77 main_v104 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v104 main_v105 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v75 main_v105 main_v106 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_v82 main_v107 (Host.exp : (⟨S16x8x64x64, .f32⟩ : BufTy).Contents (Elt F) → (⟨S16x8x64x64, .f32⟩ : BufTy).Contents (Elt F)),
    StableHlo.unary main_v107 main_v108 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v108 main_v109 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v100 main_v109 main_v110 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.binary main_v106 main_v110 main_v111 ((fun a b => concatenate S16x8x64x64x256 4 [⟨S16x8x64x64x128, a⟩, ⟨S16x8x64x64x128, b⟩] concatenates_S16x8x64x64x128_S16x8x64x64x128_S16x8x64x64x256_d4) : (⟨S16x8x64x64x128, .f32⟩ : BufTy).Contents (Elt F) → (⟨S16x8x64x64x128, .f32⟩ : BufTy).Contents (Elt F) → (⟨S16x8x64x64x256, .f32⟩ : BufTy).Contents (Elt F)),
    StableHlo.nullary main_v112 (iotaInDim S64x1 32 0),
    StableHlo.nullary main_cst_12 (constant S_ .f32 0x00000000#32),
    StableHlo.unary main_cst_12 main_v113 (broadcastInDim S16x8x64x64x256 ![] bcast_S_S16x8x64x64x256 : (⟨S_, .f32⟩ : BufTy).Contents (Elt F) → (⟨S16x8x64x64x256, .f32⟩ : BufTy).Contents (Elt F)),
    StableHlo.nullary main_c_13 (constantI S_ 32 0#32),
    StableHlo.nullary main_c_14 (constantI S_ 32 0#32),
    StableHlo.unary main_v112 main_v114_0 id,
    StableHlo.unary main_v103 main_v114_1 id,
    StableHlo.unary main_v111 main_v114_2 id,
    StableHlo.unary main_c_14 main_v114_3 id,
    StableHlo.unary main_c_13 main_v114_4 id,
    StableHlo.unary main_v113 main_v114_5 id ]
theorem hostOps0_16_sub : (hostOps0_16 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 36 host operations of @main, in order. -/
abbrev hostOps0_17 : List (HloOp τ sig (Elt F)) :=
  ( StableHlo.unary main_v114_5 main_v115 ((extractStridedSlice S16x8x64x64x128 ![0, 0, 0, 0, 0] · slices_S16x8x64x64x256_S16x8x64x64x128_0_0_0_0_0) : (⟨S16x8x64x64x256, .f32⟩ : BufTy).Contents (Elt F) → (⟨S16x8x64x64x128, .f32⟩ : BufTy).Contents (Elt F))
  :: StableHlo.unary main_v114_5 main_v116 ((extractStridedSlice S16x8x64x64x128 ![0, 0, 0, 0, 128] · slices_S16x8x64x64x256_S16x8x64x64x128_0_0_0_0_128) : (⟨S16x8x64x64x256, .f32⟩ : BufTy).Contents (Elt F) → (⟨S16x8x64x64x128, .f32⟩ : BufTy).Contents (Elt F))
  :: StableHlo.binary main_v81 main_v73 main_v117 ((fun l r => Host.dotGeneral dot_S16x8x64x64x128_S16x8x64x64x128_S16x8x64x64x64_4_4_3_3_012_012 none l r) : (⟨S16x8x64x64x128, .f32⟩ : BufTy).Contents (Elt F) → (⟨S16x8x64x64x128, .f32⟩ : BufTy).Contents (Elt F) → (⟨S16x8x64x64x64, .f32⟩ : BufTy).Contents (Elt F))
  :: StableHlo.binary main_v117 main_v97 main_v118 (mulf : (⟨S16x8x64x64x64, .f32⟩ : BufTy).Contents (Elt F) → (⟨S16x8x64x64x64, .f32⟩ : BufTy).Contents (Elt F) → (⟨S16x8x64x64x64, .f32⟩ : BufTy).Contents (Elt F))
  :: StableHlo.unary main_v82 main_v119 (Host.exp : (⟨S16x8x64x64, .f32⟩ : BufTy).Contents (Elt F) → (⟨S16x8x64x64, .f32⟩ : BufTy).Contents (Elt F))
  :: StableHlo.unary main_v119 main_v120 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F))
  :: StableHlo.unary main_v120 main_v121 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F))
  :: StableHlo.binary main_v81 main_v121 main_v122 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.unary main_v84 main_v123 (broadcastInDim S16x8x64x1 ![0, 1, 2] bcast_S16x8x64_S16x8x64x1_0_1_2 : (⟨S16x8x64, .f32⟩ : BufTy).Contents (Elt F) → (⟨S16x8x64x1, .f32⟩ : BufTy).Contents (Elt F))
  :: StableHlo.unary main_v123 main_v124 (broadcastInDim S16x8x64x64 ![0, 1, 2, 3] bcast_S16x8x64x1_S16x8x64x64_0_1_2_3 : (⟨S16x8x64x1, .f32⟩ : BufTy).Contents (Elt F) → (⟨S16x8x64x64, .f32⟩ : BufTy).Contents (Elt F))
  :: StableHlo.binary main_v124 main_v82 main_v125 (subf : (⟨S16x8x64x64, .f32⟩ : BufTy).Contents (Elt F) → (⟨S16x8x64x64, .f32⟩ : BufTy).Contents (Elt F) → (⟨S16x8x64x64, .f32⟩ : BufTy).Contents (Elt F))
  :: StableHlo.unary main_v125 main_v126 (Host.exp : (⟨S16x8x64x64, .f32⟩ : BufTy).Contents (Elt F) → (⟨S16x8x64x64, .f32⟩ : BufTy).Contents (Elt F))
  :: StableHlo.unary main_v126 main_v127 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F))
  :: StableHlo.unary main_v127 main_v128 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F))
  :: StableHlo.binary main_v73 main_v128 main_v129 (mulf : (⟨S16x8x64x64x128, .f32⟩ : BufTy).Contents (Elt F) → (⟨S16x8x64x64x128, .f32⟩ : BufTy).Contents (Elt F) → (⟨S16x8x64x64x128, .f32⟩ : BufTy).Contents (Elt F))
  :: StableHlo.nullary main_cst_15 (constant S_ .f32 0x00000000#32)
  :: StableHlo.unary main_cst_15 main_v130 (broadcastInDim S16x8x128x128 ![] bcast_S_S16x8x128x128 : (⟨S_, .f32⟩ : BufTy).Contents (Elt F) → (⟨S16x8x128x128, .f32⟩ : BufTy).Contents (Elt F))
  :: StableHlo.unary main_v84 main_v131 (Host.exp : (⟨S16x8x64, .f32⟩ : BufTy).Contents (Elt F) → (⟨S16x8x64, .f32⟩ : BufTy).Contents (Elt F))
  :: StableHlo.unary main_v118 main_v132 ((transpose S64x16x8x64x64 [2, 0, 1, 3, 4] · transposes_S16x8x64x64x64_S64x16x8x64x64_2_0_1_3_4) : (⟨S16x8x64x64x64, .f32⟩ : BufTy).Contents (Elt F) → (⟨S64x16x8x64x64, .f32⟩ : BufTy).Contents (Elt F))
  :: StableHlo.unary main_v122 main_v133 ((transpose S64x16x8x64x128 [2, 0, 1, 3, 4] · transposes_S16x8x64x64x128_S64x16x8x64x128_2_0_1_3_4) : (⟨S16x8x64x64x128, .f32⟩ : BufTy).Contents (Elt F) → (⟨S64x16x8x64x128, .f32⟩ : BufTy).Contents (Elt F))
  :: StableHlo.unary main_v129 main_v134 ((transpose S64x16x8x64x128 [2, 0, 1, 3, 4] · transposes_S16x8x64x64x128_S64x16x8x64x128_2_0_1_3_4) : (⟨S16x8x64x64x128, .f32⟩ : BufTy).Contents (Elt F) → (⟨S64x16x8x64x128, .f32⟩ : BufTy).Contents (Elt F))
  :: StableHlo.unary main_v115 main_v135 ((transpose S64x16x8x64x128 [2, 0, 1, 3, 4] · transposes_S16x8x64x64x128_S64x16x8x64x128_2_0_1_3_4) : (⟨S16x8x64x64x128, .f32⟩ : BufTy).Contents (Elt F) → (⟨S64x16x8x64x128, .f32⟩ : BufTy).Contents (Elt F))
  :: StableHlo.unary main_v116 main_v136 ((transpose S64x16x8x64x128 [2, 0, 1, 3, 4] · transposes_S16x8x64x64x128_S64x16x8x64x128_2_0_1_3_4) : (⟨S16x8x64x64x128, .f32⟩ : BufTy).Contents (Elt F) → (⟨S64x16x8x64x128, .f32⟩ : BufTy).Contents (Elt F))
  :: StableHlo.unary main_v131 main_v137 ((transpose S64x16x8 [2, 0, 1] · transposes_S16x8x64_S64x16x8_2_0_1) : (⟨S16x8x64, .f32⟩ : BufTy).Contents (Elt F) → (⟨S64x16x8, .f32⟩ : BufTy).Contents (Elt F))
  :: StableHlo.nullary main_cst_16 (constant S_ .f32 0x00000000#32)
  :: StableHlo.unary main_cst_16 main_v138 (broadcastInDim S64x16x8x64x128 ![] bcast_S_S64x16x8x64x128 : (⟨S_, .f32⟩ : BufTy).Contents (Elt F) → (⟨S64x16x8x64x128, .f32⟩ : BufTy).Contents (Elt F))
  :: StableHlo.nullary main_c_17 (constantI S_ 32 0#32)
  :: StableHlo.unary main_v132 main_v139_0 id
  :: StableHlo.unary main_v133 main_v139_1 id
  :: StableHlo.unary main_v134 main_v139_2 id
  :: StableHlo.unary main_v135 main_v139_3 id
  :: StableHlo.unary main_v136 main_v139_4 id
  :: StableHlo.unary main_v137 main_v139_5 id
  :: StableHlo.unary main_c_17 main_v139_6 id
  :: StableHlo.unary main_v130 main_v139_7 id
  :: StableHlo.unary main_v138 main_v139_8 id
  :: [] )
theorem hostOps0_17_sub : (hostOps0_17 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 19 host operations of @main, in order. -/
abbrev hostOps0_18 : List (HloOp τ sig (Elt F)) :=
  [ StableHlo.unary main_v139_8 main_v140 ((transpose S16x8x64x64x128 [1, 2, 0, 3, 4] · transposes_S64x16x8x64x128_S16x8x64x64x128_1_2_0_3_4) : (⟨S64x16x8x64x128, .f32⟩ : BufTy).Contents (Elt F) → (⟨S16x8x64x64x128, .f32⟩ : BufTy).Contents (Elt F)),
    StableHlo.binary main_v140 main_v140 main_v141 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.nullary main_cst_18 (constant S_ .f32 0x00000000#32),
    StableHlo.binary main_v141 main_cst_18 main_v142 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F)),
    StableHlo.unary main_v142 main_v143 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.nullary main_cst_19 (constant S_ .f32 0x43000000#32),
    StableHlo.unary main_cst_19 main_v144 (broadcastInDim S16x8x64x64x1 ![] bcast_S_S16x8x64x64x1 : (⟨S_, .f32⟩ : BufTy).Contents (Elt F) → (⟨S16x8x64x64x1, .f32⟩ : BufTy).Contents (Elt F)),
    StableHlo.binary main_v143 main_v144 main_v145 (Host.divf : (⟨S16x8x64x64x1, .f32⟩ : BufTy).Contents (Elt F) → (⟨S16x8x64x64x1, .f32⟩ : BufTy).Contents (Elt F) → (⟨S16x8x64x64x1, .f32⟩ : BufTy).Contents (Elt F)),
    StableHlo.nullary main_cst_20 (constant S_ .f32 0x358637BD#32),
    StableHlo.unary main_cst_20 main_v146 (broadcastInDim S16x8x64x64x1 ![] bcast_S_S16x8x64x64x1 : (⟨S_, .f32⟩ : BufTy).Contents (Elt F) → (⟨S16x8x64x64x1, .f32⟩ : BufTy).Contents (Elt F)),
    StableHlo.binary main_v145 main_v146 main_v147 (addf : (⟨S16x8x64x64x1, .f32⟩ : BufTy).Contents (Elt F) → (⟨S16x8x64x64x1, .f32⟩ : BufTy).Contents (Elt F) → (⟨S16x8x64x64x1, .f32⟩ : BufTy).Contents (Elt F)),
    StableHlo.unary main_v147 main_v148 (Host.rsqrt : (⟨S16x8x64x64x1, .f32⟩ : BufTy).Contents (Elt F) → (⟨S16x8x64x64x1, .f32⟩ : BufTy).Contents (Elt F)),
    StableHlo.unary main_v148 main_v149 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v140 main_v149 main_v150 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_arg6 main_v151 (broadcastInDim S1x1x1x1x128 ![4] bcast_S128_S1x1x1x1x128_4 : (⟨S128, .f32⟩ : BufTy).Contents (Elt F) → (⟨S1x1x1x1x128, .f32⟩ : BufTy).Contents (Elt F)),
    StableHlo.unary main_v151 main_v152 (broadcastInDim S16x8x64x64x128 ![0, 1, 2, 3, 4] bcast_S1x1x1x1x128_S16x8x64x64x128_0_1_2_3_4 : (⟨S1x1x1x1x128, .f32⟩ : BufTy).Contents (Elt F) → (⟨S16x8x64x64x128, .f32⟩ : BufTy).Contents (Elt F)),
    StableHlo.binary main_v150 main_v152 main_v153 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_v153 main_v154 ((transpose S16x64x64x8x128 [0, 2, 3, 1, 4] · transposes_S16x8x64x64x128_S16x64x64x8x128_0_2_3_1_4) : (⟨S16x8x64x64x128, .f32⟩ : BufTy).Contents (Elt F) → (⟨S16x64x64x8x128, .f32⟩ : BufTy).Contents (Elt F)),
    StableHlo.reshape main_v154 main_v155 (rfl : (.f32 : EltTy) = .f32) shapeCasts_S16x64x64x8x128_S16x4096x1024 ]
theorem hostOps0_18_sub : (hostOps0_18 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub ..⟩
/-- 9 host operations of @silu_5 (main_call16), in order. -/
abbrev hostOps0_19 : List (HloOp τ sig (Elt F)) :=
  [ StableHlo.TRef.unary (.of main_v2 : StableHlo.TRef sig ⟨S16x4096x1024, .f32⟩) (.of main_call16_v0 : StableHlo.TRef sig ⟨S16x4096x1024, .f32⟩) Host.negf,
    StableHlo.TRef.unary (.of main_call16_v0 : StableHlo.TRef sig ⟨S16x4096x1024, .f32⟩) (.of main_call16_v1 : StableHlo.TRef sig ⟨S16x4096x1024, .f32⟩) Host.exp,
    StableHlo.TRef.nullary (.of main_call16_cst : StableHlo.TRef sig ⟨S_, .f32⟩) (constant S_ .f32 0x3F800000#32),
    StableHlo.TRef.unary (.of main_call16_cst : StableHlo.TRef sig ⟨S_, .f32⟩) (.of main_call16_v2 : StableHlo.TRef sig ⟨S16x4096x1024, .f32⟩) (broadcastInDim S16x4096x1024 ![] bcast_S_S16x4096x1024),
    StableHlo.TRef.binary (.of main_call16_v2 : StableHlo.TRef sig ⟨S16x4096x1024, .f32⟩) (.of main_call16_v1 : StableHlo.TRef sig ⟨S16x4096x1024, .f32⟩) (.of main_call16_v3 : StableHlo.TRef sig ⟨S16x4096x1024, .f32⟩) addf,
    StableHlo.TRef.nullary (.of main_call16_cst_0 : StableHlo.TRef sig ⟨S_, .f32⟩) (constant S_ .f32 0x3F800000#32),
    StableHlo.TRef.unary (.of main_call16_cst_0 : StableHlo.TRef sig ⟨S_, .f32⟩) (.of main_call16_v4 : StableHlo.TRef sig ⟨S16x4096x1024, .f32⟩) (broadcastInDim S16x4096x1024 ![] bcast_S_S16x4096x1024),
    StableHlo.TRef.binary (.of main_call16_v4 : StableHlo.TRef sig ⟨S16x4096x1024, .f32⟩) (.of main_call16_v3 : StableHlo.TRef sig ⟨S16x4096x1024, .f32⟩) (.of main_call16_v5 : StableHlo.TRef sig ⟨S16x4096x1024, .f32⟩) Host.divf,
    StableHlo.TRef.binary (.of main_v2 : StableHlo.TRef sig ⟨S16x4096x1024, .f32⟩) (.of main_call16_v5 : StableHlo.TRef sig ⟨S16x4096x1024, .f32⟩) (.of main_v156 : StableHlo.TRef sig ⟨S16x4096x1024, .f32⟩) mulf ]
theorem hostOps0_19_sub : (hostOps0_19 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
/-- 3 host operations of @main, in order. -/
abbrev hostOps0_20 : List (HloOp τ sig (Elt F)) :=
  [ StableHlo.binary main_v155 main_v156 main_v157 (mulf : (⟨S16x4096x1024, .f32⟩ : BufTy).Contents (Elt F) → (⟨S16x4096x1024, .f32⟩ : BufTy).Contents (Elt F) → (⟨S16x4096x1024, .f32⟩ : BufTy).Contents (Elt F)),
    StableHlo.binary main_v157 main_arg7 main_v158 ((fun l r => Host.dotGeneral dot_S16x4096x1024_S1024x1024_S16x4096x1024_2_0_01_1_n_n none l r) : (⟨S16x4096x1024, .f32⟩ : BufTy).Contents (Elt F) → (⟨S1024x1024, .f32⟩ : BufTy).Contents (Elt F) → (⟨S16x4096x1024, .f32⟩ : BufTy).Contents (Elt F)),
    StableHlo.binary main_arg2 main_v158 main_v159 (addf : (⟨S16x4096x1024, .f32⟩ : BufTy).Contents (Elt F) → (⟨S16x4096x1024, .f32⟩ : BufTy).Contents (Elt F) → (⟨S16x4096x1024, .f32⟩ : BufTy).Contents (Elt F)) ]
theorem hostOps0_20_sub : (hostOps0_20 : List (HloOp τ sig (Elt F))).Forall fun op => op.bufs ⊆ StableHlo.tcRefs τ sig :=
  ⟨StableHlo.binary_bufs_sub .., StableHlo.binary_bufs_sub .., StableHlo.binary_bufs_sub ..⟩
/-- 5 host operations of @main, window 0 (statements 1 … 60), in order. -/
abbrev main_part0_ops6 : List (HloOp τ sig (Elt F)) :=
  [ StableHlo.unary main_v45 main_v51 (broadcastInDim S1x1x8 ![2] bcast_S8_S1x1x8_2 : (⟨S8, .f32⟩ : BufTy).Contents (Elt F) → (⟨S1x1x8, .f32⟩ : BufTy).Contents (Elt F)),
    StableHlo.unary main_v51 main_v52 (broadcastInDim S16x4096x8 ![0, 1, 2] bcast_S1x1x8_S16x4096x8_0_1_2 : (⟨S1x1x8, .f32⟩ : BufTy).Contents (Elt F) → (⟨S16x4096x8, .f32⟩ : BufTy).Contents (Elt F)),
    StableHlo.binary main_v52 main_v50 main_v53 (mulf : (⟨S16x4096x8, .f32⟩ : BufTy).Contents (Elt F) → (⟨S16x4096x8, .f32⟩ : BufTy).Contents (Elt F) → (⟨S16x4096x8, .f32⟩ : BufTy).Contents (Elt F)),
    StableHlo.reshape main_v34 main_v54 (rfl : (.f32 : EltTy) = .f32) shapeCasts_S16x4096x1024_S16x64x64x8x128,
    StableHlo.unary main_v54 main_v55 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F)) ]
theorem main_part0_ops6_sub : (main_part0_ops6 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub ..⟩
/-- Window 0 of `main` is the chain of its items. -/
theorem main_part0_chain (c : Dev nD) : main_part0 (F := F) c = (Pipeline.chainK
  [ StableHlo.seq hostOps0,
    StableHlo.seq hostOps0_1,
    StableHlo.seq hostOps0_2,
    StableHlo.seq hostOps0_3,
    StableHlo.seq hostOps0_4,
    StableHlo.seq hostOps0_5 ]
  (StableHlo.seq main_part0_ops6) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- 31 host operations of @main, window 1 (statements 61 … 120), in order. -/
abbrev main_part1_ops0 : List (HloOp τ sig (Elt F)) :=
  [ StableHlo.binary main_v55 main_v55 main_v56 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.nullary main_cst_2 (constant S_ .f32 0x00000000#32),
    StableHlo.binary main_v56 main_cst_2 main_v57 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F)),
    StableHlo.unary main_v57 main_v58 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.nullary main_cst_3 (constant S_ .f32 0x358637BD#32),
    StableHlo.unary main_cst_3 main_v59 (broadcastInDim S16x8x64x64x1 ![] bcast_S_S16x8x64x64x1 : (⟨S_, .f32⟩ : BufTy).Contents (Elt F) → (⟨S16x8x64x64x1, .f32⟩ : BufTy).Contents (Elt F)),
    StableHlo.binary main_v58 main_v59 main_v60 (addf : (⟨S16x8x64x64x1, .f32⟩ : BufTy).Contents (Elt F) → (⟨S16x8x64x64x1, .f32⟩ : BufTy).Contents (Elt F) → (⟨S16x8x64x64x1, .f32⟩ : BufTy).Contents (Elt F)),
    StableHlo.unary main_v60 main_v61 (Host.rsqrt : (⟨S16x8x64x64x1, .f32⟩ : BufTy).Contents (Elt F) → (⟨S16x8x64x64x1, .f32⟩ : BufTy).Contents (Elt F)),
    StableHlo.unary main_v61 main_v62 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v55 main_v62 main_v63 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.reshape main_v35 main_v64 (rfl : (.f32 : EltTy) = .f32) shapeCasts_S16x4096x1024_S16x64x64x8x128,
    StableHlo.unary main_v64 main_v65 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F)),
    StableHlo.binary main_v65 main_v65 main_v66 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.nullary main_cst_4 (constant S_ .f32 0x00000000#32),
    StableHlo.binary main_v66 main_cst_4 main_v67 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F)),
    StableHlo.unary main_v67 main_v68 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.nullary main_cst_5 (constant S_ .f32 0x358637BD#32),
    StableHlo.unary main_cst_5 main_v69 (broadcastInDim S16x8x64x64x1 ![] bcast_S_S16x8x64x64x1 : (⟨S_, .f32⟩ : BufTy).Contents (Elt F) → (⟨S16x8x64x64x1, .f32⟩ : BufTy).Contents (Elt F)),
    StableHlo.binary main_v68 main_v69 main_v70 (addf : (⟨S16x8x64x64x1, .f32⟩ : BufTy).Contents (Elt F) → (⟨S16x8x64x64x1, .f32⟩ : BufTy).Contents (Elt F) → (⟨S16x8x64x64x1, .f32⟩ : BufTy).Contents (Elt F)),
    StableHlo.unary main_v70 main_v71 (Host.rsqrt : (⟨S16x8x64x64x1, .f32⟩ : BufTy).Contents (Elt F) → (⟨S16x8x64x64x1, .f32⟩ : BufTy).Contents (Elt F)),
    StableHlo.unary main_v71 main_v72 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v65 main_v72 main_v73 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.reshape main_v36 main_v74 (rfl : (.f32 : EltTy) = .f32) shapeCasts_S16x4096x1024_S16x64x64x8x128,
    StableHlo.unary main_v74 main_v75 ((transpose S16x8x64x64x128 [0, 3, 1, 2, 4] · transposes_S16x64x64x8x128_S16x8x64x64x128_0_3_1_2_4) : (⟨S16x64x64x8x128, .f32⟩ : BufTy).Contents (Elt F) → (⟨S16x8x64x64x128, .f32⟩ : BufTy).Contents (Elt F)),
    StableHlo.reshape main_v43 main_v76 (rfl : (.f32 : EltTy) = .f32) shapeCasts_S16x4096x8_S16x64x64x8,
    StableHlo.unary main_v76 main_v77 ((transpose S16x8x64x64 [0, 3, 1, 2] · transposes_S16x64x64x8_S16x8x64x64_0_3_1_2) : (⟨S16x64x64x8, .f32⟩ : BufTy).Contents (Elt F) → (⟨S16x8x64x64, .f32⟩ : BufTy).Contents (Elt F)),
    StableHlo.reshape main_v53 main_v78 (rfl : (.f32 : EltTy) = .f32) shapeCasts_S16x4096x8_S16x64x64x8,
    StableHlo.unary main_v78 main_v79 ((transpose S16x8x64x64 [0, 3, 1, 2] · transposes_S16x64x64x8_S16x8x64x64_0_3_1_2) : (⟨S16x64x64x8, .f32⟩ : BufTy).Contents (Elt F) → (⟨S16x8x64x64, .f32⟩ : BufTy).Contents (Elt F)),
    StableHlo.nullary main_cst_6 (constant S_ .f32 0x3DB504F3#32),
    StableHlo.unary main_cst_6 main_v80 (broadcastInDim S16x8x64x64x128 ![] bcast_S_S16x8x64x64x128 : (⟨S_, .f32⟩ : BufTy).Contents (Elt F) → (⟨S16x8x64x64x128, .f32⟩ : BufTy).Contents (Elt F)),
    StableHlo.binary main_v63 main_v80 main_v81 (mulf : (⟨S16x8x64x64x128, .f32⟩ : BufTy).Contents (Elt F) → (⟨S16x8x64x64x128, .f32⟩ : BufTy).Contents (Elt F) → (⟨S16x8x64x64x128, .f32⟩ : BufTy).Contents (Elt F)) ]
theorem main_part1_ops0_sub : (main_part1_ops0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub ..⟩
/-- 2 host operations of @main, window 1 (statements 61 … 120), in order. -/
abbrev main_part1_ops10 : List (HloOp τ sig (Elt F)) :=
  [ StableHlo.unary main_v77 main_v104 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v104 main_v105 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)) ]
theorem main_part1_ops10_sub : (main_part1_ops10 : List (HloOp τ sig (Elt F))).Forall fun op => op.bufs ⊆ StableHlo.tcRefs τ sig :=
  ⟨StableHlo.unary_bufs_sub .., StableHlo.unary_bufs_sub ..⟩
/-- Window 1 of `main` is the chain of its items. -/
theorem main_part1_chain (c : Dev nD) : main_part1 (F := F) c = (Pipeline.chainK
  [ StableHlo.seq main_part1_ops0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15 ]
  (StableHlo.seq main_part1_ops10) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 17 host operations of @main, window 2 (statements 121 … 180), in order. -/
abbrev main_part2_ops0 : List (HloOp τ sig (Elt F)) :=
  [ StableHlo.binary main_v75 main_v105 main_v106 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_v82 main_v107 (Host.exp : (⟨S16x8x64x64, .f32⟩ : BufTy).Contents (Elt F) → (⟨S16x8x64x64, .f32⟩ : BufTy).Contents (Elt F)),
    StableHlo.unary main_v107 main_v108 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)),
    StableHlo.unary main_v108 main_v109 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v100 main_v109 main_v110 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.binary main_v106 main_v110 main_v111 ((fun a b => concatenate S16x8x64x64x256 4 [⟨S16x8x64x64x128, a⟩, ⟨S16x8x64x64x128, b⟩] concatenates_S16x8x64x64x128_S16x8x64x64x128_S16x8x64x64x256_d4) : (⟨S16x8x64x64x128, .f32⟩ : BufTy).Contents (Elt F) → (⟨S16x8x64x64x128, .f32⟩ : BufTy).Contents (Elt F) → (⟨S16x8x64x64x256, .f32⟩ : BufTy).Contents (Elt F)),
    StableHlo.nullary main_v112 (iotaInDim S64x1 32 0),
    StableHlo.nullary main_cst_12 (constant S_ .f32 0x00000000#32),
    StableHlo.unary main_cst_12 main_v113 (broadcastInDim S16x8x64x64x256 ![] bcast_S_S16x8x64x64x256 : (⟨S_, .f32⟩ : BufTy).Contents (Elt F) → (⟨S16x8x64x64x256, .f32⟩ : BufTy).Contents (Elt F)),
    StableHlo.nullary main_c_13 (constantI S_ 32 0#32),
    StableHlo.nullary main_c_14 (constantI S_ 32 0#32),
    StableHlo.unary main_v112 main_v114_0 id,
    StableHlo.unary main_v103 main_v114_1 id,
    StableHlo.unary main_v111 main_v114_2 id,
    StableHlo.unary main_c_14 main_v114_3 id,
    StableHlo.unary main_c_13 main_v114_4 id,
    StableHlo.unary main_v113 main_v114_5 id ]
theorem main_part2_ops0_sub : (main_part2_ops0 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, window 2 (statements 121 … 180), in order. -/
abbrev main_part2_ops2 : List (HloOp τ sig (Elt F)) :=
  [ StableHlo.unary main_v139_8 main_v140 ((transpose S16x8x64x64x128 [1, 2, 0, 3, 4] · transposes_S64x16x8x64x128_S16x8x64x64x128_1_2_0_3_4) : (⟨S64x16x8x64x128, .f32⟩ : BufTy).Contents (Elt F) → (⟨S16x8x64x64x128, .f32⟩ : BufTy).Contents (Elt F)),
    StableHlo.binary main_v140 main_v140 main_v141 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.nullary main_cst_18 (constant S_ .f32 0x00000000#32),
    StableHlo.binary main_v141 main_cst_18 main_v142 ((fun x v => Host.reduceAdd x v reducesTo_S16x8x64x64x128_S16x8x64x64_d4 h_S_) : (⟨S16x8x64x64x128, .f32⟩ : BufTy).Contents (Elt F) → (⟨S_, .f32⟩ : BufTy).Contents (Elt F) → (⟨S16x8x64x64, .f32⟩ : BufTy).Contents (Elt F)),
    StableHlo.unary main_v142 main_v143 (broadcastInDim S16x8x64x64x1 ![0, 1, 2, 3] bcast_S16x8x64x64_S16x8x64x64x1_0_1_2_3 : (⟨S16x8x64x64, .f32⟩ : BufTy).Contents (Elt F) → (⟨S16x8x64x64x1, .f32⟩ : BufTy).Contents (Elt F)) ]
theorem main_part2_ops2_sub : (main_part2_ops2 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub ..⟩
/-- Window 2 of `main` is the chain of its items. -/
theorem main_part2_chain (c : Dev nD) : main_part2 (F := F) c = (Pipeline.chainK
  [ StableHlo.seq main_part2_ops0,
    HostLoop.enter 0,
    StableHlo.seq hostOps0_17,
    HostLoop.enter 1 ]
  (StableHlo.seq main_part2_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- 14 host operations of @main, window 3 (statements 181 … 199), in order. -/
abbrev main_part3_ops0 : List (HloOp τ sig (Elt F)) :=
  [ StableHlo.nullary main_cst_19 (constant S_ .f32 0x43000000#32),
    StableHlo.unary main_cst_19 main_v144 (broadcastInDim S16x8x64x64x1 ![] bcast_S_S16x8x64x64x1 : (⟨S_, .f32⟩ : BufTy).Contents (Elt F) → (⟨S16x8x64x64x1, .f32⟩ : BufTy).Contents (Elt F)),
    StableHlo.binary main_v143 main_v144 main_v145 (Host.divf : (⟨S16x8x64x64x1, .f32⟩ : BufTy).Contents (Elt F) → (⟨S16x8x64x64x1, .f32⟩ : BufTy).Contents (Elt F) → (⟨S16x8x64x64x1, .f32⟩ : BufTy).Contents (Elt F)),
    StableHlo.nullary main_cst_20 (constant S_ .f32 0x358637BD#32),
    StableHlo.unary main_cst_20 main_v146 (broadcastInDim S16x8x64x64x1 ![] bcast_S_S16x8x64x64x1 : (⟨S_, .f32⟩ : BufTy).Contents (Elt F) → (⟨S16x8x64x64x1, .f32⟩ : BufTy).Contents (Elt F)),
    StableHlo.binary main_v145 main_v146 main_v147 (addf : (⟨S16x8x64x64x1, .f32⟩ : BufTy).Contents (Elt F) → (⟨S16x8x64x64x1, .f32⟩ : BufTy).Contents (Elt F) → (⟨S16x8x64x64x1, .f32⟩ : BufTy).Contents (Elt F)),
    StableHlo.unary main_v147 main_v148 (Host.rsqrt : (⟨S16x8x64x64x1, .f32⟩ : BufTy).Contents (Elt F) → (⟨S16x8x64x64x1, .f32⟩ : BufTy).Contents (Elt F)),
    StableHlo.unary main_v148 main_v149 (broadcastInDim S16x8x64x64x128 ![0, 1, 2, 3, 4] bcast_S16x8x64x64x1_S16x8x64x64x128_0_1_2_3_4 : (⟨S16x8x64x64x1, .f32⟩ : BufTy).Contents (Elt F) → (⟨S16x8x64x64x128, .f32⟩ : BufTy).Contents (Elt F)),
    StableHlo.binary main_v140 main_v149 main_v150 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_arg6 main_v151 (broadcastInDim S1x1x1x1x128 ![4] bcast_S128_S1x1x1x1x128_4 : (⟨S128, .f32⟩ : BufTy).Contents (Elt F) → (⟨S1x1x1x1x128, .f32⟩ : BufTy).Contents (Elt F)),
    StableHlo.unary main_v151 main_v152 (broadcastInDim S16x8x64x64x128 ![0, 1, 2, 3, 4] bcast_S1x1x1x1x128_S16x8x64x64x128_0_1_2_3_4 : (⟨S1x1x1x1x128, .f32⟩ : BufTy).Contents (Elt F) → (⟨S16x8x64x64x128, .f32⟩ : BufTy).Contents (Elt F)),
    StableHlo.binary main_v150 main_v152 main_v153 (mulf : (⟨S16x8x64x64x128, .f32⟩ : BufTy).Contents (Elt F) → (⟨S16x8x64x64x128, .f32⟩ : BufTy).Contents (Elt F) → (⟨S16x8x64x64x128, .f32⟩ : BufTy).Contents (Elt F)),
    StableHlo.unary main_v153 main_v154 ((transpose S16x64x64x8x128 [0, 2, 3, 1, 4] · transposes_S16x8x64x64x128_S16x64x64x8x128_0_2_3_1_4) : (⟨S16x8x64x64x128, .f32⟩ : BufTy).Contents (Elt F) → (⟨S16x64x64x8x128, .f32⟩ : BufTy).Contents (Elt F)),
    StableHlo.reshape main_v154 main_v155 (rfl : (.f32 : EltTy) = .f32) shapeCasts_S16x64x64x8x128_S16x4096x1024 ]
theorem main_part3_ops0_sub : (main_part3_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub ..⟩
/-- The last window of `main` is the chain of its items. -/
theorem main_part3_chain (c : Dev nD) : main_part3 (F := F) c = (Pipeline.chain
  [ StableHlo.seq main_part3_ops0,
    StableHlo.seq hostOps0_19,
    StableHlo.seq hostOps0_20 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq main_part0_ops6,
    StableHlo.seq main_part1_ops0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq main_part1_ops10,
    StableHlo.seq main_part2_ops0,
    HostLoop.enter 0,
    StableHlo.seq hostOps0_17,
    HostLoop.enter 1,
    StableHlo.seq main_part2_ops2,
    StableHlo.seq main_part3_ops0,
    StableHlo.seq hostOps0_19,
    StableHlo.seq hostOps0_20 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 2)) :=
  [ .ops [hostOps0],
    .ops [hostOps0_1],
    .ops [hostOps0_2],
    .ops [hostOps0_3],
    .ops [hostOps0_4],
    .ops [hostOps0_5],
    .ops [main_part0_ops6, main_part1_ops0],
    .ops [hostOps0_7],
    .ops [hostOps0_8],
    .ops [hostOps0_9],
    .ops [hostOps0_10],
    .ops [hostOps0_11],
    .ops [hostOps0_12],
    .ops [hostOps0_13],
    .ops [hostOps0_14],
    .ops [hostOps0_15],
    .ops [main_part1_ops10, main_part2_ops0],
    .prog (HostLoop.enter 0),
    .ops [hostOps0_17],
    .prog (HostLoop.enter 1),
    .ops [main_part2_ops2, main_part3_ops0],
    .ops [hostOps0_19],
    .ops [hostOps0_20] ]

theorem main_chain_cut (c : Dev nD) : (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq main_part0_ops6,
    StableHlo.seq main_part1_ops0,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq main_part1_ops10,
    StableHlo.seq main_part2_ops0,
    HostLoop.enter 0,
    StableHlo.seq hostOps0_17,
    HostLoop.enter 1,
    StableHlo.seq main_part2_ops2,
    StableHlo.seq main_part3_ops0,
    StableHlo.seq hostOps0_19,
    StableHlo.seq hostOps0_20 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    HostLoop.enter 1,
    StableHlo.seq hostOps0_18,
    StableHlo.seq hostOps0_19,
    StableHlo.seq hostOps0_20 ] : Prog (TpuEff nD τ sig (Elt F) (HostLoop.Sig (Pipeline.Sig Λ₀ (Fin 0) fun p => (pcfgs (F := F) p).Adm) 2) .tc) PUnit) := by
  chain_rfl

theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    HostLoop.enter 1,
    StableHlo.seq hostOps0_18,
    StableHlo.seq hostOps0_19,
    StableHlo.seq hostOps0_20 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 7 host operations of host loop 0's body region, in order. -/
abbrev while0Ops0 : List (HloOp τ sig (Elt F)) :=
  [ StableHlo.nullary main_while0b_c_26 (constantI S_ 32 1#32),
    StableHlo.binary main_v114_4 main_while0b_c_26 main_while0b_v160 (addi : (⟨S_, .i32⟩ : BufTy).Contents (Elt F) → (⟨S_, .i32⟩ : BufTy).Contents (Elt F) → (⟨S_, .i32⟩ : BufTy).Contents (Elt F)),
    StableHlo.unary main_v114_4 main_while0b_v161 (id : (⟨S_, .i32⟩ : BufTy).Contents (Elt F) → (⟨S_, .i32⟩ : BufTy).Contents (Elt F)),
    StableHlo.unary main_while0b_v161 main_while0b_v162 (broadcastInDim S64x1 ![] bcast_S_S64x1 : (⟨S_, .i32⟩ : BufTy).Contents (Elt F) → (⟨S64x1, .i32⟩ : BufTy).Contents (Elt F)),
    StableHlo.binary main_v114_0 main_while0b_v162 main_while0b_v163 (cmpi .eq : (⟨S64x1, .i32⟩ : BufTy).Contents (Elt F) → (⟨S64x1, .i32⟩ : BufTy).Contents (Elt F) → (⟨S64x1, .i1⟩ : BufTy).Contents (Elt F)),
    StableHlo.binary main_v114_1 main_v114_5 main_while0b_v164 ((fun l r => Host.dotGeneral dot_S16x8x64x64x64_S16x8x64x64x256_S16x8x64x64x256_4_3_3_4_012_012 none l r) : (⟨S16x8x64x64x64, .f32⟩ : BufTy).Contents (Elt F) → (⟨S16x8x64x64x256, .f32⟩ : BufTy).Contents (Elt F) → (⟨S16x8x64x64x256, .f32⟩ : BufTy).Contents (Elt F)),
    StableHlo.binary main_v114_2 main_while0b_v164 main_while0b_v165 (subf : (⟨S16x8x64x64x256, .f32⟩ : BufTy).Contents (Elt F) → (⟨S16x8x64x64x256, .f32⟩ : BufTy).Contents (Elt F) → (⟨S16x8x64x64x256, .f32⟩ : BufTy).Contents (Elt F)) ]
theorem while0Ops0_sub : (while0Ops0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.binary_bufs_sub .., StableHlo.binary_bufs_sub ..⟩
/-- 2 host operations of @_where_2 (main_while0b_call8), in order. -/
abbrev while0Ops0_1 : List (HloOp τ sig (Elt F)) :=
  [ StableHlo.TRef.unary (.of main_while0b_v163 : StableHlo.TRef sig ⟨S64x1, .i1⟩) (.of main_while0b_call8_v0 : StableHlo.TRef sig ⟨S16x8x64x64x256, .i1⟩) (broadcastInDim S16x8x64x64x256 ![3, 4] bcast_S64x1_S16x8x64x64x256_3_4),
    StableHlo.TRef.ternary (.of main_while0b_call8_v0 : StableHlo.TRef sig ⟨S16x8x64x64x256, .i1⟩) (.of main_while0b_v165 : StableHlo.TRef sig ⟨S16x8x64x64x256, .f32⟩) (.of main_v114_5 : StableHlo.TRef sig ⟨S16x8x64x64x256, .f32⟩) (.of main_while0b_v166 : StableHlo.TRef sig ⟨S16x8x64x64x256, .f32⟩) select ]
theorem while0Ops0_1_sub : (while0Ops0_1 : List (HloOp τ sig (Elt F))).Forall fun op => op.bufs ⊆ StableHlo.tcRefs τ sig :=
  ⟨StableHlo.unary_bufs_sub .., StableHlo.ternary_bufs_sub ..⟩
/-- 5 host operations of host loop 0's body region, in order. -/
abbrev while0Ops0_2 : List (HloOp τ sig (Elt F)) :=
  [ StableHlo.nullary main_while0b_c_27 (constantI S_ 32 1#32),
    StableHlo.binary main_v114_3 main_while0b_c_27 main_while0b_v167 (addi : (⟨S_, .i32⟩ : BufTy).Contents (Elt F) → (⟨S_, .i32⟩ : BufTy).Contents (Elt F) → (⟨S_, .i32⟩ : BufTy).Contents (Elt F)),
    StableHlo.unary main_while0b_v167 main_v114_3 id,
    StableHlo.unary main_while0b_v160 main_v114_4 id,
    StableHlo.unary main_while0b_v166 main_v114_5 id ]
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- 6 host operations of @dynamic_index_in_dim (main_while1b_call9), in order. -/
abbrev while1Ops0 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v139_0 : StableHlo.TRef sig ⟨S64x16x8x64x64, .f32⟩) ![(.of main_v139_6 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x16x8x64x64, .f32⟩) (fun x i => Host.dynamicSlice S1x16x8x64x64 x (fun k => (i k (Shape.Idx.first h_S_)).toInt) sliceFits_S64x16x8x64x64_S1x16x8x64x64),
    StableHlo.TRef.reshape (.of main_while1b_call9_v0 : StableHlo.TRef sig ⟨S1x16x8x64x64, .f32⟩) (.of main_while1b_v160 : StableHlo.TRef sig ⟨S16x8x64x64, .f32⟩) (rfl : (.f32 : EltTy) = .f32) shapeCasts_S1x16x8x64x64_S16x8x64x64 ]
theorem while1Ops0_sub : (while1Ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_3 (main_while1b_call10), in order. -/
abbrev while1Ops0_1 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v139_1 : StableHlo.TRef sig ⟨S64x16x8x64x128, .f32⟩) ![(.of main_v139_6 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x16x8x64x128, .f32⟩) (fun x i => Host.dynamicSlice S1x16x8x64x128 x (fun k => (i k (Shape.Idx.first h_S_)).toInt) sliceFits_S64x16x8x64x128_S1x16x8x64x128),
    StableHlo.TRef.reshape (.of main_while1b_call10_v0 : StableHlo.TRef sig ⟨S1x16x8x64x128, .f32⟩) (.of main_while1b_v161 : StableHlo.TRef sig ⟨S16x8x64x128, .f32⟩) (rfl : (.f32 : EltTy) = .f32) shapeCasts_S1x16x8x64x128_S16x8x64x128 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_3 (main_while1b_call11), in order. -/
abbrev while1Ops0_2 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.nullary (.of main_while1b_call11_c_2 : StableHlo.TRef sig ⟨S_, .i32⟩) (constantI S_ 32 0#32),
    StableHlo.TRef.unaryIndexed (.of main_v139_2 : StableHlo.TRef sig ⟨S64x16x8x64x128, .f32⟩) ![(.of main_v139_6 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩), (.of main_while1b_call11_c_2 : StableHlo.TRef sig ⟨S_, .i32⟩)] (.of main_while1b_call11_v0 : StableHlo.TRef sig ⟨S1x16x8x64x128, .f32⟩) (fun x i => Host.dynamicSlice S1x16x8x64x128 x (fun k => (i k (Shape.Idx.first h_S_)).toInt) sliceFits_S64x16x8x64x128_S1x16x8x64x128),
    StableHlo.TRef.reshape (.of main_while1b_call11_v0 : StableHlo.TRef sig ⟨S1x16x8x64x128, .f32⟩) (.of main_while1b_v162 : StableHlo.TRef sig ⟨S16x8x64x128, .f32⟩) (rfl : (.f32 : EltTy) = .f32) shapeCasts_S1x16x8x64x128_S16x8x64x128 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_3 (main_while1b_call12), in order. -/
abbrev while1Ops0_3 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.unaryIndexed (.of main_v139_3 : StableHlo.TRef sig ⟨S64x16x8x64x128, .f32⟩) ![(.of main_v139_6 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_call12_v0 : StableHlo.TRef sig ⟨S1x16x8x64x128, .f32⟩) (fun x i => Host.dynamicSlice S1x16x8x64x128 x (fun k => (i k (Shape.Idx.first h_S_)).toInt) sliceFits_S64x16x8x64x128_S1x16x8x64x128),
    StableHlo.TRef.reshape (.of main_while1b_call12_v0 : StableHlo.TRef sig ⟨S1x16x8x64x128, .f32⟩) (.of main_while1b_v163 : StableHlo.TRef sig ⟨S16x8x64x128, .f32⟩) (rfl : (.f32 : EltTy) = .f32) shapeCasts_S1x16x8x64x128_S16x8x64x128 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_3 (main_while1b_call13), in order. -/
abbrev while1Ops0_4 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.nullary (.of main_while1b_call13_c_2 : StableHlo.TRef sig ⟨S_, .i32⟩) (constantI S_ 32 0#32),
    StableHlo.TRef.unaryIndexed (.of main_v139_4 : StableHlo.TRef sig ⟨S64x16x8x64x128, .f32⟩) ![(.of main_v139_6 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩), (.of main_while1b_call13_c_2 : StableHlo.TRef sig ⟨S_, .i32⟩)] (.of main_while1b_call13_v0 : StableHlo.TRef sig ⟨S1x16x8x64x128, .f32⟩) (fun x i => Host.dynamicSlice S1x16x8x64x128 x (fun k => (i k (Shape.Idx.first h_S_)).toInt) sliceFits_S64x16x8x64x128_S1x16x8x64x128),
    StableHlo.TRef.reshape (.of main_while1b_call13_v0 : StableHlo.TRef sig ⟨S1x16x8x64x128, .f32⟩) (.of main_while1b_v164 : StableHlo.TRef sig ⟨S16x8x64x128, .f32⟩) (rfl : (.f32 : EltTy) = .f32) shapeCasts_S1x16x8x64x128_S16x8x64x128 ]
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 4 host operations of @dynamic_index_in_dim_4 (main_while1b_call14), in order. -/
abbrev while1Ops0_5 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.unaryIndexed (.of main_v139_5 : StableHlo.TRef sig ⟨S64x16x8, .f32⟩) ![(.of main_v139_6 : StableHlo.TRef sig ⟨S_, .i32⟩), (.of main_while1b_call14_c : StableHlo.TRef sig ⟨S_, .i32⟩), (.of main_while1b_call14_c_0 : StableHlo.TRef sig ⟨S_, .i32⟩)] (.of main_while1b_call14_v0 : StableHlo.TRef sig ⟨S1x16x8, .f32⟩) (fun x i => Host.dynamicSlice S1x16x8 x (fun k => (i k (Shape.Idx.first h_S_)).toInt) sliceFits_S64x16x8_S1x16x8),
    StableHlo.TRef.reshape (.of main_while1b_call14_v0 : StableHlo.TRef sig ⟨S1x16x8, .f32⟩) (.of main_while1b_v165 : StableHlo.TRef sig ⟨S16x8, .f32⟩) (rfl : (.f32 : EltTy) = .f32) shapeCasts_S1x16x8_S16x8 ]
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 10 host operations of host loop 1's body region, in order. -/
abbrev while1Ops0_6 : List (HloOp τ sig (Elt F)) :=
  [ StableHlo.binary main_while1b_v164 main_v139_7 main_while1b_v166 ((fun l r => Host.dotGeneral dot_S16x8x64x128_S16x8x128x128_S16x8x64x128_3_2_2_3_01_01 none l r) : (⟨S16x8x64x128, .f32⟩ : BufTy).Contents (Elt F) → (⟨S16x8x128x128, .f32⟩ : BufTy).Contents (Elt F) → (⟨S16x8x64x128, .f32⟩ : BufTy).Contents (Elt F)),
    StableHlo.binary main_while1b_v163 main_while1b_v166 main_while1b_v167 (subf : (⟨S16x8x64x128, .f32⟩ : BufTy).Contents (Elt F) → (⟨S16x8x64x128, .f32⟩ : BufTy).Contents (Elt F) → (⟨S16x8x64x128, .f32⟩ : BufTy).Contents (Elt F)),
    StableHlo.binary main_while1b_v161 main_v139_7 main_while1b_v168 ((fun l r => Host.dotGeneral dot_S16x8x64x128_S16x8x128x128_S16x8x64x128_3_2_2_3_01_01 none l r) : (⟨S16x8x64x128, .f32⟩ : BufTy).Contents (Elt F) → (⟨S16x8x128x128, .f32⟩ : BufTy).Contents (Elt F) → (⟨S16x8x64x128, .f32⟩ : BufTy).Contents (Elt F)),
    StableHlo.binary main_while1b_v160 main_while1b_v167 main_while1b_v169 ((fun l r => Host.dotGeneral dot_S16x8x64x64_S16x8x64x128_S16x8x64x128_3_2_2_3_01_01 none l r) : (⟨S16x8x64x64, .f32⟩ : BufTy).Contents (Elt F) → (⟨S16x8x64x128, .f32⟩ : BufTy).Contents (Elt F) → (⟨S16x8x64x128, .f32⟩ : BufTy).Contents (Elt F)),
    StableHlo.binary main_while1b_v168 main_while1b_v169 main_while1b_v170 (addf : (⟨S16x8x64x128, .f32⟩ : BufTy).Contents (Elt F) → (⟨S16x8x64x128, .f32⟩ : BufTy).Contents (Elt F) → (⟨S16x8x64x128, .f32⟩ : BufTy).Contents (Elt F)),
    StableHlo.unary main_while1b_v165 main_while1b_v171 (broadcastInDim S16x8x1x1 ![0, 1] bcast_S16x8_S16x8x1x1_0_1 : (⟨S16x8, .f32⟩ : BufTy).Contents (Elt F) → (⟨S16x8x1x1, .f32⟩ : BufTy).Contents (Elt F)),
    StableHlo.unary main_while1b_v171 main_while1b_v172 (broadcastInDim S16x8x128x128 ![0, 1, 2, 3] bcast_S16x8x1x1_S16x8x128x128_0_1_2_3 : (⟨S16x8x1x1, .f32⟩ : BufTy).Contents (Elt F) → (⟨S16x8x128x128, .f32⟩ : BufTy).Contents (Elt F)),
    StableHlo.binary main_while1b_v172 main_v139_7 main_while1b_v173 (mulf : (⟨S16x8x128x128, .f32⟩ : BufTy).Contents (Elt F) → (⟨S16x8x128x128, .f32⟩ : BufTy).Contents (Elt F) → (⟨S16x8x128x128, .f32⟩ : BufTy).Contents (Elt F)),
    StableHlo.binary main_while1b_v162 main_while1b_v167 main_while1b_v174 ((fun l r => Host.dotGeneral dot_S16x8x64x128_S16x8x64x128_S16x8x128x128_2_2_3_3_01_01 none l r) : (⟨S16x8x64x128, .f32⟩ : BufTy).Contents (Elt F) → (⟨S16x8x64x128, .f32⟩ : BufTy).Contents (Elt F) → (⟨S16x8x128x128, .f32⟩ : BufTy).Contents (Elt F)),
    StableHlo.binary main_while1b_v173 main_while1b_v174 main_while1b_v175 (addf : (⟨S16x8x128x128, .f32⟩ : BufTy).Contents (Elt F) → (⟨S16x8x128x128, .f32⟩ : BufTy).Contents (Elt F) → (⟨S16x8x128x128, .f32⟩ : BufTy).Contents (Elt F)) ]
theorem while1Ops0_6_sub : (while1Ops0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩
/-- 6 host operations of @dynamic_update_index_in_dim (main_while1b_call15), in order. -/
abbrev while1Ops0_7 : List (HloOp τ sig (Elt F)) :=
  [ StableHlo.TRef.unary (.of main_while1b_v170 : StableHlo.TRef sig ⟨S16x8x64x128, .f32⟩) (.of main_while1b_call15_v0 : StableHlo.TRef sig ⟨S1x16x8x64x128, .f32⟩) (broadcastInDim S1x16x8x64x128 ![1, 2, 3, 4] bcast_S16x8x64x128_S1x16x8x64x128_1_2_3_4),
    StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.nullary (.of main_while1b_call15_c_2 : StableHlo.TRef sig ⟨S_, .i32⟩) (constantI S_ 32 0#32),
    StableHlo.TRef.binaryIndexed (.of main_v139_8 : StableHlo.TRef sig ⟨S64x16x8x64x128, .f32⟩) (.of main_while1b_call15_v0 : StableHlo.TRef sig ⟨S1x16x8x64x128, .f32⟩) ![(.of main_v139_6 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩), (.of main_while1b_call15_c_2 : StableHlo.TRef sig ⟨S_, .i32⟩)] (.of main_while1b_v176 : StableHlo.TRef sig ⟨S64x16x8x64x128, .f32⟩) (fun x u i => Host.dynamicUpdateSlice x u (fun k => (i k (Shape.Idx.first h_S_)).toInt) updateFits_S64x16x8x64x128_S1x16x8x64x128) ]
theorem while1Ops0_7_sub : (while1Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 5 host operations of host loop 1's body region, in order. -/
abbrev while1Ops0_8 : List (HloOp τ sig (Elt F)) :=
  [ StableHlo.nullary main_while1b_c_29 (constantI S_ 32 1#32),
    StableHlo.binary main_v139_6 main_while1b_c_29 main_while1b_v177 (addi : (⟨S_, .i32⟩ : BufTy).Contents (Elt F) → (⟨S_, .i32⟩ : BufTy).Contents (Elt F) → (⟨S_, .i32⟩ : BufTy).Contents (Elt F)),
    StableHlo.unary main_while1b_v177 main_v139_6 id,
    StableHlo.unary main_while1b_v175 main_v139_7 id,
    StableHlo.unary main_while1b_v176 main_v139_8 id ]
theorem while1Ops0_8_sub : (while1Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, StableHlo.chain_seq_cons]
  chain_rfl

end Cert.GdnRefIdeal.Chain

end
-- ==== Proof.TwoLoops.lean ====
/-
  The run of a host program with two counted loops at its top level: stretches of host operations, a loop, stretches,
  a second loop, stretches. From any memory with zero counters it terminates, and every buffer that is not scoped ends at
  the fold of the five parts (`final2`). It is assembled from the segments of the library's run over one loop.
-/
module

public import Idealize.ShloMosaic.Lib.StableHlo.RunLoop

@[expose] public section

noncomputable section

namespace Cert.TwoLoops

open Idealize.ShloMosaic
open Idealize.SL Idealize.SL.RA Idealize.SL.BI
open scoped Idealize.SL.BI
open Idealize.SL.BI.BIBase Idealize.SL.BI.Laws Idealize.SL.ProofMode Idealize.SL.Sem
open TcCoe
open Idealize.ShloMosaic.StableHlo
open Idealize.ShloMosaic.Pipeline (CSeg Ticket PCfg ucRefs)

variable {nD : Nat} {τ : Topo} {sig : RefSig} {F : FTy → Type} {Λ₀ : Idealize.SL.Sem.Labels}

local notation "𝕄" => MT nD τ sig Unit (Elt F) ℕ (Option PUnit) ℕ

section Parts

variable (pcs : Fin 0 → PCfg sig Λ₀ (Elt F))

/-- There is no pipeline: nothing is admitted, no ticket is used, no level is. -/
abbrev noAdm : (p : Fin 0) → (pcs p).Adm := fun p => p.elim0
abbrev noTk : Fin 0 → Ticket (Ix := Unit) (Name := ℕ) (U := Option PUnit) (Lvl := ℕ) (nD := nD) (τ := τ) pcs (noAdm pcs) :=
  fun j => j.elim0
abbrev noL : GSem nD τ sig → Finset Unit := fun _ => ∅
abbrev noLv : GSem nD τ sig → Unit → ℕ := fun _ _ => 0

theorem noCell : Function.Injective (Pipeline.cellOf (nD := nD) (τ := τ) (Pipeline.pin pcs (noAdm pcs))) :=
  fun k => k.1.elim0

/-- What a core holds beside its buffers. -/
abbrev rest (c : Dev nD) : sProp 𝕄 := iprop(∃ W, owes (c : Thread nD τ) (0 : CellTallies nD τ sig Unit) W)

end Parts

/-- A loop's test, specified on the buffers, keeps what stands beside them. -/
theorem test_frame {pcs : Fin 0 → PCfg sig Λ₀ (Elt F)} {defs₀ : Defs nD τ sig (Elt F) Λ₀} {nL : Nat}
    {loops : Fin nL → Prog (TpuEff nD τ sig (Elt F) (HostLoop.Sig (Pipeline.Sig Λ₀ (Fin 0) fun p => (pcs p).Adm) nL) .tc) PUnit}
    {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops rest cond condOps bodyI W₀ n := fun k hk c bd => by
  have hc := hcond k hk c bd
  have hq : ∀ v : Elt F .i1,
      iprop(iprop(⌜v = 1#1 ↔ k < n⌝ ∗ boundary (c : Thread nD τ) ∗ held (c : Thread nD τ) (ucRefs τ sig) (after condOps (atTrip condOps bodyI W₀ k c))) ∗ rest c)
        ⊢ iprop(⌜v = 1#1 ↔ k < n⌝ ∗ boundary (c : Thread nD τ) ∗ held (c : Thread nD τ) (ucRefs τ sig) (after condOps (atTrip condOps bodyI W₀ k c)) ∗ rest c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hq))
  iintro ⟨Hbd, Hh, HR⟩
  isplitl [Hbd Hh]; · isplitl [Hbd] <;> iassumption
  iexact HR

variable (condA condB : List (HloOp τ sig (Elt F))) (preI bodyA midI bodyB postI : List (List (HloOp τ sig (Elt F)))) (n n' : ℕ)
  (m : (ℓ : Loc nD τ sig) → Buf (Elt F) ℓ)

/-- The buffers where the second loop starts. -/
abbrev entry2 (c : Dev nD) : Valuation τ sig (Elt F) := finalContents condA preI bodyA midI n m c

/-- The buffers where the program ends. -/
abbrev final2 (c : Dev nD) : Valuation τ sig (Elt F) :=
  afterL postI (after condB (atTrip condB bodyB (entry2 condA preI bodyA midI n m) n' c))

/-- The run. -/
theorem run_two_loops [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (lA lB : Fin nL)
    (testA testB : Prog (TpuEff nD τ sig (Elt F) (HostLoop.Sig (Pipeline.Sig Λ₀ (Fin 0) fun p => (pcs p).Adm) nL) .tc) (Elt F .i1))
    (progA progB : Prog (TpuEff nD τ sig (Elt F) (HostLoop.Sig (Pipeline.Sig Λ₀ (Fin 0) fun p => (pcs p).Adm) nL) .tc) PUnit)
    (hA : loops lA = HostLoop.step lA testA progA) (hB : loops lB = HostLoop.step lB testB progB)
    (hpre : Plain preI) (hbodyA : Plain bodyA) (hmid : Plain midI) (hbodyB : Plain bodyB) (hpost : Plain postI)
    (hmain : ∀ c, main c = Pipeline.chain ((preI.map fun ops => (seq ops : Prog _ PUnit)) ++ HostLoop.enter lA ::
      ((midI.map fun ops => (seq ops : Prog _ PUnit)) ++ HostLoop.enter lB :: postI.map fun ops => (seq ops : Prog _ PUnit))))
    (hprogA : progA = Pipeline.chain (bodyA.map fun ops => (seq ops : Prog _ PUnit)))
    (hprogB : progB = Pipeline.chain (bodyB.map fun ops => (seq ops : Prog _ PUnit)))
    (ρ : Dev nD → PrngReg)
    (hcondA : CondSpec pcs defs₀ loops testA condA bodyA (entryContents preI m) n)
    (hcondB : CondSpec pcs defs₀ loops testB condB bodyB (entry2 condA preI bodyA midI n m) n') :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final2 condA condB preI bodyA midI bodyB postI n n' m c (Proc.devRef .tc b)) :=
  let segs : List (CSeg pcs (noAdm pcs) defs₀ Variants.none noL noLv loops (noTk pcs)) :=
    segsOf _ _ _ _ _ _ _ _ rest preI hpre (launchContents m)
      ++ loopSeg _ _ _ _ _ _ _ _ lA testA progA hA condA bodyA hbodyA hprogA n (entryContents preI m) rest (test_frame hcondA)
        :: (segsOf _ _ _ _ _ _ _ _ rest midI hmid (fun c => after condA (atTrip condA bodyA (entryContents preI m) n c))
          ++ loopSeg _ _ _ _ _ _ _ _ lB testB progB hB condB bodyB hbodyB hprogB n' (entry2 condA preI bodyA midI n m) rest (test_frame hcondB)
            :: segsOf _ _ _ _ _ _ _ _ rest postI hpost (fun c => after condB (atTrip condB bodyB (entry2 condA preI bodyA midI n m) n' c)))
  have hprog : segs.map CSeg.prog = (preI.map fun ops => (seq ops : Prog _ PUnit)) ++ HostLoop.enter lA ::
      ((midI.map fun ops => (seq ops : Prog _ PUnit)) ++ HostLoop.enter lB :: postI.map fun ops => (seq ops : Prog _ PUnit)) := by
    show List.map _ (_ ++ _ :: (_ ++ _ :: _)) = _
    rw [List.map_append, List.map_cons, List.map_append, List.map_cons, segsOf_prog, segsOf_prog, segsOf_prog]
    rfl
  have hchains : CSeg.Chains (fun c => iprop(held (c : Thread nD τ) (ucRefs τ sig) (launchContents m c) ∗ rest c)) segs
      (fun c => iprop(iprop(held (c : Thread nD τ) (ucRefs τ sig) (final2 condA condB preI bodyA midI bodyB postI n n' m c))
        ∗ ∃ W, owes (c : Thread nD τ) (0 : CellTallies nD τ sig Unit) W)) :=
    CSeg.Chains.append (segsOf_chains _ _ _ _ _ _ _ _ rest preI hpre _)
      ⟨fun _ => .rfl, CSeg.Chains.append (segsOf_chains _ _ _ _ _ _ _ _ rest midI hmid _)
        ⟨fun _ => .rfl, segsOf_chains _ _ _ _ _ _ _ _ rest postI hpost _⟩⟩
  Pipeline.θ_run_regions_loop_kit (Ix := Unit) (Name := ℕ) (U := Option PUnit) (Lvl := ℕ) (J := Fin 0) (P := Fin 0) (Val := Elt F)
    pcs (noAdm pcs) (noCell pcs) defs₀ Variants.none noL noLv loops (noTk pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (final2 condA condB preI bodyA midI bodyB postI n n' m c)))
    (hch := hchains)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final2 condA condB preI bodyA midI bodyB postI n n' m c b)
    (hfin := fun c s' => by
      unfold held
      iintro ⟨Hh, HSI⟩
      ihave Hr := (pointsTo_read_all (ucRefs τ sig) (fun b => ((c : Dev nD), b)) (fun b => final2 condA condB preI bodyA midI bodyB postI n n' m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.GdnRefRun.lean ====
/-
  The run of the gated delta rule's reference, `GdnRefIdeal`: what each stretch writes, the two loops' counters and
  tests, the run itself (`run_fold`), and that a buffer nothing writes ends as it was at the launch (`arg_keep`).
-/
module

public import proofs.«01_k».proof.Defs
public import proofs.«01_k».proof.Proof.GdnRefChain
public import proofs.«01_k».proof.Proof.TwoLoops
public import Idealize.ShloMosaic.Lib.Claim
public import Idealize.ShloMosaic.Lib.Quiescent

@[expose] public section

set_option maxRecDepth 1812

noncomputable section

namespace Cert.GdnRefIdeal.Fold

open Cert.GdnRefIdeal Cert.GdnRefIdeal.Gen Cert.GdnRefIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

theorem hostOps0_fresh : (hostOps0 : List (HloOp τ sig (Elt F))).Forall fun op => op.fresh = ∅ :=
  StableHlo.forall_fresh_of_map rfl
abbrev hostOps0_W : List (Ref sig .tc) := [main_v0, main_v1, main_v2, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_call0_v0, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_v4, main_v5, main_v6, main_v7, main_v8, main_v9, main_cst, main_v10, main_v11, main_v12, main_v13, main_v14, main_v15, main_v16, main_v17, main_v18, main_v19, main_v20, main_v21, main_v22, main_v23, main_v24, main_v25, main_v26, main_v27, main_v28, main_v29, main_v30, main_v31, main_v32]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
abbrev hostOps0_3_W : List (Ref sig .tc) := [main_call1_v0, main_call1_v1, main_call1_cst, main_call1_v2, main_call1_v3, main_call1_cst_0, main_call1_v4, main_call1_v5, main_v33]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
abbrev hostOps0_4_W : List (Ref sig .tc) := [main_v34, main_v35, main_v36, main_v37, main_v38, main_v39, main_cst_0, main_v40, main_v41, main_cst_1, main_v42, main_v43, main_v44, main_v45, main_v46, main_v47, main_v48, main_v49]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl
abbrev hostOps0_5_W : List (Ref sig .tc) := [main_call2_cst, main_call2_v0, main_call2_v1, main_call2_v2, main_call2_v3, main_call2_v4, main_call2_v5, main_call2_v6, main_call2_v7, main_call2_v8, main_call2_v9, main_call2_v10, main_call2_v11, main_v50]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl
abbrev hostOps0_6_W : List (Ref sig .tc) := [main_v51, main_v52, main_v53, main_v54, main_v55, main_v56, main_cst_2, main_v57, main_v58, main_cst_3, main_v59, main_v60, main_v61, main_v62, main_v63, main_v64, main_v65, main_v66, main_cst_4, main_v67, main_v68, main_cst_5, main_v69, main_v70, main_v71, main_v72, main_v73, main_v74, main_v75, main_v76, main_v77, main_v78, main_v79, main_cst_6, main_v80, main_v81]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_7_fresh : (hostOps0_7 : List (HloOp τ sig (Elt F))).Forall fun op => op.fresh = ∅ :=
  StableHlo.forall_fresh_of_map rfl
abbrev hostOps0_7_W : List (Ref sig .tc) := [main_call3_call0_cst, main_call3_call0_v0, main_v82]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_8_fresh : (hostOps0_8 : List (HloOp τ sig (Elt F))).Forall fun op => op.fresh = ∅ :=
  StableHlo.forall_fresh_of_map rfl
abbrev hostOps0_8_W : List (Ref sig .tc) := [main_v83, main_v84, main_c_7, main_v85]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_fresh : (hostOps0_9 : List (HloOp τ sig (Elt F))).Forall fun op => op.fresh = ∅ :=
  StableHlo.forall_fresh_of_map rfl
abbrev hostOps0_9_W : List (Ref sig .tc) := [main_call4_v0, main_call4_c, main_call4_v1, main_call4_v2, main_call4_v3, main_call4_v4, main_call4_c_0, main_call4_v5, main_v86]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_fresh : (hostOps0_10 : List (HloOp τ sig (Elt F))).Forall fun op => op.fresh = ∅ :=
  StableHlo.forall_fresh_of_map rfl
abbrev hostOps0_10_W : List (Ref sig .tc) := [main_c_8, main_v87]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_fresh : (hostOps0_11 : List (HloOp τ sig (Elt F))).Forall fun op => op.fresh = ∅ :=
  StableHlo.forall_fresh_of_map rfl
abbrev hostOps0_11_W : List (Ref sig .tc) := [main_call5_v0, main_call5_c, main_call5_v1, main_call5_v2, main_call5_v3, main_call5_v4, main_call5_c_0, main_call5_v5, main_v88]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_fresh : (hostOps0_12 : List (HloOp τ sig (Elt F))).Forall fun op => op.fresh = ∅ :=
  StableHlo.forall_fresh_of_map rfl
abbrev hostOps0_12_W : List (Ref sig .tc) := [main_v89, main_v90, main_v91, main_v92, main_v93, main_cst_9, main_v94, main_v95, main_v96, main_cst_10]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_13_fresh : (hostOps0_13 : List (HloOp τ sig (Elt F))).Forall fun op => op.fresh = ∅ :=
  StableHlo.forall_fresh_of_map rfl
abbrev hostOps0_13_W : List (Ref sig .tc) := [main_call6_v0, main_call6_v1, main_call6_v2, main_v97]
theorem hostOps0_13_writes : (hostOps0_13 : List (HloOp τ sig (Elt F))).Forall fun op => op.writes ⊆ (hostOps0_13_W.map (Proc.devRef (τ := τ) .tc)).toFinset :=
  StableHlo.forall_writes_sub_of_map rfl
theorem hostOps0_14_fresh : (hostOps0_14 : List (HloOp τ sig (Elt F))).Forall fun op => op.fresh = ∅ :=
  StableHlo.forall_fresh_of_map rfl
abbrev hostOps0_14_W : List (Ref sig .tc) := [main_v98, main_v99, main_v100, main_v101, main_v102, main_cst_11]
theorem hostOps0_14_writes : (hostOps0_14 : List (HloOp τ sig (Elt F))).Forall fun op => op.writes ⊆ (hostOps0_14_W.map (Proc.devRef (τ := τ) .tc)).toFinset :=
  StableHlo.forall_writes_sub_of_map rfl
theorem hostOps0_15_fresh : (hostOps0_15 : List (HloOp τ sig (Elt F))).Forall fun op => op.fresh = ∅ :=
  StableHlo.forall_fresh_of_map rfl
abbrev hostOps0_15_W : List (Ref sig .tc) := [main_call7_v0, main_call7_v1, main_call7_v2, main_v103]
theorem hostOps0_15_writes : (hostOps0_15 : List (HloOp τ sig (Elt F))).Forall fun op => op.writes ⊆ (hostOps0_15_W.map (Proc.devRef (τ := τ) .tc)).toFinset :=
  StableHlo.forall_writes_sub_of_map rfl
theorem hostOps0_16_fresh : (hostOps0_16 : List (HloOp τ sig (Elt F))).Forall fun op => op.fresh = ∅ :=
  StableHlo.forall_fresh_of_map rfl
abbrev hostOps0_16_W : List (Ref sig .tc) := [main_v104, main_v105, main_v106, main_v107, main_v108, main_v109, main_v110, main_v111, main_v112, main_cst_12, main_v113, main_c_13, main_c_14, main_v114_0, main_v114_1, main_v114_2, main_v114_3, main_v114_4, main_v114_5]
theorem hostOps0_16_writes : (hostOps0_16 : List (HloOp τ sig (Elt F))).Forall fun op => op.writes ⊆ (hostOps0_16_W.map (Proc.devRef (τ := τ) .tc)).toFinset :=
  StableHlo.forall_writes_sub_of_map rfl
theorem hostOps0_17_fresh : (hostOps0_17 : List (HloOp τ sig (Elt F))).Forall fun op => op.fresh = ∅ :=
  StableHlo.forall_fresh_of_map rfl
abbrev hostOps0_17_W : List (Ref sig .tc) := [main_v115, main_v116, main_v117, main_v118, main_v119, main_v120, main_v121, main_v122, main_v123, main_v124, main_v125, main_v126, main_v127, main_v128, main_v129, main_cst_15, main_v130, main_v131, main_v132, main_v133, main_v134, main_v135, main_v136, main_v137, main_cst_16, main_v138, main_c_17, main_v139_0, main_v139_1, main_v139_2, main_v139_3, main_v139_4, main_v139_5, main_v139_6, main_v139_7, main_v139_8]
theorem hostOps0_17_writes : (hostOps0_17 : List (HloOp τ sig (Elt F))).Forall fun op => op.writes ⊆ (hostOps0_17_W.map (Proc.devRef (τ := τ) .tc)).toFinset :=
  StableHlo.forall_writes_sub_of_map rfl
theorem hostOps0_18_fresh : (hostOps0_18 : List (HloOp τ sig (Elt F))).Forall fun op => op.fresh = ∅ :=
  StableHlo.forall_fresh_of_map rfl
abbrev hostOps0_18_W : List (Ref sig .tc) := [main_v140, main_v141, main_cst_18, main_v142, main_v143, main_cst_19, main_v144, main_v145, main_cst_20, main_v146, main_v147, main_v148, main_v149, main_v150, main_v151, main_v152, main_v153, main_v154, main_v155]
theorem hostOps0_18_writes : (hostOps0_18 : List (HloOp τ sig (Elt F))).Forall fun op => op.writes ⊆ (hostOps0_18_W.map (Proc.devRef (τ := τ) .tc)).toFinset :=
  StableHlo.forall_writes_sub_of_map rfl
theorem hostOps0_19_fresh : (hostOps0_19 : List (HloOp τ sig (Elt F))).Forall fun op => op.fresh = ∅ :=
  StableHlo.forall_fresh_of_map rfl
abbrev hostOps0_19_W : List (Ref sig .tc) := [main_call16_v0, main_call16_v1, main_call16_cst, main_call16_v2, main_call16_v3, main_call16_cst_0, main_call16_v4, main_call16_v5, main_v156]
theorem hostOps0_19_writes : (hostOps0_19 : List (HloOp τ sig (Elt F))).Forall fun op => op.writes ⊆ (hostOps0_19_W.map (Proc.devRef (τ := τ) .tc)).toFinset :=
  StableHlo.forall_writes_sub_of_map rfl
theorem hostOps0_20_fresh : (hostOps0_20 : List (HloOp τ sig (Elt F))).Forall fun op => op.fresh = ∅ :=
  StableHlo.forall_fresh_of_map rfl
abbrev hostOps0_20_W : List (Ref sig .tc) := [main_v157, main_v158, main_v159]
theorem hostOps0_20_writes : (hostOps0_20 : List (HloOp τ sig (Elt F))).Forall fun op => op.writes ⊆ (hostOps0_20_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_c_26, main_while0b_v160, main_while0b_v161, main_while0b_v162, main_while0b_v163, main_while0b_v164, main_while0b_v165]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call8_v0, main_while0b_v166]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_c_27, main_while0b_v167, main_v114_3, main_v114_4, main_v114_5]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while1Ops0_fresh : (while1Ops0 : List (HloOp τ sig (Elt F))).Forall fun op => op.fresh = ∅ :=
  StableHlo.forall_fresh_of_map rfl
abbrev while1Ops0_W : List (Ref sig .tc) := [main_while1b_call9_c, main_while1b_call9_c_0, main_while1b_call9_c_1, main_while1b_call9_c_2, main_while1b_call9_v0, main_while1b_v160]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_1_fresh : (while1Ops0_1 : List (HloOp τ sig (Elt F))).Forall fun op => op.fresh = ∅ :=
  StableHlo.forall_fresh_of_map rfl
abbrev while1Ops0_1_W : List (Ref sig .tc) := [main_while1b_call10_c, main_while1b_call10_c_0, main_while1b_call10_c_1, main_while1b_call10_c_2, main_while1b_call10_v0, main_while1b_v161]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_2_fresh : (while1Ops0_2 : List (HloOp τ sig (Elt F))).Forall fun op => op.fresh = ∅ :=
  StableHlo.forall_fresh_of_map rfl
abbrev while1Ops0_2_W : List (Ref sig .tc) := [main_while1b_call11_c, main_while1b_call11_c_0, main_while1b_call11_c_1, main_while1b_call11_c_2, main_while1b_call11_v0, main_while1b_v162]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_3_fresh : (while1Ops0_3 : List (HloOp τ sig (Elt F))).Forall fun op => op.fresh = ∅ :=
  StableHlo.forall_fresh_of_map rfl
abbrev while1Ops0_3_W : List (Ref sig .tc) := [main_while1b_call12_c, main_while1b_call12_c_0, main_while1b_call12_c_1, main_while1b_call12_c_2, main_while1b_call12_v0, main_while1b_v163]
theorem while1Ops0_3_writes : (while1Ops0_3 : List (HloOp τ sig (Elt F))).Forall fun op => op.writes ⊆ (while1Ops0_3_W.map (Proc.devRef (τ := τ) .tc)).toFinset :=
  StableHlo.forall_writes_sub_of_map rfl
theorem while1Ops0_4_fresh : (while1Ops0_4 : List (HloOp τ sig (Elt F))).Forall fun op => op.fresh = ∅ :=
  StableHlo.forall_fresh_of_map rfl
abbrev while1Ops0_4_W : List (Ref sig .tc) := [main_while1b_call13_c, main_while1b_call13_c_0, main_while1b_call13_c_1, main_while1b_call13_c_2, main_while1b_call13_v0, main_while1b_v164]
theorem while1Ops0_4_writes : (while1Ops0_4 : List (HloOp τ sig (Elt F))).Forall fun op => op.writes ⊆ (while1Ops0_4_W.map (Proc.devRef (τ := τ) .tc)).toFinset :=
  StableHlo.forall_writes_sub_of_map rfl
theorem while1Ops0_5_fresh : (while1Ops0_5 : List (HloOp τ sig (Elt F))).Forall fun op => op.fresh = ∅ :=
  StableHlo.forall_fresh_of_map rfl
abbrev while1Ops0_5_W : List (Ref sig .tc) := [main_while1b_call14_c, main_while1b_call14_c_0, main_while1b_call14_v0, main_while1b_v165]
theorem while1Ops0_5_writes : (while1Ops0_5 : List (HloOp τ sig (Elt F))).Forall fun op => op.writes ⊆ (while1Ops0_5_W.map (Proc.devRef (τ := τ) .tc)).toFinset :=
  StableHlo.forall_writes_sub_of_map rfl
theorem while1Ops0_6_fresh : (while1Ops0_6 : List (HloOp τ sig (Elt F))).Forall fun op => op.fresh = ∅ :=
  StableHlo.forall_fresh_of_map rfl
abbrev while1Ops0_6_W : List (Ref sig .tc) := [main_while1b_v166, main_while1b_v167, main_while1b_v168, main_while1b_v169, main_while1b_v170, main_while1b_v171, main_while1b_v172, main_while1b_v173, main_while1b_v174, main_while1b_v175]
theorem while1Ops0_6_writes : (while1Ops0_6 : List (HloOp τ sig (Elt F))).Forall fun op => op.writes ⊆ (while1Ops0_6_W.map (Proc.devRef (τ := τ) .tc)).toFinset :=
  StableHlo.forall_writes_sub_of_map rfl
theorem while1Ops0_7_fresh : (while1Ops0_7 : List (HloOp τ sig (Elt F))).Forall fun op => op.fresh = ∅ :=
  StableHlo.forall_fresh_of_map rfl
abbrev while1Ops0_7_W : List (Ref sig .tc) := [main_while1b_call15_v0, main_while1b_call15_c, main_while1b_call15_c_0, main_while1b_call15_c_1, main_while1b_call15_c_2, main_while1b_v176]
theorem while1Ops0_7_writes : (while1Ops0_7 : List (HloOp τ sig (Elt F))).Forall fun op => op.writes ⊆ (while1Ops0_7_W.map (Proc.devRef (τ := τ) .tc)).toFinset :=
  StableHlo.forall_writes_sub_of_map rfl
theorem while1Ops0_8_fresh : (while1Ops0_8 : List (HloOp τ sig (Elt F))).Forall fun op => op.fresh = ∅ :=
  StableHlo.forall_fresh_of_map rfl
abbrev while1Ops0_8_W : List (Ref sig .tc) := [main_while1b_c_29, main_while1b_v177, main_v139_6, main_v139_7, main_v139_8]
theorem while1Ops0_8_writes : (while1Ops0_8 : List (HloOp τ sig (Elt F))).Forall fun op => op.writes ⊆ (while1Ops0_8_W.map (Proc.devRef (τ := τ) .tc)).toFinset :=
  StableHlo.forall_writes_sub_of_map rfl

/-! ## The five parts -/

/-- @main before the first loop. -/
abbrev preI : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
theorem preI_plain : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.cons hostOps0_15_sub (hf := List.forall_iff_forall_mem.mp hostOps0_15_fresh) (.cons hostOps0_16_sub (hf := List.forall_iff_forall_mem.mp hostOps0_16_fresh) (.nil)))))))))))))))))
/-- What they write. -/
abbrev preI_W : List (Ref sig .tc) := hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W ++ (hostOps0_11_W ++ (hostOps0_12_W ++ (hostOps0_13_W ++ (hostOps0_14_W ++ (hostOps0_15_W ++ (hostOps0_16_W))))))))))))))))
/-- They leave every other buffer alone. -/
theorem preI_keep (X : Valuation τ sig (Elt F)) (b : Ref sig .tc) (h : b ∉ preI_W) :
    afterL preI X (Proc.devRef .tc b) = X (Proc.devRef .tc b) := by
  simp only [preI_W, List.mem_append, not_or] at h
  obtain ⟨h0, h1, h2, h3, h4, h5, h6, h7, h8, h9, h10, h11, h12, h13, h14, h15, h16⟩ := h
  simp only [preI, afterL_cons, afterL_nil]
  rw [after_of_writes_sub _ _ hostOps0_16_writes h16,
    after_of_writes_sub _ _ hostOps0_15_writes h15,
    after_of_writes_sub _ _ hostOps0_14_writes h14,
    after_of_writes_sub _ _ hostOps0_13_writes h13,
    after_of_writes_sub _ _ hostOps0_12_writes h12,
    after_of_writes_sub _ _ hostOps0_11_writes h11,
    after_of_writes_sub _ _ hostOps0_10_writes h10,
    after_of_writes_sub _ _ hostOps0_9_writes h9,
    after_of_writes_sub _ _ hostOps0_8_writes h8,
    after_of_writes_sub _ _ hostOps0_7_writes h7,
    after_of_writes_sub _ _ hostOps0_6_writes h6,
    after_of_writes_sub _ _ hostOps0_5_writes h5,
    after_of_writes_sub _ _ hostOps0_4_writes h4,
    after_of_writes_sub _ _ hostOps0_3_writes h3,
    after_of_writes_sub _ _ hostOps0_2_writes h2,
    after_of_writes_sub _ _ hostOps0_1_writes h1,
    after_of_writes_sub _ _ hostOps0_writes h0]

/-- The first loop's body. -/
abbrev bodyA : List (List (HloOp τ sig (Elt F))) := [while0Ops0, while0Ops0_1, while0Ops0_2]
theorem bodyA_plain : Plain (bodyA (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.nil)))
/-- What they write. -/
abbrev bodyA_W : List (Ref sig .tc) := while0Ops0_W ++ (while0Ops0_1_W ++ (while0Ops0_2_W))
/-- They leave every other buffer alone. -/
theorem bodyA_keep (X : Valuation τ sig (Elt F)) (b : Ref sig .tc) (h : b ∉ bodyA_W) :
    afterL bodyA X (Proc.devRef .tc b) = X (Proc.devRef .tc b) := by
  simp only [bodyA_W, List.mem_append, not_or] at h
  obtain ⟨h0, h1, h2⟩ := h
  simp only [bodyA, afterL_cons, afterL_nil]
  rw [after_of_writes_sub _ _ while0Ops0_2_writes h2,
    after_of_writes_sub _ _ while0Ops0_1_writes h1,
    after_of_writes_sub _ _ while0Ops0_writes h0]

/-- @main between the loops. -/
abbrev midI : List (List (HloOp τ sig (Elt F))) := [hostOps0_17]
theorem midI_plain : Plain (midI (F := F)) := .cons hostOps0_17_sub (hf := List.forall_iff_forall_mem.mp hostOps0_17_fresh) (.nil)
/-- What they write. -/
abbrev midI_W : List (Ref sig .tc) := hostOps0_17_W
/-- They leave every other buffer alone. -/
theorem midI_keep (X : Valuation τ sig (Elt F)) (b : Ref sig .tc) (h : b ∉ midI_W) :
    afterL midI X (Proc.devRef .tc b) = X (Proc.devRef .tc b) := by
  have h0 := h
  simp only [midI, afterL_cons, afterL_nil]
  rw [after_of_writes_sub _ _ hostOps0_17_writes h0]

/-- The second loop's body. -/
abbrev bodyB : List (List (HloOp τ sig (Elt F))) := [while1Ops0, while1Ops0_1, while1Ops0_2, while1Ops0_3, while1Ops0_4, while1Ops0_5, while1Ops0_6, while1Ops0_7, while1Ops0_8]
theorem bodyB_plain : Plain (bodyB (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.nil)))))))))
/-- What they write. -/
abbrev bodyB_W : List (Ref sig .tc) := while1Ops0_W ++ (while1Ops0_1_W ++ (while1Ops0_2_W ++ (while1Ops0_3_W ++ (while1Ops0_4_W ++ (while1Ops0_5_W ++ (while1Ops0_6_W ++ (while1Ops0_7_W ++ (while1Ops0_8_W))))))))
/-- They leave every other buffer alone. -/
theorem bodyB_keep (X : Valuation τ sig (Elt F)) (b : Ref sig .tc) (h : b ∉ bodyB_W) :
    afterL bodyB X (Proc.devRef .tc b) = X (Proc.devRef .tc b) := by
  simp only [bodyB_W, List.mem_append, not_or] at h
  obtain ⟨h0, h1, h2, h3, h4, h5, h6, h7, h8⟩ := h
  simp only [bodyB, afterL_cons, afterL_nil]
  rw [after_of_writes_sub _ _ while1Ops0_8_writes h8,
    after_of_writes_sub _ _ while1Ops0_7_writes h7,
    after_of_writes_sub _ _ while1Ops0_6_writes h6,
    after_of_writes_sub _ _ while1Ops0_5_writes h5,
    after_of_writes_sub _ _ while1Ops0_4_writes h4,
    after_of_writes_sub _ _ while1Ops0_3_writes h3,
    after_of_writes_sub _ _ while1Ops0_2_writes h2,
    after_of_writes_sub _ _ while1Ops0_1_writes h1,
    after_of_writes_sub _ _ while1Ops0_writes h0]

/-- @main after the second loop. -/
abbrev postI : List (List (HloOp τ sig (Elt F))) := [hostOps0_18, hostOps0_19, hostOps0_20]
theorem postI_plain : Plain (postI (F := F)) := .cons hostOps0_18_sub (hf := List.forall_iff_forall_mem.mp hostOps0_18_fresh) (.cons hostOps0_19_sub (hf := List.forall_iff_forall_mem.mp hostOps0_19_fresh) (.cons hostOps0_20_sub (hf := List.forall_iff_forall_mem.mp hostOps0_20_fresh) (.nil)))
/-- What they write. -/
abbrev postI_W : List (Ref sig .tc) := hostOps0_18_W ++ (hostOps0_19_W ++ (hostOps0_20_W))
/-- They leave every other buffer alone. -/
theorem postI_keep (X : Valuation τ sig (Elt F)) (b : Ref sig .tc) (h : b ∉ postI_W) :
    afterL postI X (Proc.devRef .tc b) = X (Proc.devRef .tc b) := by
  simp only [postI_W, List.mem_append, not_or] at h
  obtain ⟨h0, h1, h2⟩ := h
  simp only [postI, afterL_cons, afterL_nil]
  rw [after_of_writes_sub _ _ hostOps0_20_writes h2,
    after_of_writes_sub _ _ hostOps0_19_writes h1,
    after_of_writes_sub _ _ hostOps0_18_writes h0]

/-- A loop's test: the bound, and the trip counter compared with it. -/
abbrev condA : List (HloOp τ sig (Elt F)) :=
  [ StableHlo.nullary main_while0c_c_26 (constantI S_ 32 64#32),
    StableHlo.binary main_v114_3 main_while0c_c_26 main_while0c_v160 (cmpi .slt) ]
abbrev condA_W : List (Ref sig .tc) := [main_while0c_c_26, main_while0c_v160]
theorem condA_writes : (condA : List (HloOp τ sig (Elt F))).Forall fun op => op.writes ⊆ (condA_W.map (Proc.devRef (τ := τ) .tc)).toFinset :=
  StableHlo.forall_writes_sub_of_map rfl

/-- A loop's test: the bound, and the trip counter compared with it. -/
abbrev condB : List (HloOp τ sig (Elt F)) :=
  [ StableHlo.nullary main_while1c_c_29 (constantI S_ 32 64#32),
    StableHlo.binary main_v139_6 main_while1c_c_29 main_while1c_v160 (cmpi .slt) ]
abbrev condB_W : List (Ref sig .tc) := [main_while1c_c_29, main_while1c_v160]
theorem condB_writes : (condB : List (HloOp τ sig (Elt F))).Forall fun op => op.writes ⊆ (condB_W.map (Proc.devRef (τ := τ) .tc)).toFinset :=
  StableHlo.forall_writes_sub_of_map rfl

/-- A round of the first loop leaves the buffers it does not write alone. -/
theorem roundA_keep (X : Valuation τ sig (Elt F)) (b : Ref sig .tc) (h : b ∉ condA_W ++ bodyA_W) :
    afterL bodyA (after condA X) (Proc.devRef .tc b) = X (Proc.devRef .tc b) :=
  (bodyA_keep _ b fun hb => h (List.mem_append.mpr (.inr hb))).trans
    (after_of_writes_sub _ _ condA_writes fun hb => h (List.mem_append.mpr (.inl hb)))

/-- A round of the second loop leaves the buffers it does not write alone. -/
theorem roundB_keep (X : Valuation τ sig (Elt F)) (b : Ref sig .tc) (h : b ∉ condB_W ++ bodyB_W) :
    afterL bodyB (after condB X) (Proc.devRef .tc b) = X (Proc.devRef .tc b) :=
  (bodyB_keep _ b fun hb => h (List.mem_append.mpr (.inr hb))).trans
    (after_of_writes_sub _ _ condB_writes fun hb => h (List.mem_append.mpr (.inl hb)))

/-- So the loops do, from any start. -/
theorem loopA_keep (W₀ : Dev nD → Valuation τ sig (Elt F)) (c : Dev nD) (b : Ref sig .tc) (h : b ∉ condA_W ++ bodyA_W) : ∀ k,
    atTrip condA bodyA W₀ k c (Proc.devRef .tc b) = W₀ c (Proc.devRef .tc b)
  | 0 => rfl
  | k + 1 => (roundA_keep (atTrip condA bodyA W₀ k c) b h).trans (loopA_keep W₀ c b h k)
theorem loopB_keep (W₀ : Dev nD → Valuation τ sig (Elt F)) (c : Dev nD) (b : Ref sig .tc) (h : b ∉ condB_W ++ bodyB_W) : ∀ k,
    atTrip condB bodyB W₀ k c (Proc.devRef .tc b) = W₀ c (Proc.devRef .tc b)
  | 0 => rfl
  | k + 1 => (roundB_keep (atTrip condB bodyB W₀ k c) b h).trans (loopB_keep W₀ c b h k)

/-! ## The trip counters and the tests -/

theorem ctrA_while0Ops0 (V : Valuation τ sig (Elt F)) : after while0Ops0 V (Proc.devRef .tc main_v114_3) = V (Proc.devRef .tc main_v114_3) :=
  after_of_writes_sub while0Ops0 V while0Ops0_writes (by decide +kernel)
theorem ctrA_while0Ops0_1 (V : Valuation τ sig (Elt F)) : after while0Ops0_1 V (Proc.devRef .tc main_v114_3) = V (Proc.devRef .tc main_v114_3) :=
  after_of_writes_sub while0Ops0_1 V while0Ops0_1_writes (by decide +kernel)
theorem ctrA_cond (V : Valuation τ sig (Elt F)) : after condA V (Proc.devRef .tc main_v114_3) = V (Proc.devRef .tc main_v114_3) :=
  after_of_writes_sub condA V condA_writes (by decide +kernel)

set_option maxRecDepth 100000 in
theorem ctrA_step (X : Valuation τ sig (Elt F)) :
    after while0Ops0_2 X (Proc.devRef .tc main_v114_3) = addi (X (Proc.devRef .tc main_v114_3)) (constantI S_ 32 1#32) := by
  after_results
  rfl

/-- The first loop's counter starts at zero. -/
theorem ctrA_entry (X : Valuation τ sig (Elt F)) : afterL preI X (Proc.devRef .tc main_v114_3) = fun _ => (0#32 : BitVec 32) := by
  simp only [afterL_cons, afterL_nil]
  after_reads_simp
  rfl

/-- Before a loop's `k`-th test its counter is `k`. -/
theorem ctrA_at (W₀ : Dev nD → Valuation τ sig (Elt F)) (c : Dev nD)
    (h0 : W₀ c (Proc.devRef .tc main_v114_3) = fun _ => (0#32 : BitVec 32)) : ∀ k,
    atTrip condA bodyA W₀ k c (Proc.devRef .tc main_v114_3) = fun _ => Scf.iv 0#32 1#32 k
  | 0 => by rw [show atTrip condA bodyA W₀ 0 c = W₀ c from rfl, h0, Scf.iv_zero]
  | k + 1 => by
    rw [show atTrip condA bodyA W₀ (k + 1) c = afterL bodyA (after condA (atTrip condA bodyA W₀ k c)) from rfl]
    simp only [afterL_cons, afterL_nil]
    rw [ctrA_step, ctrA_while0Ops0_1, ctrA_while0Ops0, ctrA_cond, ctrA_at W₀ c h0 k, Scf.iv_succ]
    rfl

set_option backward.isDefEq.respectTransparency.types false in
/-- The test of a loop whose counter starts at zero. -/
theorem testA (W₀ : Dev nD → Valuation τ sig (Elt F)) (h0 : ∀ c, W₀ c (Proc.devRef .tc main_v114_3) = fun _ => (0#32 : BitVec 32)) :
    CondSpec (pcfgs (F := F)) defs₀ loops (main_while0_cond (F := F)) condA bodyA W₀ 64 := by
  intro k hk c bd
  have hctr := ctrA_at W₀ c (h0 c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA bodyA W₀ k c) main_v114_3 HostLoop.idx0)
        (HloOp.result _ (atTrip condA bodyA W₀ k c) main_while0c_c_26 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

theorem ctrB_while1Ops0 (V : Valuation τ sig (Elt F)) : after while1Ops0 V (Proc.devRef .tc main_v139_6) = V (Proc.devRef .tc main_v139_6) :=
  after_of_writes_sub while1Ops0 V while1Ops0_writes (by decide +kernel)
theorem ctrB_while1Ops0_1 (V : Valuation τ sig (Elt F)) : after while1Ops0_1 V (Proc.devRef .tc main_v139_6) = V (Proc.devRef .tc main_v139_6) :=
  after_of_writes_sub while1Ops0_1 V while1Ops0_1_writes (by decide +kernel)
theorem ctrB_while1Ops0_2 (V : Valuation τ sig (Elt F)) : after while1Ops0_2 V (Proc.devRef .tc main_v139_6) = V (Proc.devRef .tc main_v139_6) :=
  after_of_writes_sub while1Ops0_2 V while1Ops0_2_writes (by decide +kernel)
theorem ctrB_while1Ops0_3 (V : Valuation τ sig (Elt F)) : after while1Ops0_3 V (Proc.devRef .tc main_v139_6) = V (Proc.devRef .tc main_v139_6) :=
  after_of_writes_sub while1Ops0_3 V while1Ops0_3_writes (by decide +kernel)
theorem ctrB_while1Ops0_4 (V : Valuation τ sig (Elt F)) : after while1Ops0_4 V (Proc.devRef .tc main_v139_6) = V (Proc.devRef .tc main_v139_6) :=
  after_of_writes_sub while1Ops0_4 V while1Ops0_4_writes (by decide +kernel)
theorem ctrB_while1Ops0_5 (V : Valuation τ sig (Elt F)) : after while1Ops0_5 V (Proc.devRef .tc main_v139_6) = V (Proc.devRef .tc main_v139_6) :=
  after_of_writes_sub while1Ops0_5 V while1Ops0_5_writes (by decide +kernel)
theorem ctrB_while1Ops0_6 (V : Valuation τ sig (Elt F)) : after while1Ops0_6 V (Proc.devRef .tc main_v139_6) = V (Proc.devRef .tc main_v139_6) :=
  after_of_writes_sub while1Ops0_6 V while1Ops0_6_writes (by decide +kernel)
theorem ctrB_while1Ops0_7 (V : Valuation τ sig (Elt F)) : after while1Ops0_7 V (Proc.devRef .tc main_v139_6) = V (Proc.devRef .tc main_v139_6) :=
  after_of_writes_sub while1Ops0_7 V while1Ops0_7_writes (by decide +kernel)
theorem ctrB_cond (V : Valuation τ sig (Elt F)) : after condB V (Proc.devRef .tc main_v139_6) = V (Proc.devRef .tc main_v139_6) :=
  after_of_writes_sub condB V condB_writes (by decide +kernel)

set_option maxRecDepth 100000 in
theorem ctrB_step (X : Valuation τ sig (Elt F)) :
    after while1Ops0_8 X (Proc.devRef .tc main_v139_6) = addi (X (Proc.devRef .tc main_v139_6)) (constantI S_ 32 1#32) := by
  after_results
  rfl

/-- The second loop's counter starts at zero. -/
theorem ctrB_entry (X : Valuation τ sig (Elt F)) : afterL midI X (Proc.devRef .tc main_v139_6) = fun _ => (0#32 : BitVec 32) := by
  simp only [afterL_cons, afterL_nil]
  after_reads_simp
  rfl

/-- Before a loop's `k`-th test its counter is `k`. -/
theorem ctrB_at (W₀ : Dev nD → Valuation τ sig (Elt F)) (c : Dev nD)
    (h0 : W₀ c (Proc.devRef .tc main_v139_6) = fun _ => (0#32 : BitVec 32)) : ∀ k,
    atTrip condB bodyB W₀ k c (Proc.devRef .tc main_v139_6) = fun _ => Scf.iv 0#32 1#32 k
  | 0 => by rw [show atTrip condB bodyB W₀ 0 c = W₀ c from rfl, h0, Scf.iv_zero]
  | k + 1 => by
    rw [show atTrip condB bodyB W₀ (k + 1) c = afterL bodyB (after condB (atTrip condB bodyB W₀ k c)) from rfl]
    simp only [afterL_cons, afterL_nil]
    rw [ctrB_step, ctrB_while1Ops0_7, ctrB_while1Ops0_6, ctrB_while1Ops0_5, ctrB_while1Ops0_4, ctrB_while1Ops0_3, ctrB_while1Ops0_2, ctrB_while1Ops0_1, ctrB_while1Ops0, ctrB_cond, ctrB_at W₀ c h0 k, Scf.iv_succ]
    rfl

set_option backward.isDefEq.respectTransparency.types false in
/-- The test of a loop whose counter starts at zero. -/
theorem testB (W₀ : Dev nD → Valuation τ sig (Elt F)) (h0 : ∀ c, W₀ c (Proc.devRef .tc main_v139_6) = fun _ => (0#32 : BitVec 32)) :
    CondSpec (pcfgs (F := F)) defs₀ loops (main_while1_cond (F := F)) condB bodyB W₀ 64 := by
  intro k hk c bd
  have hctr := ctrB_at W₀ c (h0 c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB bodyB W₀ k c) main_v139_6 HostLoop.idx0)
        (HloOp.result _ (atTrip condB bodyB W₀ k c) main_while1c_c_29 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## The run -/

variable (m : (ℓ : Loc nD τ sig) → Buf (Elt F) ℓ)

/-- The buffers where the second loop starts, and where the program ends. -/
abbrev entryB (c : Dev nD) : Valuation τ sig (Elt F) := TwoLoops.entry2 condA preI bodyA midI 64 m c
abbrev endC (c : Dev nD) : Valuation τ sig (Elt F) := TwoLoops.final2 condA condB preI bodyA midI bodyB postI 64 64 m c

set_option maxRecDepth 100000 in
/-- The program ends, with every buffer at the fold. -/
theorem run_fold (g : Dev nD → PrngReg) : θ_run (defs (F := F)) (onTc (τ := τ) (main (F := F))) ⟨m, fun _ => 0, g⟩
    (fun r => ∀ (c : Dev nD) (b : Ref sig .tc), (Proc.devRef .tc b : DevRef τ sig).isScoped = false →
      r.2.mem ((c.tc : Thread nD τ).loc b) = endC m c (Proc.devRef .tc b)) :=
  TwoLoops.run_two_loops condA condB preI bodyA midI bodyB postI 64 64 m (pcfgs (F := F)) defs₀ loops main 0 1
    main_while0_cond main_while1_cond main_while0_body main_while1_body rfl rfl
    preI_plain bodyA_plain midI_plain bodyB_plain postI_plain
    (fun c => by rw [main_chain]; rfl) (by rw [while0_body_chain]; rfl) (by rw [while1_body_chain]; rfl) g
    (testA _ fun c => ctrA_entry _) (testB _ fun c => ctrB_entry _)

/-- A buffer nothing writes ends as it was at the launch. -/
theorem arg_keep (c : Dev nD) (b : Ref sig .tc)
    (h : b ∉ preI_W ++ ((condA_W ++ bodyA_W) ++ (midI_W ++ ((condB_W ++ bodyB_W) ++ postI_W)))) :
    endC m c (Proc.devRef .tc b) = m ((c.tc : Thread nD τ).loc b) := by
  rw [List.mem_append, List.mem_append (s := condA_W ++ bodyA_W), List.mem_append (s := midI_W),
    List.mem_append (s := condB_W ++ bodyB_W)] at h
  simp only [not_or] at h
  obtain ⟨h0, h1, h2, h3, h4⟩ := h
  refine (postI_keep _ b h4).trans ((after_of_writes_sub _ _ condB_writes fun hb => h3 (List.mem_append.mpr (.inl hb))).trans
    ((loopB_keep _ c b h3 64).trans ((midI_keep _ b h2).trans
      ((after_of_writes_sub _ _ condA_writes fun hb => h1 (List.mem_append.mpr (.inl hb))).trans
        ((loopA_keep _ c b h1 64).trans (preI_keep _ b h0))))))

/-- The program ends, and leaves its arguments alone. -/
theorem args (g : Dev nD → PrngReg) : θ_run (defs (F := F)) (onTc (τ := τ) (main (F := F))) ⟨m, fun _ => 0, g⟩
    (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c main_arg0 rfl).trans (arg_keep m c main_arg0 (by decide +kernel)),
      (h c main_arg1 rfl).trans (arg_keep m c main_arg1 (by decide +kernel)),
      (h c main_arg2 rfl).trans (arg_keep m c main_arg2 (by decide +kernel)),
      (h c main_arg3 rfl).trans (arg_keep m c main_arg3 (by decide +kernel)),
      (h c main_arg4 rfl).trans (arg_keep m c main_arg4 (by decide +kernel)),
      (h c main_arg5 rfl).trans (arg_keep m c main_arg5 (by decide +kernel)),
      (h c main_arg6 rfl).trans (arg_keep m c main_arg6 (by decide +kernel)),
      (h c main_arg7 rfl).trans (arg_keep m c main_arg7 (by decide +kernel))⟩) (run_fold m g)

end Cert.GdnRefIdeal.Fold

namespace Cert.Proof

open Idealize.ShloMosaic Idealize.ShloMosaic.TcCoe Idealize.SL.Sem

theorem gdn_ref_frame [hGdnRefIdeal : Cert.GdnRefIdeal.Facts] : Cert.quiescent_GdnRefIdeal := fun m g _ =>
  (θ_run Cert.GdnRefIdeal.defs _ _).mono
    (fun r h => ⟨h, Idealize.ShloMosaic.sem_eq_zero_of_no_sems (by decide) r.2⟩) (Cert.GdnRefIdeal.Fold.args m g)

end Cert.Proof

end
-- ==== Proof.GlaRefRun.lean ====
/-
  The run of the reference of the gated linear attention, `GlaRefIdeal`: a host program with one loop of 64 trips.
  A buffer that neither the loop nor its test writes holds at the loop's end what it held at its entry
  (`loop_keep`); a buffer nothing writes holds its launch contents at the program's end (`arg_keep`).
-/
module

public import proofs.«01_k».proof.Defs
public import proofs.«01_k».proof.Proof.Gen.GlaRefIdeal
public import proofs.«01_k».proof.Proof.Gen.GlaRefIdeal.Run
public import Idealize.ShloMosaic.Lib.Claim
public import Idealize.ShloMosaic.Lib.Quiescent

@[expose] public section

noncomputable section

open Idealize.ShloMosaic Idealize.ShloMosaic.TcCoe Idealize.SL.Sem
open Idealize.ShloMosaic.StableHlo

namespace Cert.GlaRefIdeal.Fold

open Cert.GlaRefIdeal Cert.GlaRefIdeal.Gen Cert.GlaRefIdeal.Value

variable {F : FTy → Type} [FloatOps F]
variable (m : (ℓ : Loc nD τ sig) → Buf (Elt F) ℓ)

/-- What one round of the loop writes, its test's buffers included. -/
abbrev loopW : List (Ref sig .tc) :=
  condOps_W ++ (while0Ops0_W ++ (while0Ops0_1_W ++ (while0Ops0_2_W ++ (while0Ops0_3_W ++ (while0Ops0_4_W ++
    (while0Ops0_5_W ++ while0Ops0_6_W))))))

/-- One round leaves every other buffer alone. -/
theorem round_keep (X : Valuation τ sig (Elt F)) (b : Ref sig .tc) (h : b ∉ loopW) :
    afterL bodyI (after condOps X) (Proc.devRef .tc b) = X (Proc.devRef .tc b) := by
  simp only [loopW, List.mem_append, not_or] at h
  obtain ⟨h0, h1, h2, h3, h4, h5, h6, h7⟩ := h
  simp only [bodyI, afterL_cons, afterL_nil]
  rw [after_of_writes_sub _ _ while0Ops0_6_writes h7, after_of_writes_sub _ _ while0Ops0_5_writes h6,
    after_of_writes_sub _ _ while0Ops0_4_writes h5, after_of_writes_sub _ _ while0Ops0_3_writes h4,
    after_of_writes_sub _ _ while0Ops0_2_writes h3, after_of_writes_sub _ _ while0Ops0_1_writes h2,
    after_of_writes_sub _ _ while0Ops0_writes h1, after_of_writes_sub _ _ condOps_writes h0]

/-- So the loop does. -/
theorem loop_keep (c : Dev nD) (b : Ref sig .tc) (h : b ∉ loopW) : ∀ k,
    atK m k c (Proc.devRef .tc b) = entryContents preI m c (Proc.devRef .tc b)
  | 0 => rfl
  | k + 1 => (round_keep (atK m k c) b h).trans (loop_keep c b h k)

/-- What the stretches before the loop write. -/
abbrev preW : List (Ref sig .tc) :=
  hostOps0_W ++ (hostOps0_1_W ++ (hostOps0_2_W ++ (hostOps0_3_W ++ (hostOps0_4_W ++ (hostOps0_5_W ++ hostOps0_6_W)))))

/-- They leave every other buffer as it was at the launch. -/
theorem entry_keep (c : Dev nD) (b : Ref sig .tc) (h : b ∉ preW) :
    entryContents preI m c (Proc.devRef .tc b) = m ((c.tc : Thread nD τ).loc b) := by
  simp only [preW, List.mem_append, not_or] at h
  obtain ⟨h0, h1, h2, h3, h4, h5, h6⟩ := h
  simp only [entryContents, preI, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- What the stretches after the loop write. -/
abbrev postW : List (Ref sig .tc) :=
  [main_v40, main_v41, main_v42, main_cst_4, main_v43, main_v44, main_cst_5, main_v45, main_v46, main_cst_6, main_v47,
    main_v48, main_v49, main_v50, main_v51, main_v52, main_v53, main_v54, main_v55, main_v56]
abbrev postW' : List (Ref sig .tc) :=
  [main_call8_v0, main_call8_v1, main_call8_cst, main_call8_v2, main_call8_v3, main_call8_cst_0, main_call8_v4,
    main_call8_v5, main_v57]
abbrev postW'' : List (Ref sig .tc) := [main_v58, main_v59, main_v60]

theorem postW_writes : (hostOps0_7 : List (HloOp τ sig (Elt F))).Forall fun op =>
    op.writes ⊆ (postW.map (Proc.devRef (τ := τ) .tc)).toFinset := forall_writes_sub_of_map rfl
theorem postW'_writes : (hostOps0_8 : List (HloOp τ sig (Elt F))).Forall fun op =>
    op.writes ⊆ (postW'.map (Proc.devRef (τ := τ) .tc)).toFinset := forall_writes_sub_of_map rfl
theorem postW''_writes : (hostOps0_9 : List (HloOp τ sig (Elt F))).Forall fun op =>
    op.writes ⊆ (postW''.map (Proc.devRef (τ := τ) .tc)).toFinset := forall_writes_sub_of_map rfl

/-- A buffer nothing writes ends as it was at the launch. -/
theorem arg_keep (c : Dev nD) (b : Ref sig .tc) (h : b ∉ postW ++ (postW' ++ (postW'' ++ (preW ++ loopW)))) :
    finalContents condOps preI bodyI postI 64 m c (Proc.devRef .tc b) = m ((c.tc : Thread nD τ).loc b) := by
  rw [List.mem_append, List.mem_append, List.mem_append, List.mem_append] at h
  simp only [not_or] at h
  obtain ⟨h0, h1, h2, h3, h4⟩ := h
  simp only [finalContents, postI, afterL_cons, afterL_nil]
  rw [after_of_writes_sub _ _ postW''_writes h2, after_of_writes_sub _ _ postW'_writes h1,
    after_of_writes_sub _ _ postW_writes h0]
  refine (after_of_writes_sub _ _ condOps_writes ?_).trans ((loop_keep m c b h4 64).trans (entry_keep m c b h3))
  exact fun hb => h4 (List.mem_append.mpr (.inl hb))

/-- The program ends, and leaves its arguments alone. -/
theorem args (g : Dev nD → PrngReg) : θ_run (defs (F := F)) (onTc (τ := τ) (main (F := F))) ⟨m, fun _ => 0, g⟩
    (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 rfl).trans (arg_keep m c main_arg0 (by decide +kernel)),
      (h c main_arg1 rfl).trans (arg_keep m c main_arg1 (by decide +kernel)),
      (h c main_arg2 rfl).trans (arg_keep m c main_arg2 (by decide +kernel)),
      (h c main_arg3 rfl).trans (arg_keep m c main_arg3 (by decide +kernel)),
      (h c main_arg4 rfl).trans (arg_keep m c main_arg4 (by decide +kernel))⟩) (run_fold m g)

end Cert.GlaRefIdeal.Fold

namespace Cert.Proof

theorem gla_ref_frame [hGlaRefIdeal : Cert.GlaRefIdeal.Facts] : Cert.quiescent_GlaRefIdeal := fun m g _ =>
  (θ_run Cert.GlaRefIdeal.defs _ _).mono
    (fun r h => ⟨h, Idealize.ShloMosaic.sem_eq_zero_of_no_sems (by decide) r.2⟩) (Cert.GlaRefIdeal.Fold.args m g)

end Cert.Proof

end
-- ==== Proof.GlaSpec.lean ====
module

public import Idealize.ShloMosaic.Lib.Pointwise

/-! The attention of one head, chunk by chunk, over extended reals: both programs are read as these functions. -/

@[expose] public section

noncomputable section

namespace Cert.Proof.Gla

open Idealize.ShloMosaic

/-- A matrix of extended reals. -/
abbrev Mat (a b : ℕ) : Type := Fin a → Fin b → EReal

/-- The log decays of a chunk summed up to and including each row. -/
def cum (G : Mat 64 128) : Mat 64 128 := fun i d => ∑ j : Fin 64, if j ≤ i then G j d else 0

/-- The queries, decayed from the chunk's start and scaled. -/
def qd (Q G : Mat 64 128) : Mat 64 128 := fun i d => Q i d * Ideal.exp (cum G i d) * Ideal.ofBits FTy.f32 1035273459#32

/-- The keys with their decay undone. -/
def ki (K G : Mat 64 128) : Mat 64 128 := fun i d => K i d * Ideal.exp (-cum G i d)

/-- The keys, decayed to the chunk's end. -/
def ke (K G : Mat 64 128) : Mat 64 128 := fun i d => K i d * Ideal.exp (cum G 63 d - cum G i d)

/-- The attention inside the chunk, applied to the values. -/
def intra (Q K G : Mat 64 128) (V : Mat 64 256) : Mat 64 256 := fun i v =>
  ∑ j : Fin 64, (if j ≤ i then ∑ d, qd Q G i d * ki K G j d else 0) * V j v

/-- The attention to everything before the chunk, through the state. -/
def inter (Q G : Mat 64 128) (S : Mat 128 256) : Mat 64 256 := fun i v => ∑ d, qd Q G i d * S d v

/-- The state after the chunk. -/
def step (K G : Mat 64 128) (V : Mat 64 256) (S : Mat 128 256) : Mat 128 256 := fun d v =>
  Ideal.exp (cum G 63 d) * S d v + ∑ j, ke K G j d * V j v

/-- The state before chunk `n`. -/
def run (K G : ℕ → Mat 64 128) (V : ℕ → Mat 64 256) : ℕ → Mat 128 256
  | 0 => fun _ _ => 0
  | n + 1 => step (K n) (G n) (V n) (run K G V n)

/-- The attention of chunk `n`: inside it, and to what came before. -/
def att (Q K G : ℕ → Mat 64 128) (V : ℕ → Mat 64 256) (n : ℕ) : Mat 64 256 := fun i v =>
  intra (Q n) (K n) (G n) (V n) i v + inter (Q n) (G n) (run K G V n) i v

/-- A head's row normalised, weighted and gated. -/
def gate (o w r : Fin 256 → EReal) : Fin 256 → EReal := fun v =>
  o v * Ideal.rsqrt (Ideal.div (∑ x, o x * o x) (Ideal.ofBits FTy.f32 1132462080#32) + Ideal.ofBits FTy.f32 897988541#32) * w v
    * (r v * Ideal.div 1 (1 + Ideal.exp (0 - r v)))

/-- Row `i` of chunk `c` of a block of four chunks. -/
def row (c : Fin 4) (i : Fin 64) : Fin 256 := ⟨64 * c.val + i.val, by have := c.isLt; have := i.isLt; omega⟩

theorem row_val (c : Fin 4) (i : Fin 64) : (row c i).val = 64 * c.val + i.val := rfl

theorem exists_row (r : Fin 256) : ∃ c i, r = row c i :=
  ⟨⟨r.val / 64, by have := r.isLt; omega⟩, ⟨r.val % 64, Nat.mod_lt _ (by decide)⟩, Fin.ext (by show r.val = 64 * (r.val / 64) + r.val % 64; omega)⟩

/-- A sum over a block's rows is the sum over its chunks' rows. -/
theorem sum_row (f : Fin 256 → EReal) : ∑ r, f r = ∑ c : Fin 4, ∑ i : Fin 64, f (row c i) := by
  rw [← Fintype.sum_prod_type' (f := fun c i => f (row c i))]
  refine (Fintype.sum_equiv (finProdFinEquiv (m := 4) (n := 64)) _ _ fun x => ?_).symm
  refine congrArg f (Fin.ext ?_)
  show 64 * x.1.val + x.2.val = x.2.val + 64 * x.1.val
  omega

/-- A sum over a block's rows in which only chunk `c` counts. -/
theorem sum_only (f : Fin 256 → EReal) (g : Fin 64 → EReal) (c : Fin 4)
    (h : ∀ c' i, f (row c' i) = if c' = c then g i else 0) : ∑ r, f r = ∑ i : Fin 64, g i := by
  rw [sum_row, Finset.sum_eq_single c]
  · exact Finset.sum_congr rfl fun i _ => by rw [h, if_pos rfl]
  · intro c' _ hc
    exact Finset.sum_eq_zero fun i _ => by rw [h, if_neg hc]
  · intro hc; exact absurd (Finset.mem_univ c) hc

/-- Splitting a number below infinity into itself and nothing changes nothing. -/
theorem add_sub_self {x : EReal} (h : x ≠ ⊤) : x + (x - x) = x := by
  induction x with
  | bot => exact EReal.bot_add _
  | top => exact absurd rfl h
  | coe r => rw [EReal.sub_self (EReal.coe_ne_top r) (EReal.coe_ne_bot r), add_zero]

/-! The call's arguments by chunk and head, and its result. -/

/-- Row `i` of chunk `n` of a sequence. -/
def tok (n : ℕ) (i : Fin 64) : Fin 4096 := ⟨(64 * n + i.val) % 4096, Nat.mod_lt _ (by decide)⟩

/-- The head of a column of the heads laid side by side. -/
def hd (k : Fin 1024) : Fin 4 := ⟨k.val / 256, by have := k.isLt; omega⟩
/-- The column within its head. -/
def hv (k : Fin 1024) : Fin 256 := ⟨k.val % 256, Nat.mod_lt _ (by decide)⟩

variable (P : Fin 16 → Fin 4096 → Fin 3072 → EReal) (GK : Fin 16 → Fin 4096 → Fin 512 → EReal) (X : Fin 16 → Fin 4096 → Fin 1024 → EReal)
  (WN : Fin 256 → EReal) (WO : Fin 1024 → Fin 1024 → EReal) (b : Fin 16)

/-- The queries of head `h` in chunk `n`. -/
def Qs (h : Fin 4) (n : ℕ) : Mat 64 128 := fun i d => P b (tok n i) ⟨128 * h.val + d.val, by have := h.isLt; have := d.isLt; omega⟩
/-- The keys. -/
def Ks (h : Fin 4) (n : ℕ) : Mat 64 128 := fun i d => P b (tok n i) ⟨512 + (128 * h.val + d.val), by have := h.isLt; have := d.isLt; omega⟩
/-- The values. -/
def Vs (h : Fin 4) (n : ℕ) : Mat 64 256 := fun i v => P b (tok n i) ⟨1024 + (256 * h.val + v.val), by have := h.isLt; have := v.isLt; omega⟩
/-- The gate's argument. -/
def Rs (h : Fin 4) (t : Fin 4096) : Fin 256 → EReal := fun v => P b t ⟨2048 + (256 * h.val + v.val), by have := h.isLt; have := v.isLt; omega⟩
/-- The log decays. -/
def Gs (h : Fin 4) (n : ℕ) : Mat 64 128 := fun i d => GK b (tok n i) ⟨128 * h.val + d.val, by have := h.isLt; have := d.isLt; omega⟩

/-- The chunk of a row. -/
def chunk (t : Fin 4096) : ℕ := t.val / 64
/-- The row within its chunk. -/
def within (t : Fin 4096) : Fin 64 := ⟨t.val % 64, Nat.mod_lt _ (by decide)⟩

/-- Row `t` of head `h`: the attention normalised and gated. -/
def head (h : Fin 4) (t : Fin 4096) : Fin 256 → EReal :=
  gate (att (Qs P b h) (Ks P b h) (Gs GK b h) (Vs P b h) (chunk t) (within t)) WN (Rs P b h t)

/-- The result: the input plus the heads' rows through the output weight. -/
def res (t : Fin 4096) (e : Fin 1024) : EReal :=
  X b t e + ∑ k : Fin 1024, head P GK WN b (hd k) t (hv k) * WO k e

end Cert.Proof.Gla
-- ==== Proof.GlaRefRead.lean ====
module

public import proofs.«01_k».proof.Proof.GlaRefRun
public import proofs.«01_k».proof.Proof.GlaSpec
public import Idealize.ShloMosaic.Lib.Pointwise
public import Idealize.ShloMosaic.Lib.KernelVsHost

/-! The reference of the gated linear attention, operation by operation outside its loop: each array read at an index. -/

@[expose] public section

noncomputable section

namespace Cert.GlaRefIdeal.Rows

open Cert.GlaRefIdeal Cert.GlaRefIdeal.Gen Idealize.ShloMosaic Idealize.ShloMosaic.TcCoe Idealize.SL.Sem Cert.Proof.Gla

/-! ## The running sum -/

theorem foldl_add {ι : Type} (f : ι → EReal) : ∀ (l : List ι) (a : EReal), l.foldl (fun r n => r + f n) a = a + (l.map f).sum
  | [], a => by simp
  | x :: l, a => by rw [List.foldl_cons, foldl_add f l, List.map_cons, List.sum_cons, add_assoc]

/-- The positions of a window of 64 along axis 3. -/
def winEquiv : (⟨5, ![1, 1, 1, 64, 1]⟩ : Shape).Idx ≃ Fin 64 where
  toFun w := w 3
  invFun k := ix5 0 0 0 k 0
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv k := rfl

/-- The reference's running sum along a chunk. -/
def cs (x : FVec Ideal S16x4x64x64x128 .f32) : FVec Ideal S16x4x64x64x128 .f32 :=
  Host.reduceWindowAdd ![1, 1, 1, 64, 1] ![1, 1, 1, 1, 1] ![0, 0, 0, 63, 0] ![0, 0, 0, 0, 0] x
    (broadcastInDim S_ ![] bcast_S_S_ (constant S_ .f32 0x00000000#32 : FVec Ideal S_ .f32))
    reduceWindows_S16x4x64x64x128_S16x4x64x64x128_w1s1p0_0_w1s1p0_0_w1s1p0_0_w64s1p63_0_w1s1p0_0 h_S_

theorem cs_apply (x : FVec Ideal S16x4x64x64x128 .f32) (b : Fin 16) (h : Fin 4) (n i : Fin 64) (d : Fin 128) :
    cs x (ix5 b h n i d) = ∑ j : Fin 64, if j ≤ i then x (ix5 b h n j d) else (0 : EReal) := by
  have hz : (broadcastInDim S_ ![] bcast_S_S_ (constant S_ .f32 0x00000000#32 : FVec Ideal S_ .f32)) (Shape.Idx.first h_S_) = (0 : EReal) := by
    pointwise []
  unfold cs Host.reduceWindowAdd
  rw [Ideal.hostReduceWindowAdd_def, hz]
  unfold Ideal.hostReduceWindowAdd Host.reduceWindow
  dsimp only
  rw [foldl_add, zero_add, ← Fin.sum_univ_def]
  refine Fintype.sum_equiv ((Shape.rowMajor (⟨5, ![1, 1, 1, 64, 1]⟩ : Shape)).symm.trans (winEquiv.trans (Equiv.addLeft (i + 1)))) _ _ fun q => ?_
  have hj : (((Shape.rowMajor (⟨5, ![1, 1, 1, 64, 1]⟩ : Shape)).symm.trans (winEquiv.trans (Equiv.addLeft (i + 1)))) q).val
      = ((i.val + 1) % 64 + ((Shape.rowMajor (⟨5, ![1, 1, 1, 64, 1]⟩ : Shape)).symm q 3).val) % 64 := rfl
  generalize ((Shape.rowMajor (⟨5, ![1, 1, 1, 64, 1]⟩ : Shape)).symm.trans (winEquiv.trans (Equiv.addLeft (i + 1)))) q = j at hj ⊢
  obtain ⟨w, ew⟩ : ∃ w, w = (Shape.rowMajor (⟨5, ![1, 1, 1, 64, 1]⟩ : Shape)).symm q := ⟨_, rfl⟩
  rw [← ew] at hj
  have hw : ∀ a : Fin 5, a ≠ 3 → (w a).val = 0 := by
    intro a ha
    match a with
    | ⟨0, _⟩ => exact Nat.lt_one_iff.mp (w 0).isLt
    | ⟨1, _⟩ => exact Nat.lt_one_iff.mp (w 1).isLt
    | ⟨2, _⟩ => exact Nat.lt_one_iff.mp (w 2).isLt
    | ⟨3, _⟩ => exact absurd rfl ha
    | ⟨4, _⟩ => exact Nat.lt_one_iff.mp (w 4).isLt
  have hk : (w 3).val < 64 := (w 3).isLt
  have hi := i.isLt
  by_cases hle : j ≤ i
  · have hle' : j.val ≤ i.val := hle
    have hin : ∀ a, (![0, 0, 0, 63, 0] : Fin 5 → ℕ) a ≤ (ix5 b h n i d a).val * (![1, 1, 1, 1, 1] : Fin 5 → ℕ) a + (w a).val
      ∧ (ix5 b h n i d a).val * (![1, 1, 1, 1, 1] : Fin 5 → ℕ) a + (w a).val - (![0, 0, 0, 63, 0] : Fin 5 → ℕ) a < S16x4x64x64x128.size a := by
      intro a
      match a with
      | ⟨0, _⟩ => have := hw 0 (by decide); exact ⟨Nat.zero_le _, by show b.val * 1 + (w 0).val - 0 < 16; omega⟩
      | ⟨1, _⟩ => have := hw 1 (by decide); exact ⟨Nat.zero_le _, by show h.val * 1 + (w 1).val - 0 < 4; omega⟩
      | ⟨2, _⟩ => have := hw 2 (by decide); exact ⟨Nat.zero_le _, by show n.val * 1 + (w 2).val - 0 < 64; omega⟩
      | ⟨3, _⟩ => exact ⟨by show 63 ≤ i.val * 1 + (w 3).val; omega, by show i.val * 1 + (w 3).val - 63 < 64; omega⟩
      | ⟨4, _⟩ => have := hw 4 (by decide); exact ⟨Nat.zero_le _, by show d.val * 1 + (w 4).val - 0 < 128; omega⟩
    rw [if_pos hle]
    have hval : (fun a => (⟨(ix5 b h n i d a).val * (![1, 1, 1, 1, 1] : Fin 5 → ℕ) a + (w a).val - (![0, 0, 0, 63, 0] : Fin 5 → ℕ) a, (hin a).2⟩ : Fin (S16x4x64x64x128.size a)))
        = ix5 b h n j d := by
     funext a
     refine Fin.ext ?_
     match a with
     | ⟨0, _⟩ => have := hw 0 (by decide); show b.val * 1 + (w 0).val - 0 = b.val; omega
     | ⟨1, _⟩ => have := hw 1 (by decide); show h.val * 1 + (w 1).val - 0 = h.val; omega
     | ⟨2, _⟩ => have := hw 2 (by decide); show n.val * 1 + (w 2).val - 0 = n.val; omega
     | ⟨3, _⟩ => show i.val * 1 + (w 3).val - 63 = j.val; omega
     | ⟨4, _⟩ => have := hw 4 (by decide); show d.val * 1 + (w 4).val - 0 = d.val; omega
    subst ew
    exact (dif_pos hin).trans (congrArg x hval)
  · have hle' : ¬ j.val ≤ i.val := hle
    rw [if_neg hle]
    refine dif_neg fun hin => ?_
    have : 63 ≤ i.val * 1 + (w 3).val := by rw [ew]; exact (hin 3).1
    omega

/-! ## The arguments by chunk and head -/

variable (p : FVec Ideal S16x4096x3072 .bf16) (gk : FVec Ideal S16x4096x512 .f32)

/-- The arguments as functions of their indices. -/
abbrev fP : Fin 16 → Fin 4096 → Fin 3072 → EReal := fun b t l => p (ix3 b t l)
abbrev fG : Fin 16 → Fin 4096 → Fin 512 → EReal := fun b t l => gk (ix3 b t l)

/-- The reference's queries, keys, values, gate arguments and log decays. -/
def q5 : FVec Ideal S16x4x64x64x128 .f32 :=
  transpose S16x4x64x64x128 [0, 3, 1, 2, 4] (shapeCast S16x64x64x4x128 (extractStridedSlice S16x4096x512 ![0, 0, 0] (extf .f32 p bitsLt_bf16_f32 : FVec Ideal S16x4096x3072 .f32) slices_S16x4096x3072_S16x4096x512_0_0_0) shapeCasts_S16x4096x512_S16x64x64x4x128) transposes_S16x64x64x4x128_S16x4x64x64x128_0_3_1_2_4
def k5 : FVec Ideal S16x4x64x64x128 .f32 :=
  transpose S16x4x64x64x128 [0, 3, 1, 2, 4] (shapeCast S16x64x64x4x128 (extractStridedSlice S16x4096x512 ![0, 0, 512] (extf .f32 p bitsLt_bf16_f32 : FVec Ideal S16x4096x3072 .f32) slices_S16x4096x3072_S16x4096x512_0_0_512) shapeCasts_S16x4096x512_S16x64x64x4x128) transposes_S16x64x64x4x128_S16x4x64x64x128_0_3_1_2_4
def v5 : FVec Ideal S16x4x64x64x256 .f32 :=
  transpose S16x4x64x64x256 [0, 3, 1, 2, 4] (shapeCast S16x64x64x4x256 (extractStridedSlice S16x4096x1024 ![0, 0, 1024] (extf .f32 p bitsLt_bf16_f32 : FVec Ideal S16x4096x3072 .f32) slices_S16x4096x3072_S16x4096x1024_0_0_1024) shapeCasts_S16x4096x1024_S16x64x64x4x256) transposes_S16x64x64x4x256_S16x4x64x64x256_0_3_1_2_4
def r3 : FVec Ideal S16x4096x1024 .f32 :=
  extractStridedSlice S16x4096x1024 ![0, 0, 2048] (extf .f32 p bitsLt_bf16_f32 : FVec Ideal S16x4096x3072 .f32) slices_S16x4096x3072_S16x4096x1024_0_0_2048
def g5 : FVec Ideal S16x4x64x64x128 .f32 :=
  transpose S16x4x64x64x128 [0, 3, 1, 2, 4] (shapeCast S16x64x64x4x128 gk shapeCasts_S16x4096x512_S16x64x64x4x128) transposes_S16x64x64x4x128_S16x4x64x64x128_0_3_1_2_4

variable (b : Fin 16) (h : Fin 4) (n i : Fin 64)

theorem q5_apply (d : Fin 128) : q5 p (ix5 b h n i d) = Qs (fP p) b h n.val i d := by
  pointwise [q5]
  have := n.isLt; have := i.isLt
  refine congrArg p (congrArg₂ (ix3 b) (Fin.ext ?_) (Fin.ext ?_))
  · show n.val * 64 + i.val = (64 * n.val + i.val) % 4096; omega
  · show h.val * 128 + d.val = 128 * h.val + d.val; omega
theorem k5_apply (d : Fin 128) : k5 p (ix5 b h n i d) = Ks (fP p) b h n.val i d := by
  pointwise [k5]
  have := n.isLt; have := i.isLt
  refine congrArg p (congrArg₂ (ix3 b) (Fin.ext ?_) (Fin.ext ?_))
  · show n.val * 64 + i.val = (64 * n.val + i.val) % 4096; omega
  · show 512 + (h.val * 128 + d.val) = 512 + (128 * h.val + d.val); omega
theorem v5_apply (d : Fin 256) : v5 p (ix5 b h n i d) = Vs (fP p) b h n.val i d := by
  pointwise [v5]
  have := n.isLt; have := i.isLt
  refine congrArg p (congrArg₂ (ix3 b) (Fin.ext ?_) (Fin.ext ?_))
  · show n.val * 64 + i.val = (64 * n.val + i.val) % 4096; omega
  · show 1024 + (h.val * 256 + d.val) = 1024 + (256 * h.val + d.val); omega
theorem g5_apply (d : Fin 128) : g5 gk (ix5 b h n i d) = Gs (fG gk) b h n.val i d := by
  pointwise [g5]
  have := n.isLt; have := i.isLt
  refine congrArg gk (congrArg₂ (ix3 b) (Fin.ext ?_) (Fin.ext ?_))
  · show n.val * 64 + i.val = (64 * n.val + i.val) % 4096; omega
  · show h.val * 128 + d.val = 128 * h.val + d.val; omega

theorem cs_g5 (d : Fin 128) : cs (g5 gk) (ix5 b h n i d) = cum (Gs (fG gk) b h n.val) i d := by
  rw [cs_apply]
  exact Finset.sum_congr rfl fun j _ => by rw [g5_apply]

/-! ## Queries and keys with their decays -/

def qdR : FVec Ideal S16x4x64x64x128 .f32 :=
  mulf (mulf (q5 p) (Host.exp (cs (g5 gk)))) (broadcastInDim S16x4x64x64x128 ![] bcast_S_S16x4x64x64x128 (constant S_ .f32 0x3DB504F3#32 : FVec Ideal S_ .f32))
def kiR : FVec Ideal S16x4x64x64x128 .f32 := mulf (k5 p) (Host.exp (Host.negf (cs (g5 gk))))
def lastR : FVec Ideal S16x4x64x1x128 .f32 :=
  extractStridedSlice S16x4x64x1x128 ![0, 0, 0, 63, 0] (cs (g5 gk)) slices_S16x4x64x64x128_S16x4x64x1x128_0_0_0_63_0
def keR : FVec Ideal S16x4x64x64x128 .f32 :=
  mulf (k5 p) (Host.exp (subf (broadcastInDim S16x4x64x64x128 ![0, 1, 2, 3, 4] bcast_S16x4x64x1x128_S16x4x64x64x128_0_1_2_3_4 (lastR gk)) (cs (g5 gk))))
def dlR : FVec Ideal S16x4x64x128 .f32 := Host.exp (shapeCast S16x4x64x128 (lastR gk) shapeCasts_S16x4x64x1x128_S16x4x64x128 : FVec Ideal S16x4x64x128 .f32)

theorem qdR_apply (d : Fin 128) : qdR p gk (ix5 b h n i d) = qd (Qs (fP p) b h n.val) (Gs (fG gk) b h n.val) i d := by
  pointwise [qdR]
  rw [q5_apply, cs_g5]
  rfl
theorem kiR_apply (d : Fin 128) : kiR p gk (ix5 b h n i d) = ki (Ks (fP p) b h n.val) (Gs (fG gk) b h n.val) i d := by
  pointwise [kiR]
  rw [k5_apply, cs_g5]
  rfl
theorem lastR_apply (d : Fin 128) : lastR gk (ix5 b h n 0 d) = cum (Gs (fG gk) b h n.val) 63 d := by
  pointwise [lastR]
  exact cs_g5 gk b h n 63 d
theorem keR_apply (d : Fin 128) : keR p gk (ix5 b h n i d) = ke (Ks (fP p) b h n.val) (Gs (fG gk) b h n.val) i d := by
  pointwise [keR]
  rw [k5_apply, cs_g5, lastR_apply]
  rfl
theorem dlR_apply (d : Fin 128) : dlR gk (ix4 b h n d) = Ideal.exp (cum (Gs (fG gk) b h n.val) 63 d) := by
  pointwise [dlR]
  rw [lastR_apply]

/-! ## The attention inside a chunk -/

def maskR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem sge_word : ∀ a c : Fin 64, IntOp.cmpi CmpIPredicate.sge (IntOp.addi (BitVec.ofNat 32 a.val) 0#32) (BitVec.ofNat 32 c.val) = if c ≤ a then 1#1 else 0#1 := by
  decide +kernel

theorem maskR_apply (j : Fin 64) : maskR (ix2 i j) = if j ≤ i then 1#1 else 0#1 := by
  pointwise [maskR]
  have e := sge_word i j
  by_cases hj : j ≤ i
  · rw [if_pos hj] at e
    rw [if_pos hj]
    refine (congrArg (fun t => Scalar.select t 1#1 0#1) ?_ : _ = Scalar.select 1#1 1#1 0#1)
    first | exact e | simpa using e
  · rw [if_neg hj] at e
    rw [if_neg hj]
    refine (congrArg (fun t => Scalar.select t 1#1 0#1) ?_ : _ = Scalar.select 0#1 1#1 0#1)
    first | exact e | simpa using e

def scR : FVec Ideal S16x4x64x64x64 .f32 :=
  select (broadcastInDim S16x4x64x64x64 ![3, 4] bcast_S64x64_S16x4x64x64x64_3_4 maskR)
    (Host.dotGeneral dot_S16x4x64x64x128_S16x4x64x64x128_S16x4x64x64x64_4_4_3_3_012_012 none (qdR p gk) (kiR p gk))
    (broadcastInDim S16x4x64x64x64 ![] bcast_S_S16x4x64x64x64 (constant S_ .f32 0x00000000#32 : FVec Ideal S_ .f32))
def intraR : FVec Ideal S16x4x64x64x256 .f32 :=
  Host.dotGeneral dot_S16x4x64x64x64_S16x4x64x64x256_S16x4x64x64x256_4_3_3_4_012_012 none (scR p gk) (v5 p)

theorem scR_apply (j : Fin 64) : scR p gk (ix5 b h n i j)
    = if j ≤ i then ∑ d, qd (Qs (fP p) b h n.val) (Gs (fG gk) b h n.val) i d * ki (Ks (fP p) b h n.val) (Gs (fG gk) b h n.val) j d else 0 := by
  have e : scR p gk (ix5 b h n i j) = Scalar.select (maskR (ix2 i j)) (∑ d : Fin 128, qdR p gk (ix5 b h n i d) * kiR p gk (ix5 b h n j d)) (0 : EReal) := by
    pointwise [scR]
  rw [e, maskR_apply]
  by_cases hj : j ≤ i
  · rw [if_pos hj, if_pos hj]
    show (∑ d : Fin 128, qdR p gk (ix5 b h n i d) * kiR p gk (ix5 b h n j d)) = _
    exact Finset.sum_congr rfl fun d _ => by rw [qdR_apply, kiR_apply]
  · rw [if_neg hj, if_neg hj]; rfl

theorem intraR_apply (v : Fin 256) : intraR p gk (ix5 b h n i v)
    = intra (Qs (fP p) b h n.val) (Ks (fP p) b h n.val) (Gs (fG gk) b h n.val) (Vs (fP p) b h n.val) i v := by
  have e : intraR p gk (ix5 b h n i v) = ∑ j : Fin 64, scR p gk (ix5 b h n i j) * v5 p (ix5 b h n j v) := by
    pointwise [intraR]
  rw [e]
  exact Finset.sum_congr rfl fun j _ => by rw [scR_apply, v5_apply]

/-! ## What the loop reads -/

def qdT : FVec Ideal S64x16x4x64x128 .f32 := transpose S64x16x4x64x128 [2, 0, 1, 3, 4] (qdR p gk) transposes_S16x4x64x64x128_S64x16x4x64x128_2_0_1_3_4
def keT : FVec Ideal S64x16x4x64x128 .f32 := transpose S64x16x4x64x128 [2, 0, 1, 3, 4] (keR p gk) transposes_S16x4x64x64x128_S64x16x4x64x128_2_0_1_3_4
def vT : FVec Ideal S64x16x4x64x256 .f32 := transpose S64x16x4x64x256 [2, 0, 1, 3, 4] (v5 p) transposes_S16x4x64x64x256_S64x16x4x64x256_2_0_1_3_4
def dlT : FVec Ideal S64x16x4x128 .f32 := transpose S64x16x4x128 [2, 0, 1, 3] (dlR gk) transposes_S16x4x64x128_S64x16x4x128_2_0_1_3
def zero4 : FVec Ideal S16x4x128x256 .f32 := broadcastInDim S16x4x128x256 ![] bcast_S_S16x4x128x256 (constant S_ .f32 0x00000000#32 : FVec Ideal S_ .f32)

theorem qdT_apply (d : Fin 128) : qdT p gk (ix5 n b h i d) = qd (Qs (fP p) b h n.val) (Gs (fG gk) b h n.val) i d := by
  pointwise [qdT]; exact qdR_apply p gk b h n i d
theorem keT_apply (d : Fin 128) : keT p gk (ix5 n b h i d) = ke (Ks (fP p) b h n.val) (Gs (fG gk) b h n.val) i d := by
  pointwise [keT]; exact keR_apply p gk b h n i d
theorem vT_apply (v : Fin 256) : vT p (ix5 n b h i v) = Vs (fP p) b h n.val i v := by
  pointwise [vT]; exact v5_apply p b h n i v
theorem dlT_apply (d : Fin 128) : dlT gk (ix4 n b h d) = Ideal.exp (cum (Gs (fG gk) b h n.val) 63 d) := by
  pointwise [dlT]; exact dlR_apply gk b h n d
theorem zero4_apply (d : Fin 128) (v : Fin 256) : zero4 (ix4 b h d v) = (0 : EReal) := by
  pointwise [zero4]

/-! ## After the loop -/

/-- The heads' rows normalised, laid side by side. -/
def normR (o : FVec Ideal S16x4x64x64x256 .f32) (wn : FVec Ideal S256 .f32) : FVec Ideal S16x4096x1024 .f32 :=
  shapeCast S16x4096x1024
    (transpose S16x64x64x4x256 [0, 2, 3, 1, 4]
      (mulf
        (mulf o
          (broadcastInDim S16x4x64x64x256 ![0, 1, 2, 3, 4] bcast_S16x4x64x64x1_S16x4x64x64x256_0_1_2_3_4
            (Host.rsqrt
              (addf
                (Host.divf
                  (broadcastInDim S16x4x64x64x1 ![0, 1, 2, 3] bcast_S16x4x64x64_S16x4x64x64x1_0_1_2_3
                    (Host.reduceAdd (mulf o o) (constant S_ .f32 0x00000000#32) reducesTo_S16x4x64x64x256_S16x4x64x64_d4 h_S_))
                  (broadcastInDim S16x4x64x64x1 ![] bcast_S_S16x4x64x64x1 (constant S_ .f32 0x43800000#32)))
                (broadcastInDim S16x4x64x64x1 ![] bcast_S_S16x4x64x64x1 (constant S_ .f32 0x358637BD#32))) : FVec Ideal S16x4x64x64x1 .f32)))
        (broadcastInDim S16x4x64x64x256 ![0, 1, 2, 3, 4] bcast_S1x1x1x1x256_S16x4x64x64x256_0_1_2_3_4
          (broadcastInDim S1x1x1x1x256 ![4] bcast_S256_S1x1x1x1x256_4 wn)))
      transposes_S16x4x64x64x256_S16x64x64x4x256_0_2_3_1_4)
    shapeCasts_S16x64x64x4x256_S16x4096x1024

/-- The gate. -/
def siluR (r : FVec Ideal S16x4096x1024 .f32) : FVec Ideal S16x4096x1024 .f32 :=
  mulf r (Host.divf (broadcastInDim S16x4096x1024 ![] bcast_S_S16x4096x1024 (constant S_ .f32 0x3F800000#32))
    (addf (broadcastInDim S16x4096x1024 ![] bcast_S_S16x4096x1024 (constant S_ .f32 0x3F800000#32)) (Host.exp (Host.negf r))))

/-- The result from the heads' attention. -/
def resR (o : FVec Ideal S16x4x64x64x256 .f32) (wn : FVec Ideal S256 .f32) (r x : FVec Ideal S16x4096x1024 .f32) (wo : FVec Ideal S1024x1024 .f32) :
    FVec Ideal S16x4096x1024 .f32 :=
  addf x (Host.dotGeneral dot_S16x4096x1024_S1024x1024_S16x4096x1024_2_0_01_1_n_n none (mulf (normR o wn) (siluR r)) wo)

/-- The chunk of a row, as a chunk number. -/
def chunkF (t : Fin 4096) : Fin 64 := ⟨t.val / 64, by have := t.isLt; omega⟩

theorem r3_apply (t : Fin 4096) (l : Fin 1024) : r3 p (ix3 b t l) = p (ix3 b t ⟨2048 + l.val, by have := l.isLt; omega⟩) := by
  pointwise [r3]

theorem normR_apply (o : FVec Ideal S16x4x64x64x256 .f32) (wn : FVec Ideal S256 .f32) (t : Fin 4096) (k : Fin 1024) :
    normR o wn (ix3 b t k) = o (ix5 b (hd k) (chunkF t) (within t) (hv k))
      * Ideal.rsqrt (Ideal.div (∑ x : Fin 256, o (ix5 b (hd k) (chunkF t) (within t) x) * o (ix5 b (hd k) (chunkF t) (within t) x)) (Ideal.ofBits FTy.f32 1132462080#32) + Ideal.ofBits FTy.f32 897988541#32)
      * wn (ix1 (hv k)) := by
  pointwise [normR]
  rfl

theorem resR_apply (o : FVec Ideal S16x4x64x64x256 .f32) (wn : FVec Ideal S256 .f32) (r x : FVec Ideal S16x4096x1024 .f32) (wo : FVec Ideal S1024x1024 .f32)
    (t : Fin 4096) (e : Fin 1024) : resR o wn r x wo (ix3 b t e) = x (ix3 b t e) + ∑ k : Fin 1024, normR o wn (ix3 b t k)
      * (r (ix3 b t k) * Ideal.div 1 (1 + Ideal.exp (-r (ix3 b t k)))) * wo (ix2 k e) := by
  pointwise [resR, siluR]

end Cert.GlaRefIdeal.Rows
-- ==== Proof.GlaRefLoop.lean ====
module

public import proofs.«01_k».proof.Proof.GlaRefRead

/-! The loop of the reference of the gated linear attention: after `k` trips it holds the state before chunk `k` and the state's
part of the attention of the chunks below `k`. -/

@[expose] public section

noncomputable section

namespace Cert.GlaRefIdeal.Rows

open Cert.GlaRefIdeal Cert.GlaRefIdeal.Gen Cert.GlaRefIdeal.Value Cert.GlaRefIdeal.Fold
open Idealize.ShloMosaic Idealize.ShloMosaic.TcCoe Idealize.ShloMosaic.StableHlo Idealize.SL.Sem Cert.Proof.Gla

/-! ## Slices at a start that fits -/

/-- A dynamic slice at a start that fits reads its operand at start plus index. -/
theorem slice_at {s t : Shape} {α : Type} (x : s.Idx → α) (start : Fin s.rank → Int) (h : s.Slices (fun _ => 0) t) (j : t.Idx) (i : s.Idx)
    (off : Fin s.rank → ℕ) (hoff : ∀ a, start a = off a) (hfit : ∀ a, off a + t.size (a.cast h.1.symm) ≤ s.size a)
    (hi : ∀ a, (i a).val = off a + (j (a.cast h.1.symm)).val) : Host.dynamicSlice t x start h j = x i := by
  rw [Host.dynamicSlice_apply, Shape.Idx.norm_def]
  refine congrArg x (funext fun a => Fin.ext ?_)
  show Host.clampedStart s t h.1 start a + _ = _
  rw [Host.clampedStart_of_le h.1 start a (off a) (hoff a) (hfit a), hi]

/-- A dynamic update at a start that fits: inside the window it holds the update. -/
theorem update_in {s u : Shape} {α : Type} (x : s.Idx → α) (upd : u.Idx → α) (start : Fin s.rank → Int) (h : s.Slices (fun _ => 0) u) (j : u.Idx) (i : s.Idx)
    (off : Fin s.rank → ℕ) (hoff : ∀ a, start a = off a) (hfit : ∀ a, off a + u.size (a.cast h.1.symm) ≤ s.size a)
    (hi : ∀ a, (i a).val = off a + (j (a.cast h.1.symm)).val) : Host.dynamicUpdateSlice x upd start h i = upd j := by
  have hc : ∀ a, Host.clampedStart s u h.1 start a = off a := fun a => Host.clampedStart_of_le h.1 start a (off a) (hoff a) (hfit a)
  rw [Host.dynamicUpdateSlice_apply, dif_pos fun a => by
    rw [hc, hi]
    have := (j (a.cast h.1.symm)).isLt
    omega]
  rw [Shape.Idx.norm_def]
  refine congrArg upd (funext fun b => Fin.ext ?_)
  show (i (b.cast h.1)).val - Host.clampedStart s u h.1 start (b.cast h.1) = _
  rw [hc, hi]
  exact Nat.add_sub_cancel_left _ _

/-- Outside the window it holds the operand. -/
theorem update_out {s u : Shape} {α : Type} (x : s.Idx → α) (upd : u.Idx → α) (start : Fin s.rank → Int) (h : s.Slices (fun _ => 0) u) (i : s.Idx)
    (off : Fin s.rank → ℕ) (hoff : ∀ a, start a = off a) (hfit : ∀ a, off a + u.size (a.cast h.1.symm) ≤ s.size a)
    (a : Fin s.rank) (hi : (i a).val < off a ∨ off a + u.size (a.cast h.1.symm) ≤ (i a).val) : Host.dynamicUpdateSlice x upd start h i = x i := by
  have hc : ∀ a, Host.clampedStart s u h.1 start a = off a := fun a => Host.clampedStart_of_le h.1 start a (off a) (hoff a) (hfit a)
  rw [Host.dynamicUpdateSlice_apply, dif_neg fun hin => by
    have := hin a
    rw [hc] at this
    omega]

/-! ## One trip -/

/-- The start of trip `k`. -/
abbrev at4 (k : IVec S_ 32) : Fin 4 → Int := fun a => ((![k, constantI S_ 32 0#32, constantI S_ 32 0#32, constantI S_ 32 0#32] : Fin 4 → IVec S_ 32) a (Shape.Idx.first h_S_)).toInt
abbrev at5 (k : IVec S_ 32) : Fin 5 → Int := fun a => ((![k, constantI S_ 32 0#32, constantI S_ 32 0#32, constantI S_ 32 0#32, constantI S_ 32 0#32] : Fin 5 → IVec S_ 32) a (Shape.Idx.first h_S_)).toInt

abbrev ctr (k : ℕ) : IVec S_ 32 := fun _ => Scf.iv 0#32 1#32 k

theorem iv_int : ∀ n : Fin 64, (Scf.iv 0#32 1#32 n.val).toInt = (n.val : Int) := by decide +kernel

theorem at4_off (n : Fin 64) : ∀ a, at4 (ctr n.val) a = ((![n.val, 0, 0, 0] : Fin 4 → ℕ) a : Int)
  | ⟨0, _⟩ => iv_int n
  | ⟨1, _⟩ => rfl
  | ⟨2, _⟩ => rfl
  | ⟨3, _⟩ => rfl
theorem at5_off (n : Fin 64) : ∀ a, at5 (ctr n.val) a = ((![n.val, 0, 0, 0, 0] : Fin 5 → ℕ) a : Int)
  | ⟨0, _⟩ => iv_int n
  | ⟨1, _⟩ => rfl
  | ⟨2, _⟩ => rfl
  | ⟨3, _⟩ => rfl
  | ⟨4, _⟩ => rfl

def slD (x : FVec Ideal S64x16x4x128 .f32) (k : IVec S_ 32) : FVec Ideal S1x16x4x128 .f32 := Host.dynamicSlice S1x16x4x128 x (at4 k) sliceFits_S64x16x4x128_S1x16x4x128
def slK (x : FVec Ideal S64x16x4x64x128 .f32) (k : IVec S_ 32) : FVec Ideal S1x16x4x64x128 .f32 := Host.dynamicSlice S1x16x4x64x128 x (at5 k) sliceFits_S64x16x4x64x128_S1x16x4x64x128
def slV (x : FVec Ideal S64x16x4x64x256 .f32) (k : IVec S_ 32) : FVec Ideal S1x16x4x64x256 .f32 := Host.dynamicSlice S1x16x4x64x256 x (at5 k) sliceFits_S64x16x4x64x256_S1x16x4x64x256

variable (b : Fin 16) (h : Fin 4) (n i : Fin 64)

theorem slD_apply (x : FVec Ideal S64x16x4x128 .f32) (d : Fin 128) : slD x (ctr n.val) (ix4 0 b h d) = x (ix4 n b h d) := by
  refine slice_at x _ _ _ _ (![n.val, 0, 0, 0] : Fin 4 → ℕ) (at4_off n) (fun a => ?_) (fun a => ?_)
  · match a with
    | ⟨0, _⟩ => exact n.isLt
    | ⟨1, _⟩ => exact le_of_eq (Nat.zero_add _)
    | ⟨2, _⟩ => exact le_of_eq (Nat.zero_add _)
    | ⟨3, _⟩ => exact le_of_eq (Nat.zero_add _)
  · match a with
    | ⟨0, _⟩ => rfl
    | ⟨1, _⟩ => exact (Nat.zero_add _).symm
    | ⟨2, _⟩ => exact (Nat.zero_add _).symm
    | ⟨3, _⟩ => exact (Nat.zero_add _).symm

theorem slK_apply (x : FVec Ideal S64x16x4x64x128 .f32) (d : Fin 128) : slK x (ctr n.val) (ix5 0 b h i d) = x (ix5 n b h i d) := by
  refine slice_at x _ _ _ _ (![n.val, 0, 0, 0, 0] : Fin 5 → ℕ) (at5_off n) (fun a => ?_) (fun a => ?_)
  · match a with
    | ⟨0, _⟩ => exact n.isLt
    | ⟨1, _⟩ => exact le_of_eq (Nat.zero_add _)
    | ⟨2, _⟩ => exact le_of_eq (Nat.zero_add _)
    | ⟨3, _⟩ => exact le_of_eq (Nat.zero_add _)
    | ⟨4, _⟩ => exact le_of_eq (Nat.zero_add _)
  · match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm

theorem slV_apply (x : FVec Ideal S64x16x4x64x256 .f32) (v : Fin 256) : slV x (ctr n.val) (ix5 0 b h i v) = x (ix5 n b h i v) := by
  refine slice_at x _ _ _ _ (![n.val, 0, 0, 0, 0] : Fin 5 → ℕ) (at5_off n) (fun a => ?_) (fun a => ?_)
  · match a with
    | ⟨0, _⟩ => exact n.isLt
    | ⟨1, _⟩ => exact le_of_eq (Nat.zero_add _)
    | ⟨2, _⟩ => exact le_of_eq (Nat.zero_add _)
    | ⟨3, _⟩ => exact le_of_eq (Nat.zero_add _)
    | ⟨4, _⟩ => exact le_of_eq (Nat.zero_add _)
  · match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm

/-- The state after one trip, of the trip's slices and the state before. -/
def stS (dl : FVec Ideal S1x16x4x128 .f32) (ke : FVec Ideal S1x16x4x64x128 .f32) (vv : FVec Ideal S1x16x4x64x256 .f32) (S : FVec Ideal S16x4x128x256 .f32) :
    FVec Ideal S16x4x128x256 .f32 :=
  addf (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 dl shapeCasts_S1x16x4x128_S16x4x128))) S)
    (Host.dotGeneral dot_S16x4x64x128_S16x4x64x256_S16x4x128x256_2_2_3_3_01_01 none (shapeCast S16x4x64x128 ke shapeCasts_S1x16x4x64x128_S16x4x64x128) (shapeCast S16x4x64x256 vv shapeCasts_S1x16x4x64x256_S16x4x64x256))
/-- The chunk's rows of the trip. -/
def stU (qd : FVec Ideal S1x16x4x64x128 .f32) (S : FVec Ideal S16x4x128x256 .f32) : FVec Ideal S1x16x4x64x256 .f32 :=
  broadcastInDim S1x16x4x64x256 ![1, 2, 3, 4] bcast_S16x4x64x256_S1x16x4x64x256_1_2_3_4 (Host.dotGeneral dot_S16x4x64x128_S16x4x128x256_S16x4x64x256_3_2_2_3_01_01 none (shapeCast S16x4x64x128 qd shapeCasts_S1x16x4x64x128_S16x4x64x128) S)

theorem stS_apply (dl : FVec Ideal S1x16x4x128 .f32) (ke : FVec Ideal S1x16x4x64x128 .f32) (vv : FVec Ideal S1x16x4x64x256 .f32) (S : FVec Ideal S16x4x128x256 .f32)
    (d : Fin 128) (v : Fin 256) : stS dl ke vv S (ix4 b h d v) = dl (ix4 0 b h d) * S (ix4 b h d v) + ∑ j : Fin 64, ke (ix5 0 b h j d) * vv (ix5 0 b h j v) := by
  pointwise [stS]
theorem stU_apply (qd : FVec Ideal S1x16x4x64x128 .f32) (S : FVec Ideal S16x4x128x256 .f32) (v : Fin 256) :
    stU qd S (ix5 0 b h i v) = ∑ d : Fin 128, qd (ix5 0 b h i d) * S (ix4 b h d v) := by
  pointwise [stU]

/-- The chunks' rows with those of trip `n` put in. -/
def stO (u : FVec Ideal S1x16x4x64x256 .f32) (k : IVec S_ 32) (O : FVec Ideal S64x16x4x64x256 .f32) : FVec Ideal S64x16x4x64x256 .f32 :=
  Host.dynamicUpdateSlice O u (at5 k) updateFits_S64x16x4x64x256_S1x16x4x64x256

theorem fit5 : ∀ a : Fin 5, (![n.val, 0, 0, 0, 0] : Fin 5 → ℕ) a + S1x16x4x64x256.size a ≤ S64x16x4x64x256.size a
  | ⟨0, _⟩ => n.isLt
  | ⟨1, _⟩ => le_of_eq (Nat.zero_add _)
  | ⟨2, _⟩ => le_of_eq (Nat.zero_add _)
  | ⟨3, _⟩ => le_of_eq (Nat.zero_add _)
  | ⟨4, _⟩ => le_of_eq (Nat.zero_add _)

theorem stO_self (u : FVec Ideal S1x16x4x64x256 .f32) (O : FVec Ideal S64x16x4x64x256 .f32) (v : Fin 256) :
    stO u (ctr n.val) O (ix5 n b h i v) = u (ix5 0 b h i v) := by
  refine update_in O u _ _ (ix5 0 b h i v) _ (![n.val, 0, 0, 0, 0] : Fin 5 → ℕ) (at5_off n) (fit5 n) (fun a => ?_)
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

theorem stO_other (u : FVec Ideal S1x16x4x64x256 .f32) (O : FVec Ideal S64x16x4x64x256 .f32) (n' : Fin 64) (hn : n'.val ≠ n.val) (v : Fin 256) :
    stO u (ctr n.val) O (ix5 n' b h i v) = O (ix5 n' b h i v) := by
  refine update_out O u _ _ _ (![n.val, 0, 0, 0, 0] : Fin 5 → ℕ) (at5_off n) (fit5 n) 0 ?_
  show n'.val < n.val ∨ n.val + 1 ≤ n'.val
  omega

/-! ## The trips -/

variable (p : FVec Ideal S16x4096x3072 .bf16) (gk : FVec Ideal S16x4096x512 .f32)

def zero5 : FVec Ideal S64x16x4x64x256 .f32 := broadcastInDim S64x16x4x64x256 ![] bcast_S_S64x16x4x64x256 (constant S_ .f32 0x00000000#32 : FVec Ideal S_ .f32)

/-- The state before trip `k`, and the chunks' rows then. -/
def lpS : ℕ → FVec Ideal S16x4x128x256 .f32
  | 0 => zero4
  | k + 1 => stS (slD (dlT gk) (ctr k)) (slK (keT p gk) (ctr k)) (slV (vT p) (ctr k)) (lpS k)
def lpO : ℕ → FVec Ideal S64x16x4x64x256 .f32
  | 0 => zero5
  | k + 1 => stO (stU (slK (qdT p gk) (ctr k)) (lpS p gk k)) (ctr k) (lpO k)

theorem lpS_apply : ∀ (k : ℕ) (_ : k ≤ 64) (d : Fin 128) (v : Fin 256),
    lpS p gk k (ix4 b h d v) = run (Ks (fP p) b h) (Gs (fG gk) b h) (Vs (fP p) b h) k d v
  | 0, _, d, v => zero4_apply b h d v
  | k + 1, hk, d, v => by
    have hk' : k < 64 := hk
    obtain ⟨n, rfl⟩ : ∃ n : Fin 64, n.val = k := ⟨⟨k, hk'⟩, rfl⟩
    rw [lpS, stS_apply, slD_apply, dlT_apply, lpS_apply n.val hk'.le d v]
    have e : (∑ j : Fin 64, slK (keT p gk) (ctr n.val) (ix5 0 b h j d) * slV (vT p) (ctr n.val) (ix5 0 b h j v))
        = ∑ j, ke (Ks (fP p) b h n.val) (Gs (fG gk) b h n.val) j d * Vs (fP p) b h n.val j v :=
      Finset.sum_congr rfl fun j _ => by rw [slK_apply, slV_apply, keT_apply, vT_apply]
    rw [e]
    rfl

theorem lpO_apply : ∀ (k : ℕ) (_ : k ≤ 64) (_ : n.val < k) (v : Fin 256), lpO p gk k (ix5 n b h i v)
    = inter (Qs (fP p) b h n.val) (Gs (fG gk) b h n.val) (run (Ks (fP p) b h) (Gs (fG gk) b h) (Vs (fP p) b h) n.val) i v
  | 0, _, hn, _ => absurd hn (Nat.not_lt_zero _)
  | k + 1, hk, hn, v => by
    have hk' : k < 64 := hk
    obtain ⟨q, rfl⟩ : ∃ q : Fin 64, q.val = k := ⟨⟨k, hk'⟩, rfl⟩
    rw [lpO]
    by_cases hq : n.val = q.val
    · obtain rfl : n = q := Fin.ext hq
      rw [stO_self, stU_apply]
      refine Finset.sum_congr rfl fun d _ => ?_
      rw [slK_apply, qdT_apply, lpS_apply b h p gk n.val hk'.le]
    · rw [stO_other b h q i _ _ n hq, lpO_apply q.val hk'.le (by omega)]

/-! ## The loop holds them -/

variable (m : (ℓ : Loc nD τ sig) → Buf (Elt Ideal) ℓ) (c : Dev nD)

abbrev mP : FVec Ideal S16x4096x3072 .bf16 := m ((c.tc : Thread nD τ).loc main_arg0)
abbrev mG : FVec Ideal S16x4096x512 .f32 := m ((c.tc : Thread nD τ).loc main_arg1)

set_option maxRecDepth 100000 in
theorem entry0 : entryContents preI m c (Proc.devRef .tc main_v39_0) = qdT (mP m c) (mG m c) := by
  simp only [entryContents, afterL_cons, afterL_nil]
  after_reads_simp
  rfl
set_option maxRecDepth 100000 in
theorem entry1 : entryContents preI m c (Proc.devRef .tc main_v39_1) = keT (mP m c) (mG m c) := by
  simp only [entryContents, afterL_cons, afterL_nil]
  after_reads_simp
  rfl
set_option maxRecDepth 100000 in
theorem entry2 : entryContents preI m c (Proc.devRef .tc main_v39_2) = vT (mP m c) := by
  simp only [entryContents, afterL_cons, afterL_nil]
  after_reads_simp
  rfl
set_option maxRecDepth 100000 in
theorem entry3 : entryContents preI m c (Proc.devRef .tc main_v39_3) = dlT (mG m c) := by
  simp only [entryContents, afterL_cons, afterL_nil]
  after_reads_simp
  rfl
set_option maxRecDepth 100000 in
theorem entry5 : entryContents preI m c (Proc.devRef .tc main_v39_5) = zero4 := by
  simp only [entryContents, afterL_cons, afterL_nil]
  after_reads_simp
  rfl
set_option maxRecDepth 100000 in
theorem entry6 : entryContents preI m c (Proc.devRef .tc main_v39_6) = zero5 := by
  simp only [entryContents, afterL_cons, afterL_nil]
  after_reads_simp
  rfl
set_option maxRecDepth 100000 in
theorem entry30 : entryContents preI m c (Proc.devRef .tc main_v30) = intraR (mP m c) (mG m c) := by
  simp only [entryContents, afterL_cons, afterL_nil]
  after_reads_simp
  rfl
set_option maxRecDepth 100000 in
theorem entry4 : entryContents preI m c (Proc.devRef .tc main_v4) = r3 (mP m c) := by
  simp only [entryContents, afterL_cons, afterL_nil]
  after_reads_simp
  rfl

theorem loop5 : ∀ k, atK m k c (Proc.devRef .tc main_v39_5) = lpS (mP m c) (mG m c) k
  | 0 => entry5 m c
  | k + 1 => by
    refine (trip_agree (atK m k c) main_v39_5 (by decide)).trans ((STEP_main_v39_5 _).trans ?_)
    unfold step_main_v39_5
    rw [loop5 k, atK_ctr, loop_keep m c main_v39_3 (by decide +kernel), loop_keep m c main_v39_1 (by decide +kernel), loop_keep m c main_v39_2 (by decide +kernel),
      entry1, entry2, entry3]
    rfl

theorem loop6 : ∀ k, atK m k c (Proc.devRef .tc main_v39_6) = lpO (mP m c) (mG m c) k
  | 0 => entry6 m c
  | k + 1 => by
    refine (trip_agree (atK m k c) main_v39_6 (by decide)).trans ((STEP_main_v39_6 _).trans ?_)
    unfold step_main_v39_6
    rw [loop6 k, loop5 m c k, atK_ctr, loop_keep m c main_v39_0 (by decide +kernel), entry0]
    rfl

end Cert.GlaRefIdeal.Rows
-- ==== Proof.GlaRefValue.lean ====
module

public import proofs.«01_k».proof.Proof.GlaRefLoop

/-! What the reference of the gated linear attention leaves: the specification's result. -/

@[expose] public section

noncomputable section

namespace Cert.GlaRefIdeal.Rows

open Cert.GlaRefIdeal Cert.GlaRefIdeal.Gen Cert.GlaRefIdeal.Value Cert.GlaRefIdeal.Fold
open Idealize.ShloMosaic Idealize.ShloMosaic.TcCoe Idealize.ShloMosaic.StableHlo Idealize.SL.Sem Cert.Proof.Gla

variable (m : (ℓ : Loc nD τ sig) → Buf (Elt Ideal) ℓ) (c : Dev nD)

/-- The chunks' rows, chunk by chunk within each head. -/
def crossR (O : FVec Ideal S64x16x4x64x256 .f32) : FVec Ideal S16x4x64x64x256 .f32 :=
  transpose S16x4x64x64x256 [1, 2, 0, 3, 4] O transposes_S64x16x4x64x256_S16x4x64x64x256_1_2_0_3_4

/-- The attention of the heads. -/
def attR (p : FVec Ideal S16x4096x3072 .bf16) (gk : FVec Ideal S16x4096x512 .f32) : FVec Ideal S16x4x64x64x256 .f32 :=
  addf (intraR p gk) (crossR (lpO p gk 64))

theorem attR_apply (p : FVec Ideal S16x4096x3072 .bf16) (gk : FVec Ideal S16x4096x512 .f32) (b : Fin 16) (h : Fin 4) (n i : Fin 64) (v : Fin 256) :
    attR p gk (ix5 b h n i v) = att (Qs (fP p) b h) (Ks (fP p) b h) (Gs (fG gk) b h) (Vs (fP p) b h) n.val i v := by
  have e : attR p gk (ix5 b h n i v) = intraR p gk (ix5 b h n i v) + lpO p gk 64 (ix5 n b h i v) := by
    pointwise [attR, crossR]
  rw [e, intraR_apply, lpO_apply b h n i p gk 64 le_rfl n.isLt]
  rfl

theorem keep64 (b : Ref sig .tc) (hc : b ∉ condOps_W) : after condOps (atK m 64 c) (Proc.devRef .tc b) = atK m 64 c (Proc.devRef .tc b) :=
  after_of_writes_sub condOps _ condOps_writes hc

set_option maxRecDepth 100000 in
theorem post (X : Valuation τ sig (Elt Ideal)) : afterL postI X (Proc.devRef .tc main_v60)
    = resR (addf (X (Proc.devRef .tc main_v30)) (crossR (X (Proc.devRef .tc main_v39_6)))) (X (Proc.devRef .tc main_arg3)) (X (Proc.devRef .tc main_v4))
      (X (Proc.devRef .tc main_arg2)) (X (Proc.devRef .tc main_arg4)) := by
  simp only [afterL_cons, afterL_nil]
  after_reads_simp
  rfl

/-- The result's contents at the end. -/
theorem final_eq : finalContents condOps preI bodyI postI 64 m c (Proc.devRef .tc main_v60)
    = resR (attR (mP m c) (mG m c)) (m ((c.tc : Thread nD τ).loc main_arg3)) (r3 (mP m c)) (m ((c.tc : Thread nD τ).loc main_arg2)) (m ((c.tc : Thread nD τ).loc main_arg4)) := by
  refine (post (after condOps (atK m 64 c))).trans ?_
  rw [keep64 m c main_v30 (by decide +kernel), keep64 m c main_v39_6 (by decide +kernel), keep64 m c main_arg3 (by decide +kernel),
    keep64 m c main_v4 (by decide +kernel), keep64 m c main_arg2 (by decide +kernel), keep64 m c main_arg4 (by decide +kernel),
    loop6, loop_keep m c main_v30 (by decide +kernel), loop_keep m c main_v4 (by decide +kernel), loop_keep m c main_arg2 (by decide +kernel),
    loop_keep m c main_arg3 (by decide +kernel), loop_keep m c main_arg4 (by decide +kernel), entry30, entry4,
    entry_keep m c main_arg2 (by decide +kernel), entry_keep m c main_arg3 (by decide +kernel), entry_keep m c main_arg4 (by decide +kernel)]
  rfl

/-- The reference's result at an index. -/
theorem resR_spec (p : FVec Ideal S16x4096x3072 .bf16) (gk : FVec Ideal S16x4096x512 .f32) (wn : FVec Ideal S256 .f32) (x : FVec Ideal S16x4096x1024 .f32)
    (wo : FVec Ideal S1024x1024 .f32) (b : Fin 16) (t : Fin 4096) (e : Fin 1024) :
    resR (attR p gk) wn (r3 p) x wo (ix3 b t e)
      = res (fP p) (fG gk) (fun b t l => x (ix3 b t l)) (fun v => wn (ix1 v)) (fun k e => wo (ix2 k e)) b t e := by
  rw [resR_apply]
  unfold res
  refine congrArg (fun s : EReal => x (ix3 b t e) + s) (Finset.sum_congr rfl fun k _ => ?_)
  refine congrArg (fun s : EReal => s * wo (ix2 k e)) ?_
  rw [normR_apply, r3_apply]
  simp only [attR_apply]
  have hr : (⟨2048 + k.val, by have := k.isLt; omega⟩ : Fin 3072) = ⟨2048 + (256 * (hd k).val + (hv k).val), by have := (hd k).isLt; have := (hv k).isLt; omega⟩ := by
    refine Fin.ext ?_
    show 2048 + k.val = 2048 + (256 * (k.val / 256) + k.val % 256)
    omega
  rw [hr]
  unfold head gate Rs
  rw [zero_sub]
  rfl

end Cert.GlaRefIdeal.Rows
-- ==== Proof.GlaBody.lean ====
module

public import proofs.«01_k».proof.Proof.Gen.GlaMixIdeal.Frame
public import Idealize.ShloMosaic.Lib.Pointwise
public import Idealize.ShloMosaic.Lib.Pipeline.Value
public import Idealize.ShloMosaic.Lib.Pipeline.ReadBack

/-! What one grid point of the attention call computes, head by head: the four heads run the same text on different
columns, so the text is stated once, for any head, and each head's output and state are read as that text. -/

@[expose] public section

noncomputable section

namespace Cert.GlaMixIdeal.Body

open Cert.GlaMixIdeal Cert.GlaMixIdeal.Gen Idealize.ShloMosaic Idealize.ShloMosaic.TcCoe Idealize.SL.Sem

/-- Columns `128 h ..` of a block with 128 columns per head. -/
def col128 {φ : EltTy} (x : Vec Ideal S1x256x512 φ) (h : Fin 4) : Vec Ideal S1x256x128 φ :=
  fun y => x (ix3 0 (y 1) ⟨128 * h.val + (y 2).val, by have h2 : (y 2).val < 128 := (y 2).isLt; have := h.isLt; omega⟩)

/-- Columns `256 h ..` of a block with 256 columns per head. -/
def col256 {φ : EltTy} (x : Vec Ideal S1x256x1024 φ) (h : Fin 4) : Vec Ideal S1x256x256 φ :=
  fun y => x (ix3 0 (y 1) ⟨256 * h.val + (y 2).val, by have h2 : (y 2).val < 256 := (y 2).isLt; have := h.isLt; omega⟩)

/-- Plane `h` of the carried states. -/
def plane {φ : EltTy} (x : Vec Ideal S4x256x128 φ) (h : Fin 4) : Vec Ideal S1x256x128 φ :=
  fun y => x (ix3 h (y 1) (y 2))

theorem ld_col128 {φ : EltTy} (x : Vec Ideal S1x256x512 φ) (h : Fin 4) (o : ℕ) (ho : o = 128 * h.val)
    (hin : ∀ a, (![0, 0, o] : Fin 3 → ℕ) a + (![1, 256, 128] : Fin 3 → ℕ) a ≤ S1x256x512.size a) :
    View.ld (S := S1x256x512) x (Rect.unit ![0, 0, o] ![1, 256, 128] hin) = col128 x h := by
  subst ho
  funext y
  refine congrArg x (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 128 * h.val + 1 * (y 2).val = 128 * h.val + (y 2).val; omega

theorem ld_col256 {φ : EltTy} (x : Vec Ideal S1x256x1024 φ) (h : Fin 4) (o : ℕ) (ho : o = 256 * h.val)
    (hin : ∀ a, (![0, 0, o] : Fin 3 → ℕ) a + (![1, 256, 256] : Fin 3 → ℕ) a ≤ S1x256x1024.size a) :
    View.ld (S := S1x256x1024) x (Rect.unit ![0, 0, o] ![1, 256, 256] hin) = col256 x h := by
  subst ho
  funext y
  refine congrArg x (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 256 * h.val + 1 * (y 2).val = 256 * h.val + (y 2).val; omega

theorem ld_plane {φ : EltTy} (x : Vec Ideal S4x256x128 φ) (h : Fin 4) (o : ℕ) (ho : o = h.val)
    (hin : ∀ a, (![o, 0, 0] : Fin 3 → ℕ) a + (![1, 256, 128] : Fin 3 → ℕ) a ≤ S4x256x128.size a) :
    View.ld (S := S4x256x128) x (Rect.unit ![o, 0, 0] ![1, 256, 128] hin) = plane x h := by
  subst ho
  funext y
  refine congrArg x (funext fun a => Fin.ext ?_)
  have h0 : (y 0).val < 1 := (y 0).isLt
  match a with
  | ⟨0, _⟩ => show h.val + 1 * (y 0).val = h.val; omega
  | ⟨1, _⟩ => show 0 + 1 * (y 1).val = (y 1).val; omega
  | ⟨2, _⟩ => show 0 + 1 * (y 2).val = (y 2).val; omega

/-- Which pairs of a block's rows lie in one chunk, the second not after the first. -/
def msk : IVec S256x256 1 :=
  k0_pay6 (iota .tc S256x256 32 [0] iota_S256x256_d0_w32) (iota .tc S256x256 32 [1] iota_S256x256_d1_w32) k0_pay3 64#32 k0_pay4 k0_pay5 1#32

/-- The same as zeros and ones. -/
def tri : FVec Ideal S256x256 .bf16 :=
  k0_pay7 (F := Ideal) (iota .tc S256x256 32 [0] iota_S256x256_d0_w32) (iota .tc S256x256 32 [1] iota_S256x256_d1_w32) k0_pay3 64#32 k0_pay4 k0_pay5 1#32

/-- A head's decays summed up to each row of its chunk. -/
def bH (g : Vec Ideal S1x256x128 .f32) : FVec Ideal S256x128 .f32 := k0_pay46 tri g
/-- The queries, decayed. -/
def qdH (q : Vec Ideal S1x256x128 .bf16) (g : Vec Ideal S1x256x128 .f32) : FVec Ideal S256x128 .bf16 := k0_pay55 (bH g) (k0_pay52 q)
/-- The keys, decayed to the end of their chunk. -/
def keH (k : Vec Ideal S1x256x128 .bf16) (g : Vec Ideal S1x256x128 .f32) : FVec Ideal S256x128 .f32 := k0_pay56 (bH g) (k0_pay51 tri g) (k0_pay53 k)
/-- The attention inside each chunk. -/
def oH (q k : Vec Ideal S1x256x128 .bf16) (v : Vec Ideal S1x256x256 .bf16) (g : Vec Ideal S1x256x128 .f32) : FVec Ideal S256x256 .f32 :=
  k0_pay61 msk (bH g) (k0_pay52 q) (k0_pay53 k) v

/-- The state after the block's first chunk, from the state before it. -/
def st1 (k : Vec Ideal S1x256x128 .bf16) (v : Vec Ideal S1x256x256 .bf16) (g : Vec Ideal S1x256x128 .f32) (s : FVec Ideal S256x128 .f32) :
    FVec Ideal S256x128 .f32 := k0_pay87 k0_pay8 (keH k g) (k0_pay57 (k0_pay47 tri g)) (k0_pay62 v) s
/-- The state after the second chunk. -/
def st2 (k : Vec Ideal S1x256x128 .bf16) (v : Vec Ideal S1x256x256 .bf16) (g : Vec Ideal S1x256x128 .f32) (s : FVec Ideal S256x128 .f32) :
    FVec Ideal S256x128 .f32 := k0_pay97 k0_pay8 (keH k g) (k0_pay58 (k0_pay48 tri g)) (k0_pay62 v) s
/-- The state after the third chunk. -/
def st3 (k : Vec Ideal S1x256x128 .bf16) (v : Vec Ideal S1x256x256 .bf16) (g : Vec Ideal S1x256x128 .f32) (s : FVec Ideal S256x128 .f32) :
    FVec Ideal S256x128 .f32 := k0_pay107 k0_pay8 (keH k g) (k0_pay59 (k0_pay49 tri g)) (k0_pay62 v) s
/-- The state after the fourth chunk. -/
def st4 (k : Vec Ideal S1x256x128 .bf16) (v : Vec Ideal S1x256x256 .bf16) (g : Vec Ideal S1x256x128 .f32) (s : FVec Ideal S256x128 .f32) :
    FVec Ideal S256x128 .f32 := k0_pay116 k0_pay8 (keH k g) (k0_pay60 (k0_pay50 tri g)) (k0_pay62 v) s

/-- The state a head's block leaves. -/
def stH (k : Vec Ideal S1x256x128 .bf16) (v : Vec Ideal S1x256x256 .bf16) (g : Vec Ideal S1x256x128 .f32) (s : Vec Ideal S1x256x128 .f32) :
    FVec Ideal S256x128 .f32 := st4 k v g (st3 k v g (st2 k v g (st1 k v g (k0_pay82 s))))

/-- A head's normalised and gated output. -/
def outH (q k : Vec Ideal S1x256x128 .bf16) (v r : Vec Ideal S1x256x256 .bf16) (g : Vec Ideal S1x256x128 .f32)
    (s : Vec Ideal S1x256x128 .f32) (w : Vec Ideal S1x256 .f32) : FVec Ideal S256x256 .bf16 :=
  k0_pay129 (oH q k v g) (k0_pay86 (qdH q g) (k0_pay82 s)) (k0_pay96 (qdH q g) (st1 k v g (k0_pay82 s)))
    (k0_pay106 (qdH q g) (st2 k v g (st1 k v g (k0_pay82 s)))) (k0_pay115 (qdH q g) (st3 k v g (st2 k v g (st1 k v g (k0_pay82 s))))) r w

/-- The block's output: the four heads side by side through the output projection, added to the residual. -/
def outO (y0 y1 y2 y3 : FVec Ideal S256x256 .bf16) (x : Vec Ideal S1x256x1024 .f32) (wo : Vec Ideal S1024x1024 .bf16) : FVec Ideal S256x1024 .f32 :=
  addf (shapeCast S256x1024 x shapeCasts_S1x256x1024_S256x1024)
    (matmul dot_S256x1024_S1024x1024_S256x1024_1_0_0_1_n_n none
      (concatenate S256x1024 1 [⟨S256x256, y0⟩, ⟨S256x256, y1⟩, ⟨S256x256, y2⟩, ⟨S256x256, y3⟩] concatenates_S256x256_S256x256_S256x256_S256x256_S256x1024_d1)
      (shapeCast S1024x1024 wo shapeCasts_S1024x1024_S1024x1024 : FVec Ideal S1024x1024 .bf16) (constant S256x1024 .f32 0x00000000#32))

/-- A head's output from the windows' blocks. -/
def headOut (x0 x1 : Vec Ideal S1x256x512 .bf16) (x2 x3 : Vec Ideal S1x256x1024 .bf16) (x4 : Vec Ideal S1x256x512 .f32)
    (x6 : Vec Ideal S1x256 .f32) (s : Vec Ideal S4x256x128 .f32) (h : Fin 4) : FVec Ideal S256x256 .bf16 :=
  outH (col128 x0 h) (col128 x1 h) (col256 x2 h) (col256 x3 h) (col128 x4 h) (plane s h) x6

/-- A head's state from the windows' blocks. -/
def headSt (x1 : Vec Ideal S1x256x512 .bf16) (x2 : Vec Ideal S1x256x1024 .bf16) (x4 : Vec Ideal S1x256x512 .f32)
    (s : Vec Ideal S4x256x128 .f32) (h : Fin 4) : FVec Ideal S256x128 .f32 :=
  stH (col128 x1 h) (col256 x2 h) (col128 x4 h) (plane s h)

/-- The block a point writes, from the windows' blocks and the states before it. -/
def blockOut (x0 x1 : Vec Ideal S1x256x512 .bf16) (x2 x3 : Vec Ideal S1x256x1024 .bf16) (x4 : Vec Ideal S1x256x512 .f32)
    (x5 : Vec Ideal S1x256x1024 .f32) (x6 : Vec Ideal S1x256 .f32) (x7 : Vec Ideal S1024x1024 .bf16) (s : Vec Ideal S4x256x128 .f32) :
    Vec Ideal S1x256x1024 .f32 :=
  k0_pay1 (outO (headOut x0 x1 x2 x3 x4 x6 s 0) (headOut x0 x1 x2 x3 x4 x6 s 1) (headOut x0 x1 x2 x3 x4 x6 s 2) (headOut x0 x1 x2 x3 x4 x6 s 3) x5 x7)

/-- The states a point leaves. -/
def blockSt (x1 : Vec Ideal S1x256x512 .bf16) (x2 : Vec Ideal S1x256x1024 .bf16) (x4 : Vec Ideal S1x256x512 .f32)
    (s : Vec Ideal S4x256x128 .f32) : Vec Ideal S4x256x128 .f32 :=
  fun y => headSt x1 x2 x4 s (y 0) (ix2 (y 1) (y 2))

/-- One head's stored plane at its index is the head's state there. -/
theorem plane_piece (T : FVec Ideal S256x128 .f32) (f : Fin 4 → FVec Ideal S256x128 .f32) (h : Fin 4) (o : ℕ) (ho : o = h.val)
    (hin : ∀ a, (![o, 0, 0] : Fin 3 → ℕ) a + (![1, 256, 128] : Fin 3 → ℕ) a ≤ S4x256x128.size a) (hT : T = f h)
    (x : S1x256x128.Idx) :
    (shapeCast S1x256x128 T shapeCasts_S256x128_S1x256x128 : Vec Ideal S1x256x128 .f32) x
      = (fun y : S4x256x128.Idx => f (y 0) (ix2 (y 1) (y 2))) ((Rect.unit (s := S4x256x128) ![o, 0, 0] ![1, 256, 128] hin).idx x) := by
  subst ho hT
  have h0 : (x 0).val < 1 := (x 0).isLt
  refine (shapeCast_apply _ _ x (ix2 (x 1) (x 2) : S256x128.Idx) ?_).trans ?_
  · rw [Shape.rowMajor_val_two, Shape.rowMajor_val_three]
    show (x 1).val * 128 + (x 2).val = ((x 0).val * 256 + (x 1).val) * 128 + (x 2).val
    omega
  · have e : ((Rect.unit (s := S4x256x128) ![h.val, 0, 0] ![1, 256, 128] hin).idx x) = ix3 h (x 1) (x 2) := by
      refine funext fun a => Fin.ext ?_
      match a with
      | ⟨0, _⟩ => show h.val + 1 * (x 0).val = h.val; omega
      | ⟨1, _⟩ => show 0 + 1 * (x 1).val = (x 1).val; omega
      | ⟨2, _⟩ => show 0 + 1 * (x 2).val = (x 2).val; omega
    rw [e]
    rfl

theorem hz3 : (![0, 0, 0] : Fin 3 → ℕ) = fun _ => 0 := funext fun a => by fin_cases a <;> rfl
theorem hz2 : (![0, 0] : Fin 2 → ℕ) = fun _ => 0 := funext fun a => by fin_cases a <;> rfl

/-- A load after a fill of all the states reads the fill. -/
theorem fill {sig : RefSig} {κ : Kind} {sp : Space} (v : View sig κ sp S4x256x128 .f32)
    (inb : ∀ a, (![0, 0, 0] : Fin 3 → ℕ) a + (![4, 256, 128] : Fin 3 → ℕ) a ≤ S4x256x128.size a) (Z : Vec Ideal S4x256x128 .f32) (r : Rect S4x256x128) :
    v.readCov (Val := Elt Ideal) [⟨Rect.unit ![0, 0, 0] ![4, 256, 128] inb, Z⟩] r.toLoadRect = View.ld Z r :=
  View.readCov_fill v inb Z [] r (fun a => by fin_cases a <;> rfl)

/-- The states before the first point of a batch row: zero. -/
def zeroSt : Vec Ideal S4x256x128 .f32 := k0_pay2 (F := Ideal)

/-- What a point of case B writes. -/
theorem out_B (c : Dev nD) (i : grid0.Coords) (a2 : Memref sig .tc .vmem S1x256x512 .bf16) (h2 : a2.IsWhole) (a3 : Memref sig .tc .vmem S1x256x512 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x512 .f32) (h6 : a6.IsWhole) (a7 : Memref sig .tc .vmem S1x256x1024 .f32) (h7 : a7.IsWhole) (a8 : Memref sig .tc .vmem S1x256 .f32) (h8 : a8.IsWhole) (a9 : Memref sig .tc .vmem S1024x1024 .bf16) (h9 : a9.IsWhole) (a10 : Memref sig .tc .vmem S1x256x1024 .f32) (h10 : a10.IsWhole) (a11 : Memref sig .tc .vmem S4x256x128 .f32) (h11 : a11.IsWhole) (hc : ¬cond0_0 i)
    (x0 : Vec Ideal S1x256x512 .bf16) (x1 : Vec Ideal S1x256x512 .bf16) (x2 : Vec Ideal S1x256x1024 .bf16) (x3 : Vec Ideal S1x256x1024 .bf16) (x4 : Vec Ideal S1x256x512 .f32) (x5 : Vec Ideal S1x256x1024 .f32) (x6 : Vec Ideal S1x256 .f32) (x7 : Vec Ideal S1024x1024 .bf16) (xs0 : Vec Ideal S4x256x128 .f32) :
    out0_B_8 c i a2 h2 a3 h3 a4 h4 a5 h5 a6 h6 a7 h7 a8 h8 a9 h9 a10 h10 a11 h11 hc x0 x1 x2 x3 x4 x5 x6 x7 xs0 = blockOut x0 x1 x2 x3 x4 x5 x6 x7 xs0 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xs0)]
  unfold kernelRun0_B
  dsimp only
  rw [View.canon_unit_zero (S := S1x256x1024) hz3]
  sl_unfold_words
  sl_unfold_words
  sl_unfold_words
  simp only [View.readAt_eq_ld, h2.read_unread, h3.read_unread, h4.read_unread, h5.read_unread, h6.read_unread, h7.read_unread, h8.read_unread, h9.read_unread, h11.read_unread,
    fun φ (x : Vec Ideal S1x256x512 φ) hin => ld_col128 x 0 0 rfl hin, fun φ (x : Vec Ideal S1x256x512 φ) hin => ld_col128 x 1 128 rfl hin,
    fun φ (x : Vec Ideal S1x256x512 φ) hin => ld_col128 x 2 256 rfl hin, fun φ (x : Vec Ideal S1x256x512 φ) hin => ld_col128 x 3 384 rfl hin,
    fun φ (x : Vec Ideal S1x256x1024 φ) hin => ld_col256 x 0 0 rfl hin, fun φ (x : Vec Ideal S1x256x1024 φ) hin => ld_col256 x 1 256 rfl hin,
    fun φ (x : Vec Ideal S1x256x1024 φ) hin => ld_col256 x 2 512 rfl hin, fun φ (x : Vec Ideal S1x256x1024 φ) hin => ld_col256 x 3 768 rfl hin,
    fun φ (x : Vec Ideal S4x256x128 φ) hin => ld_plane x 0 0 rfl hin, fun φ (x : Vec Ideal S4x256x128 φ) hin => ld_plane x 1 1 rfl hin,
    fun φ (x : Vec Ideal S4x256x128 φ) hin => ld_plane x 2 2 rfl hin, fun φ (x : Vec Ideal S4x256x128 φ) hin => ld_plane x 3 3 rfl hin,
    View.ld_unit_zero (S := S1x256) hz2, View.ld_unit_zero (S := S1x256x1024) hz3, View.ld_unit_zero (S := S1024x1024) hz2]
  rfl

/-- The states a point of case B leaves. -/
theorem sout_B (c : Dev nD) (i : grid0.Coords) (a2 : Memref sig .tc .vmem S1x256x512 .bf16) (h2 : a2.IsWhole) (a3 : Memref sig .tc .vmem S1x256x512 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x512 .f32) (h6 : a6.IsWhole) (a7 : Memref sig .tc .vmem S1x256x1024 .f32) (h7 : a7.IsWhole) (a8 : Memref sig .tc .vmem S1x256 .f32) (h8 : a8.IsWhole) (a9 : Memref sig .tc .vmem S1024x1024 .bf16) (h9 : a9.IsWhole) (a10 : Memref sig .tc .vmem S1x256x1024 .f32) (h10 : a10.IsWhole) (a11 : Memref sig .tc .vmem S4x256x128 .f32) (h11 : a11.IsWhole) (hc : ¬cond0_0 i)
    (x0 : Vec Ideal S1x256x512 .bf16) (x1 : Vec Ideal S1x256x512 .bf16) (x2 : Vec Ideal S1x256x1024 .bf16) (x3 : Vec Ideal S1x256x1024 .bf16) (x4 : Vec Ideal S1x256x512 .f32) (x5 : Vec Ideal S1x256x1024 .f32) (x6 : Vec Ideal S1x256 .f32) (x7 : Vec Ideal S1024x1024 .bf16) (xs0 : Vec Ideal S4x256x128 .f32) :
    sout0_B_0 c i a2 h2 a3 h3 a4 h4 a5 h5 a6 h6 a7 h7 a8 h8 a9 h9 a10 h10 a11 h11 hc x0 x1 x2 x3 x4 x5 x6 x7 xs0 = blockSt x1 x2 x4 xs0 := by
  unfold sout0_B_0
  rw [View.read_writes_eq_canon _ _ _ (scover0_B_0 c i a2 h2 a3 h3 a4 h4 a5 h5 a6 h6 a7 h7 a8 h8 a9 h9 a10 h10 a11 h11 hc x0 x1 x2 x3 x4 x5 x6 x7 xs0)]
  funext y
  refine View.canon_apply_of_pieces (blockSt x1 x2 x4 xs0) _ ?_ y (scover0_B_0 c i a2 h2 a3 h3 a4 h4 a5 h5 a6 h6 a7 h7 a8 h8 a9 h9 a10 h10 a11 h11 hc x0 x1 x2 x3 x4 x5 x6 x7 xs0 y)
  unfold kernelRun0_B
  dsimp only
  sl_unfold_words
  sl_unfold_words
  sl_unfold_words
  simp only [View.readAt_eq_ld, h2.read_unread, h3.read_unread, h4.read_unread, h5.read_unread, h6.read_unread, h7.read_unread, h8.read_unread, h9.read_unread, h11.read_unread,
    fun φ (x : Vec Ideal S1x256x512 φ) hin => ld_col128 x 0 0 rfl hin, fun φ (x : Vec Ideal S1x256x512 φ) hin => ld_col128 x 1 128 rfl hin,
    fun φ (x : Vec Ideal S1x256x512 φ) hin => ld_col128 x 2 256 rfl hin, fun φ (x : Vec Ideal S1x256x512 φ) hin => ld_col128 x 3 384 rfl hin,
    fun φ (x : Vec Ideal S1x256x1024 φ) hin => ld_col256 x 0 0 rfl hin, fun φ (x : Vec Ideal S1x256x1024 φ) hin => ld_col256 x 1 256 rfl hin,
    fun φ (x : Vec Ideal S1x256x1024 φ) hin => ld_col256 x 2 512 rfl hin, fun φ (x : Vec Ideal S1x256x1024 φ) hin => ld_col256 x 3 768 rfl hin,
    fun φ (x : Vec Ideal S4x256x128 φ) hin => ld_plane x 0 0 rfl hin, fun φ (x : Vec Ideal S4x256x128 φ) hin => ld_plane x 1 1 rfl hin,
    fun φ (x : Vec Ideal S4x256x128 φ) hin => ld_plane x 2 2 rfl hin, fun φ (x : Vec Ideal S4x256x128 φ) hin => ld_plane x 3 3 rfl hin,
    View.ld_unit_zero (S := S1x256) hz2, View.ld_unit_zero (S := S1x256x1024) hz3, View.ld_unit_zero (S := S1024x1024) hz2]
  intro pc hpc
  rcases List.mem_cons.mp hpc with rfl | hpc
  · exact fun x => plane_piece _ (headSt x1 x2 x4 xs0) 3 3 rfl inb_S4x256x128_S1x256x128_3_0_0 rfl x
  rcases List.mem_cons.mp hpc with rfl | hpc
  · exact fun x => plane_piece _ (headSt x1 x2 x4 xs0) 2 2 rfl inb_S4x256x128_S1x256x128_2_0_0 rfl x
  rcases List.mem_cons.mp hpc with rfl | hpc
  · exact fun x => plane_piece _ (headSt x1 x2 x4 xs0) 1 1 rfl inb_S4x256x128_S1x256x128_1_0_0 rfl x
  rcases List.mem_cons.mp hpc with rfl | hpc
  · exact fun x => plane_piece _ (headSt x1 x2 x4 xs0) 0 0 rfl inb_S4x256x128_S1x256x128_0_0_0 rfl x
  nomatch hpc

/-- What a point of case A writes. -/
theorem out_A (c : Dev nD) (i : grid0.Coords) (a2 : Memref sig .tc .vmem S1x256x512 .bf16) (h2 : a2.IsWhole) (a3 : Memref sig .tc .vmem S1x256x512 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x512 .f32) (h6 : a6.IsWhole) (a7 : Memref sig .tc .vmem S1x256x1024 .f32) (h7 : a7.IsWhole) (a8 : Memref sig .tc .vmem S1x256 .f32) (h8 : a8.IsWhole) (a9 : Memref sig .tc .vmem S1024x1024 .bf16) (h9 : a9.IsWhole) (a10 : Memref sig .tc .vmem S1x256x1024 .f32) (h10 : a10.IsWhole) (a11 : Memref sig .tc .vmem S4x256x128 .f32) (h11 : a11.IsWhole) (hc : cond0_0 i)
    (x0 : Vec Ideal S1x256x512 .bf16) (x1 : Vec Ideal S1x256x512 .bf16) (x2 : Vec Ideal S1x256x1024 .bf16) (x3 : Vec Ideal S1x256x1024 .bf16) (x4 : Vec Ideal S1x256x512 .f32) (x5 : Vec Ideal S1x256x1024 .f32) (x6 : Vec Ideal S1x256 .f32) (x7 : Vec Ideal S1024x1024 .bf16) :
    out0_A_8 c i a2 h2 a3 h3 a4 h4 a5 h5 a6 h6 a7 h7 a8 h8 a9 h9 a10 h10 a11 h11 hc x0 x1 x2 x3 x4 x5 x6 x7 = blockOut x0 x1 x2 x3 x4 x5 x6 x7 zeroSt := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  rw [View.canon_unit_zero (S := S1x256x1024) hz3]
  sl_unfold_words
  sl_unfold_words
  sl_unfold_words
  simp only [View.readAt_eq_ld, h2.read_unread, h3.read_unread, h4.read_unread, h5.read_unread, h6.read_unread, h7.read_unread, h8.read_unread, h9.read_unread, h11.read_unread,
    fun φ (x : Vec Ideal S1x256x512 φ) hin => ld_col128 x 0 0 rfl hin, fun φ (x : Vec Ideal S1x256x512 φ) hin => ld_col128 x 1 128 rfl hin,
    fun φ (x : Vec Ideal S1x256x512 φ) hin => ld_col128 x 2 256 rfl hin, fun φ (x : Vec Ideal S1x256x512 φ) hin => ld_col128 x 3 384 rfl hin,
    fun φ (x : Vec Ideal S1x256x1024 φ) hin => ld_col256 x 0 0 rfl hin, fun φ (x : Vec Ideal S1x256x1024 φ) hin => ld_col256 x 1 256 rfl hin,
    fun φ (x : Vec Ideal S1x256x1024 φ) hin => ld_col256 x 2 512 rfl hin, fun φ (x : Vec Ideal S1x256x1024 φ) hin => ld_col256 x 3 768 rfl hin,
    fun φ (x : Vec Ideal S4x256x128 φ) hin => ld_plane x 0 0 rfl hin, fun φ (x : Vec Ideal S4x256x128 φ) hin => ld_plane x 1 1 rfl hin,
    fun φ (x : Vec Ideal S4x256x128 φ) hin => ld_plane x 2 2 rfl hin, fun φ (x : Vec Ideal S4x256x128 φ) hin => ld_plane x 3 3 rfl hin,
    View.ld_unit_zero (S := S1x256) hz2, View.ld_unit_zero (S := S1x256x1024) hz3, View.ld_unit_zero (S := S1024x1024) hz2, fill]
  rfl

/-- The states a point of case A leaves. -/
theorem sout_A (c : Dev nD) (i : grid0.Coords) (a2 : Memref sig .tc .vmem S1x256x512 .bf16) (h2 : a2.IsWhole) (a3 : Memref sig .tc .vmem S1x256x512 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x512 .f32) (h6 : a6.IsWhole) (a7 : Memref sig .tc .vmem S1x256x1024 .f32) (h7 : a7.IsWhole) (a8 : Memref sig .tc .vmem S1x256 .f32) (h8 : a8.IsWhole) (a9 : Memref sig .tc .vmem S1024x1024 .bf16) (h9 : a9.IsWhole) (a10 : Memref sig .tc .vmem S1x256x1024 .f32) (h10 : a10.IsWhole) (a11 : Memref sig .tc .vmem S4x256x128 .f32) (h11 : a11.IsWhole) (hc : cond0_0 i)
    (x0 : Vec Ideal S1x256x512 .bf16) (x1 : Vec Ideal S1x256x512 .bf16) (x2 : Vec Ideal S1x256x1024 .bf16) (x3 : Vec Ideal S1x256x1024 .bf16) (x4 : Vec Ideal S1x256x512 .f32) (x5 : Vec Ideal S1x256x1024 .f32) (x6 : Vec Ideal S1x256 .f32) (x7 : Vec Ideal S1024x1024 .bf16) :
    sout0_A_0 c i a2 h2 a3 h3 a4 h4 a5 h5 a6 h6 a7 h7 a8 h8 a9 h9 a10 h10 a11 h11 hc x0 x1 x2 x3 x4 x5 x6 x7 = blockSt x1 x2 x4 zeroSt := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6 x7)]
  funext y
  unfold kernelRun0_A
  dsimp only
  sl_unfold_words
  sl_unfold_words
  sl_unfold_words
  simp only [View.readAt_eq_ld, h2.read_unread, h3.read_unread, h4.read_unread, h5.read_unread, h6.read_unread, h7.read_unread, h8.read_unread, h9.read_unread, h11.read_unread,
    fun φ (x : Vec Ideal S1x256x512 φ) hin => ld_col128 x 0 0 rfl hin, fun φ (x : Vec Ideal S1x256x512 φ) hin => ld_col128 x 1 128 rfl hin,
    fun φ (x : Vec Ideal S1x256x512 φ) hin => ld_col128 x 2 256 rfl hin, fun φ (x : Vec Ideal S1x256x512 φ) hin => ld_col128 x 3 384 rfl hin,
    fun φ (x : Vec Ideal S1x256x1024 φ) hin => ld_col256 x 0 0 rfl hin, fun φ (x : Vec Ideal S1x256x1024 φ) hin => ld_col256 x 1 256 rfl hin,
    fun φ (x : Vec Ideal S1x256x1024 φ) hin => ld_col256 x 2 512 rfl hin, fun φ (x : Vec Ideal S1x256x1024 φ) hin => ld_col256 x 3 768 rfl hin,
    fun φ (x : Vec Ideal S4x256x128 φ) hin => ld_plane x 0 0 rfl hin, fun φ (x : Vec Ideal S4x256x128 φ) hin => ld_plane x 1 1 rfl hin,
    fun φ (x : Vec Ideal S4x256x128 φ) hin => ld_plane x 2 2 rfl hin, fun φ (x : Vec Ideal S4x256x128 φ) hin => ld_plane x 3 3 rfl hin,
    View.ld_unit_zero (S := S1x256) hz2, View.ld_unit_zero (S := S1x256x1024) hz3, View.ld_unit_zero (S := S1024x1024) hz2, fill]
  change View.canon ([_, _, _, _] ++ [_]) y = _
  refine View.canon_append_of_piecesOf (blockSt x1 x2 x4 zeroSt) [_] [_, _, _, _] ⟨fun x => plane_piece _ (headSt x1 x2 x4 zeroSt) 3 3 rfl inb_S4x256x128_S1x256x128_3_0_0 rfl x, fun x => plane_piece _ (headSt x1 x2 x4 zeroSt) 2 2 rfl inb_S4x256x128_S1x256x128_2_0_0 rfl x, fun x => plane_piece _ (headSt x1 x2 x4 zeroSt) 1 1 rfl inb_S4x256x128_S1x256x128_1_0_0 rfl x, fun x => plane_piece _ (headSt x1 x2 x4 zeroSt) 0 0 rfl inb_S4x256x128_S1x256x128_0_0_0 rfl x, trivial⟩ y ?_
  refine View.cover_of_tiledL (s := S4x256x128) _ S1x256x128.size (by sl_kernel_rfl) y

end Cert.GlaMixIdeal.Body
-- ==== Proof.GlaBlock.lean ====
module

public import proofs.«01_k».proof.Proof.GlaBody
public import proofs.«01_k».proof.Proof.GlaSpec

/-! One head's block read index by index: four chunks of the recurrence, from the state before the block. -/

@[expose] public section

noncomputable section

namespace Cert.GlaMixIdeal.Body

open Cert.GlaMixIdeal Cert.GlaMixIdeal.Gen Cert.Proof.Gla Idealize.ShloMosaic Idealize.ShloMosaic.TcCoe Idealize.SL.Sem

/-- The chunk of a row as the kernel computes it, the row a word: rounded division by 64. -/
def chunkWord (b : BitVec 32) : BitVec 32 :=
  Scalar.select
    (IntOp.andi
      (IntOp.cmpi CmpIPredicate.ne
        (IntOp.subi (BitVec.setWidth 32 (IntOp.cmpi CmpIPredicate.sgt b 0#32)) (BitVec.setWidth 32 (IntOp.cmpi CmpIPredicate.slt b 0#32)))
        1#32)
      (IntOp.cmpi CmpIPredicate.ne (IntOp.remsi ArithUnit.vector b 64#32) 0#32))
    (IntOp.subi (IntOp.divsi ArithUnit.vector b 64#32) 1#32)
    (IntOp.divsi ArithUnit.vector b 64#32)

theorem chunkWord_eq : ∀ r : Fin 256, chunkWord (BitVec.ofNat 32 r.val) = BitVec.ofNat 32 (r.val / 64) := by decide +kernel

theorem chunk_row (c : Fin 4) (i : Fin 64) : chunkWord (BitVec.ofNat 32 (row c i).val) = BitVec.ofNat 32 c.val := by
  rw [chunkWord_eq, row_val, show (64 * c.val + i.val) / 64 = c.val by have := i.isLt; omega]

theorem sle_word : ∀ s r : Fin 256, IntOp.cmpi CmpIPredicate.sle (BitVec.ofNat 32 s.val) (BitVec.ofNat 32 r.val) = if s ≤ r then 1#1 else 0#1 := by
  decide +kernel

theorem eq_word : ∀ a b : Fin 4, IntOp.cmpi CmpIPredicate.eq (BitVec.ofNat 32 a.val) (BitVec.ofNat 32 b.val) = if a = b then 1#1 else 0#1 := by
  decide +kernel

theorem sgn : Scalar.subi (Scalar.extui (Scalar.cmpi CmpIPredicate.sgt 64#32 0#32)) (Scalar.extui (Scalar.cmpi CmpIPredicate.slt 64#32 0#32) : BitVec 32) = 1#32 := by
  decide +kernel

/-- The mask between row `i` of chunk `c` and row `j` of chunk `c'`. -/
theorem msk_row (c c' : Fin 4) (i j : Fin 64) : msk (ix2 (row c i) (row c' j)) = if c' = c ∧ j ≤ i then 1#1 else 0#1 := by
  have e : msk (ix2 (row c i) (row c' j)) = IntOp.andi (IntOp.cmpi CmpIPredicate.eq (chunkWord (BitVec.ofNat 32 (row c i).val)) (chunkWord (BitVec.ofNat 32 (row c' j).val)))
      (IntOp.cmpi CmpIPredicate.sle (BitVec.ofNat 32 (row c' j).val) (BitVec.ofNat 32 (row c i).val)) := by
    pointwise [msk, k0_pay6, k0_pay3, k0_pay4, k0_pay5]
    rw [sgn]
    rfl
  rw [e, chunk_row, chunk_row, sle_word, eq_word]
  by_cases h : c' = c
  · subst h
    by_cases h2 : j ≤ i
    · have h3 : row c' j ≤ row c' i := by show 64 * c'.val + j.val ≤ 64 * c'.val + i.val; have : j.val ≤ i.val := h2; omega
      rw [if_pos rfl, if_pos h3, if_pos ⟨rfl, h2⟩]; decide
    · have h3 : ¬ row c' j ≤ row c' i := by intro h4; apply h2; have : 64 * c'.val + j.val ≤ 64 * c'.val + i.val := h4; show j.val ≤ i.val; omega
      rw [if_pos rfl, if_neg h3, if_neg (fun h => h2 h.2)]; decide
  · rw [if_neg (show ¬ c = c' from fun h' => h h'.symm), if_neg (show ¬ (c' = c ∧ j ≤ i) from fun h' => h h'.1)]
    split <;> decide

theorem tri_row (c c' : Fin 4) (i j : Fin 64) : tri (ix2 (row c i) (row c' j)) = if c' = c ∧ j ≤ i then 1 else 0 := by
  have e : tri (ix2 (row c i) (row c' j)) = Scalar.select (msk (ix2 (row c i) (row c' j))) (1 : EReal) 0 := by
    pointwise [tri, k0_pay7]
    rfl
  rw [e, msk_row]
  split <;> rfl

theorem pay8_row (c : Fin 4) (i : Fin 64) (d : Fin 128) : k0_pay8 (ix2 (row c i) d) = BitVec.ofNat 32 c.val := by
  have e : k0_pay8 (ix2 (row c i) d) = chunkWord (BitVec.ofNat 32 (row c i).val) := by
    pointwise [k0_pay8]
    rw [sgn]
    rfl
  rw [e, chunk_row]

/-- Chunk `c` of a block with 128 columns. -/
def ch (x : S1x256x128.Idx → EReal) (c : Fin 4) : Mat 64 128 := fun i d => x (ix3 0 (row c i) d)
/-- Chunk `c` of a block with 256 columns. -/
def cv (x : S1x256x256.Idx → EReal) (c : Fin 4) : Mat 64 256 := fun i d => x (ix3 0 (row c i) d)

variable (q k : Vec Ideal S1x256x128 .bf16) (v r : Vec Ideal S1x256x256 .bf16) (g : Vec Ideal S1x256x128 .f32)
  (w : Vec Ideal S1x256 .f32)

theorem bH_row (hg : ∀ y, g y ≠ (⊤ : EReal)) (c : Fin 4) (i : Fin 64) (d : Fin 128) :
    bH g (ix2 (row c i) d) = cum (ch g c) i d := by
  have e : bH g (ix2 (row c i) d) = ∑ x : Fin 256, tri (ix2 (row c i) x) * g (ix3 0 x d)
      + ∑ x : Fin 256, tri (ix2 (row c i) x) * (g (ix3 0 x d) - g (ix3 0 x d) : EReal) := by
    pointwise [bH, k0_pay46]
  rw [e, ← Finset.sum_add_distrib]
  refine sum_only _ _ c fun c' j => ?_
  rw [tri_row]
  by_cases h : c' = c
  · subst h
    by_cases h2 : j ≤ i
    · rw [if_pos ⟨rfl, h2⟩, if_pos rfl, if_pos h2, one_mul, one_mul]
      exact add_sub_self (hg _)
    · rw [if_neg (fun h => h2 h.2), if_pos rfl, if_neg h2, zero_mul, zero_mul, add_zero]
  · rw [if_neg (fun h' => h h'.1), if_neg h, zero_mul, zero_mul, add_zero]

theorem qdH_row (hg : ∀ y, g y ≠ (⊤ : EReal)) (c : Fin 4) (i : Fin 64) (d : Fin 128) :
    qdH q g (ix2 (row c i) d) = qd (ch q c) (ch g c) i d := by
  have e : qdH q g (ix2 (row c i) d) = q (ix3 0 (row c i) d) * Ideal.exp (bH g (ix2 (row c i) d)) * Ideal.ofBits FTy.f32 1035273459#32 := by
    pointwise [qdH, k0_pay55, k0_pay52]
  rw [e, bH_row g hg]
  rfl

theorem e47 (d : Fin 128) : k0_pay47 tri g (ix2 0 d) = bH g (ix2 (row 0 63) d) := by pointwise [bH, k0_pay47]; rfl
theorem e48 (d : Fin 128) : k0_pay48 tri g (ix2 0 d) = bH g (ix2 (row 1 63) d) := by pointwise [bH, k0_pay48]; rfl
theorem e49 (d : Fin 128) : k0_pay49 tri g (ix2 0 d) = bH g (ix2 (row 2 63) d) := by pointwise [bH, k0_pay49]; rfl
theorem e50 (d : Fin 128) : k0_pay50 tri g (ix2 0 d) = bH g (ix2 (row 3 63) d) := by pointwise [bH, k0_pay50]; rfl

/-- Four rows, each spread over a chunk. -/
theorem spread_row (a0 a1 a2 a3 : FVec Ideal S1x128 .f32) (r : Fin 256) (d : Fin 128) :
    (concatenate S256x128 0
      [⟨S64x128, broadcastTo S64x128 (shapeCast S1x128 a0 shapeCasts_S1x128_S1x128) broadcasts_S1x128_S64x128⟩,
        ⟨S64x128, broadcastTo S64x128 (shapeCast S1x128 a1 shapeCasts_S1x128_S1x128) broadcasts_S1x128_S64x128⟩,
        ⟨S64x128, broadcastTo S64x128 (shapeCast S1x128 a2 shapeCasts_S1x128_S1x128) broadcasts_S1x128_S64x128⟩,
        ⟨S64x128, broadcastTo S64x128 (shapeCast S1x128 a3 shapeCasts_S1x128_S1x128) broadcasts_S1x128_S64x128⟩]
      concatenates_S64x128_S64x128_S64x128_S64x128_S256x128_d0 : FVec Ideal S256x128 .f32) (ix2 r d)
      = if r.val < 64 then a0 (ix2 0 d) else if r.val - 64 < 64 then a1 (ix2 0 d) else if r.val - 64 - 64 < 64 then a2 (ix2 0 d) else a3 (ix2 0 d) := by
  pointwise []
  simp only [dite_eq_ite]

/-- Every row of a chunk sees its chunk's last sum. -/
theorem last_row (c : Fin 4) (i : Fin 64) (d : Fin 128) : k0_pay51 tri g (ix2 (row c i) d) = bH g (ix2 (row c 63) d) := by
  have e := spread_row (k0_pay47 tri g) (k0_pay48 tri g) (k0_pay49 tri g) (k0_pay50 tri g) (row c i) d
  change k0_pay51 tri g (ix2 (row c i) d) = _ at e
  rw [e, e47, e48, e49, e50, row_val]
  have hi := i.isLt
  match c with
  | 0 => rw [if_pos (by show 64 * 0 + i.val < 64; omega)]
  | 1 => rw [if_neg (by show ¬ 64 * 1 + i.val < 64; omega), if_pos (by show 64 * 1 + i.val - 64 < 64; omega)]
  | 2 => rw [if_neg (by show ¬ 64 * 2 + i.val < 64; omega), if_neg (by show ¬ 64 * 2 + i.val - 64 < 64; omega), if_pos (by show 64 * 2 + i.val - 64 - 64 < 64; omega)]
  | 3 => rw [if_neg (by show ¬ 64 * 3 + i.val < 64; omega), if_neg (by show ¬ 64 * 3 + i.val - 64 < 64; omega), if_neg (by show ¬ 64 * 3 + i.val - 64 - 64 < 64; omega)]

theorem keH_row (hg : ∀ y, g y ≠ (⊤ : EReal)) (c : Fin 4) (i : Fin 64) (d : Fin 128) :
    keH k g (ix2 (row c i) d) = ke (ch k c) (ch g c) i d := by
  have e : keH k g (ix2 (row c i) d) = k (ix3 0 (row c i) d) * Ideal.exp (k0_pay51 tri g (ix2 (row c i) d) - bH g (ix2 (row c i) d) : EReal) := by
    pointwise [keH, k0_pay56, k0_pay53]
  rw [e, last_row, bH_row g hg, bH_row g hg]
  rfl

/-- Within the block, a row attends to its own chunk. -/
theorem oH_row (hg : ∀ y, g y ≠ (⊤ : EReal)) (c : Fin 4) (i : Fin 64) (u : Fin 256) :
    oH q k v g (ix2 (row c i) u) = intra (ch q c) (ch k c) (ch g c) (cv v c) i u := by
  have e : oH q k v g (ix2 (row c i) u) = ∑ x : Fin 256, Scalar.select (msk (ix2 (row c i) x))
        ((∑ d : Fin 128, q (ix3 0 (row c i) d) * Ideal.exp (bH g (ix2 (row c i) d)) * Ideal.ofBits FTy.f32 1035273459#32 *
              (k (ix3 0 x d) * Ideal.exp (0 - bH g (ix2 x d)))) * v (ix3 0 x u)) (0 : EReal) := by
    pointwise [oH, k0_pay61, k0_pay52, k0_pay53, k0_pay55, k0_pay54]
  rw [e]
  refine sum_only _ _ c fun c' j => ?_
  rw [msk_row]
  by_cases h : c' = c
  · subst h
    by_cases h2 : j ≤ i
    · rw [if_pos ⟨rfl, h2⟩, if_pos rfl, if_pos h2]
      refine congrArg (· * _) (Finset.sum_congr rfl fun d _ => ?_)
      rw [bH_row g hg, bH_row g hg, zero_sub]
      rfl
    · rw [if_neg (fun h => h2 h.2), if_pos rfl, if_neg h2, zero_mul]
      rfl
  · rw [if_neg (fun h' => h h'.1), if_neg h]
    rfl

/-- The state step through chunk `c`, the kernel's state being the transpose. -/
theorem step_row (hg : ∀ y, g y ≠ (⊤ : EReal)) (c : Fin 4) (T : Mat 128 256) (u : Fin 256) (d : Fin 128) (f : Fin 256 → EReal) (a : EReal)
    (hf : ∀ x, f x = Scalar.select (IntOp.cmpi CmpIPredicate.eq (k0_pay8 (ix2 x d)) (BitVec.ofNat 32 c.val)) (v (ix3 0 x u) * keH k g (ix2 x d) : EReal) 0)
    (ha : a = bH g (ix2 (row c 63) d)) :
    T d u * Ideal.exp a + ∑ x, f x = step (ch k c) (ch g c) (cv v c) T d u := by
  rw [ha, bH_row g hg, mul_comm]
  refine congrArg (fun t : EReal => Ideal.exp (cum (ch g c) 63 d) * T d u + t) ?_
  refine sum_only _ _ c fun c' j => ?_
  rw [hf, pay8_row, eq_word, keH_row k g hg]
  by_cases h : c' = c
  · subst h
    rw [if_pos rfl, if_pos rfl]
    exact mul_comm _ _
  · rw [if_neg h, if_neg h]
    rfl

theorem st1_row (hg : ∀ y, g y ≠ (⊤ : EReal)) (T : Mat 128 256) (s : FVec Ideal S256x128 .f32) (hs : ∀ u d, s (ix2 u d) = T d u)
    (u : Fin 256) (d : Fin 128) : st1 k v g s (ix2 u d) = step (ch k 0) (ch g 0) (cv v 0) T d u := by
  refine Eq.trans ?_ (step_row k v g hg 0 T u d _ _ (fun x => rfl) (e47 g d))
  rw [← hs]
  pointwise [st1, k0_pay87, k0_pay57, k0_pay62, k0_pay54]
theorem st2_row (hg : ∀ y, g y ≠ (⊤ : EReal)) (T : Mat 128 256) (s : FVec Ideal S256x128 .f32) (hs : ∀ u d, s (ix2 u d) = T d u)
    (u : Fin 256) (d : Fin 128) : st2 k v g s (ix2 u d) = step (ch k 1) (ch g 1) (cv v 1) T d u := by
  refine Eq.trans ?_ (step_row k v g hg 1 T u d _ _ (fun x => rfl) (e48 g d))
  rw [← hs]
  pointwise [st2, k0_pay97, k0_pay58, k0_pay62, k0_pay54]
theorem st3_row (hg : ∀ y, g y ≠ (⊤ : EReal)) (T : Mat 128 256) (s : FVec Ideal S256x128 .f32) (hs : ∀ u d, s (ix2 u d) = T d u)
    (u : Fin 256) (d : Fin 128) : st3 k v g s (ix2 u d) = step (ch k 2) (ch g 2) (cv v 2) T d u := by
  refine Eq.trans ?_ (step_row k v g hg 2 T u d _ _ (fun x => rfl) (e49 g d))
  rw [← hs]
  pointwise [st3, k0_pay107, k0_pay59, k0_pay62, k0_pay54]
theorem st4_row (hg : ∀ y, g y ≠ (⊤ : EReal)) (T : Mat 128 256) (s : FVec Ideal S256x128 .f32) (hs : ∀ u d, s (ix2 u d) = T d u)
    (u : Fin 256) (d : Fin 128) : st4 k v g s (ix2 u d) = step (ch k 3) (ch g 3) (cv v 3) T d u := by
  refine Eq.trans ?_ (step_row k v g hg 3 T u d _ _ (fun x => rfl) (e50 g d))
  rw [← hs]
  pointwise [st4, k0_pay116, k0_pay60, k0_pay62, k0_pay54]

theorem i0_row (hg : ∀ y, g y ≠ (⊤ : EReal)) (T : Mat 128 256) (s : FVec Ideal S256x128 .f32) (hs : ∀ u d, s (ix2 u d) = T d u)
    (i : Fin 64) (u : Fin 256) : k0_pay86 (qdH q g) s (ix2 i u) = inter (ch q 0) (ch g 0) T i u := by
  have e : k0_pay86 (qdH q g) s (ix2 i u) = ∑ d : Fin 128, qdH q g (ix2 (row 0 i) d) * s (ix2 u d) := by
    pointwise [k0_pay86]
    refine Finset.sum_congr rfl fun d _ => congrArg (· * _) (congrArg (qdH q g) (congrArg (fun t => ix2 t d) (Fin.ext ?_)))
    show _ = 64 * 0 + i.val
    simp
  rw [e]
  exact Finset.sum_congr rfl fun d _ => by rw [qdH_row q g hg, hs]
theorem i1_row (hg : ∀ y, g y ≠ (⊤ : EReal)) (T : Mat 128 256) (s : FVec Ideal S256x128 .f32) (hs : ∀ u d, s (ix2 u d) = T d u)
    (i : Fin 64) (u : Fin 256) : k0_pay96 (qdH q g) s (ix2 i u) = inter (ch q 1) (ch g 1) T i u := by
  have e : k0_pay96 (qdH q g) s (ix2 i u) = ∑ d : Fin 128, qdH q g (ix2 (row 1 i) d) * s (ix2 u d) := by
    pointwise [k0_pay96]
    rfl
  rw [e]
  exact Finset.sum_congr rfl fun d _ => by rw [qdH_row q g hg, hs]
theorem i2_row (hg : ∀ y, g y ≠ (⊤ : EReal)) (T : Mat 128 256) (s : FVec Ideal S256x128 .f32) (hs : ∀ u d, s (ix2 u d) = T d u)
    (i : Fin 64) (u : Fin 256) : k0_pay106 (qdH q g) s (ix2 i u) = inter (ch q 2) (ch g 2) T i u := by
  have e : k0_pay106 (qdH q g) s (ix2 i u) = ∑ d : Fin 128, qdH q g (ix2 (row 2 i) d) * s (ix2 u d) := by
    pointwise [k0_pay106]
    rfl
  rw [e]
  exact Finset.sum_congr rfl fun d _ => by rw [qdH_row q g hg, hs]
theorem i3_row (hg : ∀ y, g y ≠ (⊤ : EReal)) (T : Mat 128 256) (s : FVec Ideal S256x128 .f32) (hs : ∀ u d, s (ix2 u d) = T d u)
    (i : Fin 64) (u : Fin 256) : k0_pay115 (qdH q g) s (ix2 i u) = inter (ch q 3) (ch g 3) T i u := by
  have e : k0_pay115 (qdH q g) s (ix2 i u) = ∑ d : Fin 128, qdH q g (ix2 (row 3 i) d) * s (ix2 u d) := by
    pointwise [k0_pay115]
    rfl
  rw [e]
  exact Finset.sum_congr rfl fun d _ => by rw [qdH_row q g hg, hs]

/-- The four chunks' outputs stacked: row `i` of chunk `c` is row `i` of the `c`-th. -/
def stack (i0 i1 i2 i3 : FVec Ideal S64x256 .f32) (c : Fin 4) (i : Fin 64) (u : Fin 256) : EReal :=
  match c with
  | 0 => i0 (ix2 i u)
  | 1 => i1 (ix2 i u)
  | 2 => i2 (ix2 i u)
  | 3 => i3 (ix2 i u)

theorem stack_row (i0 i1 i2 i3 : FVec Ideal S64x256 .f32) (c : Fin 4) (i : Fin 64) (u : Fin 256) :
    (concatenate S256x256 0 [⟨S64x256, i0⟩, ⟨S64x256, i1⟩, ⟨S64x256, i2⟩, ⟨S64x256, i3⟩] concatenates_S64x256_S64x256_S64x256_S64x256_S256x256_d0
      : FVec Ideal S256x256 .f32) (ix2 (row c i) u) = stack i0 i1 i2 i3 c i u := by
  have hi := i.isLt
  pointwise []
  have hr : ∀ c, (row c i).val = 64 * c.val + i.val := fun c => rfl
  match c with
  | 0 =>
    rw [dif_pos (by show 64 * 0 + i.val < 64; omega)]
    exact congrArg (fun t => i0 (ix2 t u)) (Fin.ext (by show 64 * 0 + i.val = i.val; omega))
  | 1 =>
    rw [dif_neg (by show ¬ 64 * 1 + i.val < 64; omega), dif_pos (by show 64 * 1 + i.val - 64 < 64; omega)]
    exact congrArg (fun t => i1 (ix2 t u)) (Fin.ext (by show 64 * 1 + i.val - 64 = i.val; omega))
  | 2 =>
    rw [dif_neg (by show ¬ 64 * 2 + i.val < 64; omega), dif_neg (by show ¬ 64 * 2 + i.val - 64 < 64; omega), dif_pos (by show 64 * 2 + i.val - 64 - 64 < 64; omega)]
    exact congrArg (fun t => i2 (ix2 t u)) (Fin.ext (by show 64 * 2 + i.val - 64 - 64 = i.val; omega))
  | 3 =>
    rw [dif_neg (by show ¬ 64 * 3 + i.val < 64; omega), dif_neg (by show ¬ 64 * 3 + i.val - 64 < 64; omega), dif_neg (by show ¬ 64 * 3 + i.val - 64 - 64 < 64; omega)]
    exact congrArg (fun t => i3 (ix2 t u)) (Fin.ext (by show 64 * 3 + i.val - 64 - 64 - 64 = i.val; omega))

/-- The head norm and the gate at an index. -/
theorem gate_row (o : FVec Ideal S256x256 .f32) (i0 i1 i2 i3 : FVec Ideal S64x256 .f32) (c : Fin 4) (i : Fin 64) (u : Fin 256) :
    k0_pay129 o i0 i1 i2 i3 r w (ix2 (row c i) u)
      = gate (fun x => o (ix2 (row c i) x) + stack i0 i1 i2 i3 c i x) (fun x => w (ix2 0 x)) (cv r c i) u := by
  have key : ∀ O : FVec Ideal S256x256 .f32, O = (concatenate S256x256 0 [⟨S64x256, i0⟩, ⟨S64x256, i1⟩, ⟨S64x256, i2⟩, ⟨S64x256, i3⟩] concatenates_S64x256_S64x256_S64x256_S64x256_S256x256_d0
      : FVec Ideal S256x256 .f32) → k0_pay129 o i0 i1 i2 i3 r w (ix2 (row c i) u)
      = gate (fun x => o (ix2 (row c i) x) + O (ix2 (row c i) x)) (fun x => w (ix2 0 x)) (cv r c i) u := by
    intro O hO
    unfold k0_pay129
    rw [← hO]
    pointwise []
    rfl
  rw [key _ rfl]
  congr 1
  funext x
  rw [stack_row]

variable (K G Q : ℕ → Mat 64 128) (V : ℕ → Mat 64 256) (n : ℕ)

/-- A head's block leaves the state four chunks on. -/
theorem stH_eq (hg : ∀ y, g y ≠ (⊤ : EReal)) (hk : ∀ c, ch k c = K (n + c.val)) (hG : ∀ c, ch g c = G (n + c.val)) (hv : ∀ c, cv v c = V (n + c.val))
    (s : Vec Ideal S1x256x128 .f32) (hs : ∀ u d, s (ix3 0 u d) = run K G V n d u) (u : Fin 256) (d : Fin 128) :
    stH k v g s (ix2 u d) = run K G V (n + 4) d u := by
  have h0 : ∀ u d, k0_pay82 s (ix2 u d) = run K G V n d u := by
    intro u d; rw [← hs]; pointwise [k0_pay82]
  have h1 : ∀ u d, st1 k v g (k0_pay82 s) (ix2 u d) = run K G V (n + 1) d u := fun u d => by
    rw [st1_row k v g hg _ _ h0, hk, hG, hv]; rfl
  have h2 : ∀ u d, st2 k v g (st1 k v g (k0_pay82 s)) (ix2 u d) = run K G V (n + 2) d u := fun u d => by
    rw [st2_row k v g hg _ _ h1, hk, hG, hv]; rfl
  have h3 : ∀ u d, st3 k v g (st2 k v g (st1 k v g (k0_pay82 s))) (ix2 u d) = run K G V (n + 3) d u := fun u d => by
    rw [st3_row k v g hg _ _ h2, hk, hG, hv]; rfl
  unfold stH
  rw [st4_row k v g hg _ _ h3, hk, hG, hv]; rfl

/-- A head's block outputs the four chunks' normalised and gated attention. -/
theorem outH_eq (hg : ∀ y, g y ≠ (⊤ : EReal)) (hq : ∀ c, ch q c = Q (n + c.val)) (hk : ∀ c, ch k c = K (n + c.val)) (hG : ∀ c, ch g c = G (n + c.val)) (hv : ∀ c, cv v c = V (n + c.val))
    (s : Vec Ideal S1x256x128 .f32) (hs : ∀ u d, s (ix3 0 u d) = run K G V n d u) (c : Fin 4) (i : Fin 64) (u : Fin 256) :
    outH q k v r g s w (ix2 (row c i) u) = gate (att Q K G V (n + c.val) i) (fun x => w (ix2 0 x)) (cv r c i) u := by
  have h0 : ∀ u d, k0_pay82 s (ix2 u d) = run K G V n d u := by
    intro u d; rw [← hs]; pointwise [k0_pay82]
  have h1 : ∀ u d, st1 k v g (k0_pay82 s) (ix2 u d) = run K G V (n + 1) d u := fun u d => by
    rw [st1_row k v g hg _ _ h0, hk, hG, hv]; rfl
  have h2 : ∀ u d, st2 k v g (st1 k v g (k0_pay82 s)) (ix2 u d) = run K G V (n + 2) d u := fun u d => by
    rw [st2_row k v g hg _ _ h1, hk, hG, hv]; rfl
  have h3 : ∀ u d, st3 k v g (st2 k v g (st1 k v g (k0_pay82 s))) (ix2 u d) = run K G V (n + 3) d u := fun u d => by
    rw [st3_row k v g hg _ _ h2, hk, hG, hv]; rfl
  unfold outH
  rw [gate_row]
  congr 1
  funext x
  rw [oH_row q k v g hg, hq, hk, hG, hv]
  unfold att
  congr 1
  match c with
  | 0 => exact (i0_row q g hg _ _ h0 i x).trans (by rw [hq, hG]; rfl)
  | 1 => exact (i1_row q g hg _ _ h1 i x).trans (by rw [hq, hG]; rfl)
  | 2 => exact (i2_row q g hg _ _ h2 i x).trans (by rw [hq, hG]; rfl)
  | 3 => exact (i3_row q g hg _ _ h3 i x).trans (by rw [hq, hG]; rfl)

end Cert.GlaMixIdeal.Body
-- ==== Proof.GlaMixRun.lean ====
module

public import proofs.«01_k».proof.Defs
public import proofs.«01_k».proof.Proof.GlaBlock
public import Idealize.ShloMosaic.Lib.Pipeline.Value
public import Idealize.ShloMosaic.Lib.Claim

/-! The attention kernel's result array, index by index, as the attention of the arguments. -/

@[expose] public section

noncomputable section

namespace Cert.GlaMixIdeal.Rows

open Cert.GlaMixIdeal Cert.GlaMixIdeal.Gen Cert.GlaMixIdeal.Body Cert.Proof.Gla Idealize.ShloMosaic Idealize.ShloMosaic.TcCoe Idealize.SL.Sem
open Idealize.ShloMosaic.Pipeline (Dat)

/-- Row `r` of block `p` of a sequence. -/
def pos (p : Fin 16) (r : Fin 256) : Fin 4096 := ⟨256 * p.val + r.val, by have := p.isLt; have := r.isLt; omega⟩

theorem pos_row (p : Fin 16) (c : Fin 4) (i : Fin 64) : pos p (row c i) = tok (4 * p.val + c.val) i := by
  have := p.isLt; have := c.isLt; have := i.isLt
  refine Fin.ext ?_
  show 256 * p.val + (64 * c.val + i.val) = (64 * (4 * p.val + c.val) + i.val) % 4096
  omega

theorem chunk_pos (p : Fin 16) (c : Fin 4) (i : Fin 64) : chunk (pos p (row c i)) = 4 * p.val + c.val := by
  have := c.isLt; have := i.isLt
  show (256 * p.val + (64 * c.val + i.val)) / 64 = _
  omega

theorem within_pos (p : Fin 16) (c : Fin 4) (i : Fin 64) : within (pos p (row c i)) = i := by
  have := i.isLt
  refine Fin.ext ?_
  show (256 * p.val + (64 * c.val + i.val)) % 64 = i.val
  omega

/-- The output product over the heads side by side. -/
theorem out_row (y : Fin 4 → FVec Ideal S256x256 .bf16) (x : Vec Ideal S1x256x1024 .f32) (w : Vec Ideal S1024x1024 .bf16) (r : Fin 256) (s : Fin 1024) :
    k0_pay1 (outO (y 0) (y 1) (y 2) (y 3) x w) (ix3 0 r s) = x (ix3 0 r s) + ∑ k : Fin 1024, y (hd k) (ix2 r (hv k)) * w (ix2 k s) := by
  pointwise [k0_pay1, outO]
  refine congrArg (fun t : EReal => x (ix3 0 r s) + t) (Finset.sum_congr rfl fun k _ => congrArg (fun t : EReal => t * w (ix2 k s)) ?_)
  have hk := k.isLt
  have key : ∀ (h : Fin 4) (q : Fin 256), k.val = 256 * h.val + q.val → y h (ix2 r q) = y (hd k) (ix2 r (hv k)) := by
    intro h q e
    have := q.isLt
    rw [show hd k = h from Fin.ext (by show k.val / 256 = h.val; omega), show hv k = q from Fin.ext (by show k.val % 256 = q.val; omega)]
  split_ifs <;> first
    | exact key 0 ⟨k.val, by omega⟩ (by show k.val = 256 * 0 + k.val; omega)
    | exact key 1 ⟨k.val - 256, by omega⟩ (by show k.val = 256 * 1 + (k.val - 256); omega)
    | exact key 2 ⟨k.val - 256 - 256, by omega⟩ (by show k.val = 256 * 2 + (k.val - 256 - 256); omega)
    | exact key 3 ⟨k.val - 256 - 256 - 256, by omega⟩ (by show k.val = 256 * 3 + (k.val - 256 - 256 - 256); omega)

section block

variable (P : Fin 16 → Fin 4096 → Fin 3072 → EReal) (GK : Fin 16 → Fin 4096 → Fin 512 → EReal) (X : Fin 16 → Fin 4096 → Fin 1024 → EReal)
  (WN : Fin 256 → EReal) (WO : Fin 1024 → Fin 1024 → EReal) (b p : Fin 16)
  (x0 x1 : Vec Ideal S1x256x512 .bf16) (x2 x3 : Vec Ideal S1x256x1024 .bf16) (x4 : Vec Ideal S1x256x512 .f32)
  (x5 : Vec Ideal S1x256x1024 .f32) (x6 : Vec Ideal S1x256 .f32) (x7 : Vec Ideal S1024x1024 .bf16) (s : Vec Ideal S4x256x128 .f32)
  (hg : ∀ b t l, GK b t l ≠ ⊤)
  (h0 : ∀ r (l : Fin 512), x0 (ix3 0 r l) = P b (pos p r) ⟨l.val, by have := l.isLt; omega⟩)
  (h1 : ∀ r (l : Fin 512), x1 (ix3 0 r l) = P b (pos p r) ⟨512 + l.val, by have := l.isLt; omega⟩)
  (h2 : ∀ r (l : Fin 1024), x2 (ix3 0 r l) = P b (pos p r) ⟨1024 + l.val, by have := l.isLt; omega⟩)
  (h3 : ∀ r (l : Fin 1024), x3 (ix3 0 r l) = P b (pos p r) ⟨2048 + l.val, by have := l.isLt; omega⟩)
  (h4 : ∀ r (l : Fin 512), x4 (ix3 0 r l) = GK b (pos p r) l)
  (h5 : ∀ r (l : Fin 1024), x5 (ix3 0 r l) = X b (pos p r) l)
  (h6 : ∀ l, x6 (ix2 0 l) = WN l) (h7 : ∀ k e, x7 (ix2 k e) = WO k e)
  (hs : ∀ h u d, s (ix3 h u d) = run (Ks P b h) (Gs GK b h) (Vs P b h) (4 * p.val) d u)

include h0 in
theorem chQ (h c : Fin 4) : ch (col128 x0 h) c = Qs P b h (4 * p.val + c.val) := by
  funext i d
  refine (h0 (row c i) ⟨128 * h.val + d.val, by have := h.isLt; have := d.isLt; omega⟩).trans ?_
  rw [pos_row]; rfl
include h1 in
theorem chK (h c : Fin 4) : ch (col128 x1 h) c = Ks P b h (4 * p.val + c.val) := by
  funext i d
  refine (h1 (row c i) ⟨128 * h.val + d.val, by have := h.isLt; have := d.isLt; omega⟩).trans ?_
  rw [pos_row]; rfl
include h2 in
theorem chV (h c : Fin 4) : cv (col256 x2 h) c = Vs P b h (4 * p.val + c.val) := by
  funext i d
  refine (h2 (row c i) ⟨256 * h.val + d.val, by have := h.isLt; have := d.isLt; omega⟩).trans ?_
  rw [pos_row]; rfl
include h3 in
theorem chR (h c : Fin 4) (i : Fin 64) : cv (col256 x3 h) c i = Rs P b h (pos p (row c i)) := by
  funext d
  exact h3 (row c i) ⟨256 * h.val + d.val, by have := h.isLt; have := d.isLt; omega⟩
include h4 in
theorem chG (h c : Fin 4) : ch (col128 x4 h) c = Gs GK b h (4 * p.val + c.val) := by
  funext i d
  refine (h4 (row c i) ⟨128 * h.val + d.val, by have := h.isLt; have := d.isLt; omega⟩).trans ?_
  rw [pos_row]; rfl
include h4 hg in
theorem ne_top (h : Fin 4) (y : S1x256x128.Idx) : col128 x4 h y ≠ (⊤ : EReal) := by
  refine (h4 (y 1) ⟨128 * h.val + (y 2).val, by have h2 : (y 2).val < 128 := (y 2).isLt; have := h.isLt; omega⟩).trans_ne (hg _ _ _)

include hg h1 h2 h4 hs in
/-- The states after a block. -/
theorem blockSt_eq (h : Fin 4) (u : Fin 256) (d : Fin 128) :
    blockSt x1 x2 x4 s (ix3 h u d) = run (Ks P b h) (Gs GK b h) (Vs P b h) (4 * p.val + 4) d u :=
  stH_eq _ _ _ _ _ _ _ (ne_top GK b p x4 hg h4 h) (chK P b p x1 h1 h) (chG GK b p x4 h4 h) (chV P b p x2 h2 h) _ (fun u d => hs h u d) u d

include hg h0 h1 h2 h3 h4 h5 h6 h7 hs in
/-- The rows a block writes. -/
theorem blockOut_eq (r : Fin 256) (e : Fin 1024) :
    blockOut x0 x1 x2 x3 x4 x5 x6 x7 s (ix3 0 r e) = res P GK X WN WO b (pos p r) e := by
  obtain ⟨c, i, rfl⟩ := exists_row r
  refine (out_row (fun h => headOut x0 x1 x2 x3 x4 x6 s h) x5 x7 (row c i) e).trans ?_
  unfold res
  rw [h5]
  refine congrArg (fun t : EReal => X b (pos p (row c i)) e + t) (Finset.sum_congr rfl fun k _ => ?_)
  rw [h7]
  refine congrArg (fun t : EReal => t * WO k e) ?_
  unfold head
  rw [chunk_pos, within_pos, ← chR P b p x3 h3]
  refine (outH_eq _ _ _ _ _ _ _ _ _ _ _ (ne_top GK b p x4 hg h4 (hd k)) (chQ P b p x0 h0 (hd k)) (chK P b p x1 h1 (hd k)) (chG GK b p x4 h4 (hd k)) (chV P b p x2 h2 (hd k)) _
    (fun u d => hs (hd k) u d) c i (hv k)).trans ?_
  rw [show (fun x => x6 (ix2 0 x)) = WN from funext h6]

end block

variable (m : (ℓ : Loc nD τ sig) → Buf (Elt Ideal) ℓ)

/-- The sequence a point works on. -/
def bt (n : ℕ) : Fin 16 := ⟨n / 16 % 16, Nat.mod_lt _ (by decide)⟩
/-- The block of the sequence. -/
def pt (n : ℕ) : Fin 16 := ⟨n % 16, Nat.mod_lt _ (by decide)⟩

theorem lt_N (t : Fin cfg0.N) : t.val < 256 := lt_of_lt_of_eq t.isLt N_0

theorem idxP : ∀ t : Fin cfg0.N, (win0_0.index t 0 = (bt t.val).val ∧ win0_0.index t 1 = (pt t.val).val ∧ win0_0.index t 2 = 0)
    ∧ (win0_1.index t 0 = (bt t.val).val ∧ win0_1.index t 1 = (pt t.val).val ∧ win0_1.index t 2 = 1)
    ∧ (win0_2.index t 0 = (bt t.val).val ∧ win0_2.index t 1 = (pt t.val).val ∧ win0_2.index t 2 = 1)
    ∧ (win0_3.index t 0 = (bt t.val).val ∧ win0_3.index t 1 = (pt t.val).val ∧ win0_3.index t 2 = 2) :=
  (by decide +kernel : ∀ t : Fin grid0.N, (win0_0.index t 0 = (bt t.val).val ∧ win0_0.index t 1 = (pt t.val).val ∧ win0_0.index t 2 = 0)
    ∧ (win0_1.index t 0 = (bt t.val).val ∧ win0_1.index t 1 = (pt t.val).val ∧ win0_1.index t 2 = 1)
    ∧ (win0_2.index t 0 = (bt t.val).val ∧ win0_2.index t 1 = (pt t.val).val ∧ win0_2.index t 2 = 1)
    ∧ (win0_3.index t 0 = (bt t.val).val ∧ win0_3.index t 1 = (pt t.val).val ∧ win0_3.index t 2 = 2))

theorem idxX : ∀ t : Fin cfg0.N, (win0_4.index t 0 = (bt t.val).val ∧ win0_4.index t 1 = (pt t.val).val ∧ win0_4.index t 2 = 0)
    ∧ (win0_5.index t 0 = (bt t.val).val ∧ win0_5.index t 1 = (pt t.val).val ∧ win0_5.index t 2 = 0)
    ∧ (win0_8.index t 0 = (bt t.val).val ∧ win0_8.index t 1 = (pt t.val).val ∧ win0_8.index t 2 = 0)
    ∧ (win0_6.index t 0 = 0 ∧ win0_6.index t 1 = 0) ∧ (win0_7.index t 0 = 0 ∧ win0_7.index t 1 = 0) :=
  (by decide +kernel : ∀ t : Fin grid0.N, (win0_4.index t 0 = (bt t.val).val ∧ win0_4.index t 1 = (pt t.val).val ∧ win0_4.index t 2 = 0)
    ∧ (win0_5.index t 0 = (bt t.val).val ∧ win0_5.index t 1 = (pt t.val).val ∧ win0_5.index t 2 = 0)
    ∧ (win0_8.index t 0 = (bt t.val).val ∧ win0_8.index t 1 = (pt t.val).val ∧ win0_8.index t 2 = 0)
    ∧ (win0_6.index t 0 = 0 ∧ win0_6.index t 1 = 0) ∧ (win0_7.index t 0 = 0 ∧ win0_7.index t 1 = 0))

/-- The arguments at launch. -/
def aP (c : Dev nD) : Fin 16 → Fin 4096 → Fin 3072 → EReal := fun b t l => m ((c : Thread nD τ).loc main_arg0) (ix3 b t l)
def aG (c : Dev nD) : Fin 16 → Fin 4096 → Fin 512 → EReal := fun b t l => m ((c : Thread nD τ).loc main_arg1) (ix3 b t l)
def aX (c : Dev nD) : Fin 16 → Fin 4096 → Fin 1024 → EReal := fun b t l => m ((c : Thread nD τ).loc main_arg2) (ix3 b t l)
def aN (c : Dev nD) : Fin 256 → EReal := fun l => m ((c : Thread nD τ).loc main_arg3) (ix1 l)
def aO (c : Dev nD) : Fin 1024 → Fin 1024 → EReal := fun k e => m ((c : Thread nD τ).loc main_arg4) (ix2 k e)

theorem iblk0 (c : Dev nD) (t : Fin cfg0.N) (r : Fin 256) (l : Fin 512) :
    iblk m c 0 t (ix3 0 r l) = aP m c (bt t.val) (pos (pt t.val) r) ⟨l.val, by have := l.isLt; omega⟩ := by
  unfold iblk
  rw [View.read_apply]
  show V m c main_arg0 _ = m _ _
  rw [V_main_arg0]
  refine congrArg _ (funext fun a => Fin.ext ?_)
  have hi := (idxP t).1
  match a with
  | ⟨0, _⟩ => show win0_0.index t 0 * 1 + 1 * 0 = (bt t.val).val; rw [hi.1]; omega
  | ⟨1, _⟩ => show win0_0.index t 1 * 256 + 1 * r.val = 256 * (pt t.val).val + r.val; rw [hi.2.1]; omega
  | ⟨2, _⟩ => show win0_0.index t 2 * 512 + 1 * l.val = l.val; rw [hi.2.2]; omega

theorem iblk1 (c : Dev nD) (t : Fin cfg0.N) (r : Fin 256) (l : Fin 512) :
    iblk m c 1 t (ix3 0 r l) = aP m c (bt t.val) (pos (pt t.val) r) ⟨512 + l.val, by have := l.isLt; omega⟩ := by
  unfold iblk
  rw [View.read_apply]
  show V m c main_arg0 _ = m _ _
  rw [V_main_arg0]
  refine congrArg _ (funext fun a => Fin.ext ?_)
  have hi := (idxP t).2.1
  match a with
  | ⟨0, _⟩ => show win0_1.index t 0 * 1 + 1 * 0 = (bt t.val).val; rw [hi.1]; omega
  | ⟨1, _⟩ => show win0_1.index t 1 * 256 + 1 * r.val = 256 * (pt t.val).val + r.val; rw [hi.2.1]; omega
  | ⟨2, _⟩ => show win0_1.index t 2 * 512 + 1 * l.val = 512 + l.val; rw [hi.2.2]; omega

theorem iblk2 (c : Dev nD) (t : Fin cfg0.N) (r : Fin 256) (l : Fin 1024) :
    iblk m c 2 t (ix3 0 r l) = aP m c (bt t.val) (pos (pt t.val) r) ⟨1024 + l.val, by have := l.isLt; omega⟩ := by
  unfold iblk
  rw [View.read_apply]
  show V m c main_arg0 _ = m _ _
  rw [V_main_arg0]
  refine congrArg _ (funext fun a => Fin.ext ?_)
  have hi := (idxP t).2.2.1
  match a with
  | ⟨0, _⟩ => show win0_2.index t 0 * 1 + 1 * 0 = (bt t.val).val; rw [hi.1]; omega
  | ⟨1, _⟩ => show win0_2.index t 1 * 256 + 1 * r.val = 256 * (pt t.val).val + r.val; rw [hi.2.1]; omega
  | ⟨2, _⟩ => show win0_2.index t 2 * 1024 + 1 * l.val = 1024 + l.val; rw [hi.2.2]; omega

theorem iblk3 (c : Dev nD) (t : Fin cfg0.N) (r : Fin 256) (l : Fin 1024) :
    iblk m c 3 t (ix3 0 r l) = aP m c (bt t.val) (pos (pt t.val) r) ⟨2048 + l.val, by have := l.isLt; omega⟩ := by
  unfold iblk
  rw [View.read_apply]
  show V m c main_arg0 _ = m _ _
  rw [V_main_arg0]
  refine congrArg _ (funext fun a => Fin.ext ?_)
  have hi := (idxP t).2.2.2
  match a with
  | ⟨0, _⟩ => show win0_3.index t 0 * 1 + 1 * 0 = (bt t.val).val; rw [hi.1]; omega
  | ⟨1, _⟩ => show win0_3.index t 1 * 256 + 1 * r.val = 256 * (pt t.val).val + r.val; rw [hi.2.1]; omega
  | ⟨2, _⟩ => show win0_3.index t 2 * 1024 + 1 * l.val = 2048 + l.val; rw [hi.2.2]; omega

theorem iblk4 (c : Dev nD) (t : Fin cfg0.N) (r : Fin 256) (l : Fin 512) :
    iblk m c 4 t (ix3 0 r l) = aG m c (bt t.val) (pos (pt t.val) r) l := by
  unfold iblk
  rw [View.read_apply]
  show V m c main_arg1 _ = m _ _
  rw [V_main_arg1]
  refine congrArg _ (funext fun a => Fin.ext ?_)
  have hi := (idxX t).1
  match a with
  | ⟨0, _⟩ => show win0_4.index t 0 * 1 + 1 * 0 = (bt t.val).val; rw [hi.1]; omega
  | ⟨1, _⟩ => show win0_4.index t 1 * 256 + 1 * r.val = 256 * (pt t.val).val + r.val; rw [hi.2.1]; omega
  | ⟨2, _⟩ => show win0_4.index t 2 * 512 + 1 * l.val = l.val; rw [hi.2.2]; omega

theorem iblk5 (c : Dev nD) (t : Fin cfg0.N) (r : Fin 256) (l : Fin 1024) :
    iblk m c 5 t (ix3 0 r l) = aX m c (bt t.val) (pos (pt t.val) r) l := by
  unfold iblk
  rw [View.read_apply]
  show V m c main_arg2 _ = m _ _
  rw [V_main_arg2]
  refine congrArg _ (funext fun a => Fin.ext ?_)
  have hi := (idxX t).2.1
  match a with
  | ⟨0, _⟩ => show win0_5.index t 0 * 1 + 1 * 0 = (bt t.val).val; rw [hi.1]; omega
  | ⟨1, _⟩ => show win0_5.index t 1 * 256 + 1 * r.val = 256 * (pt t.val).val + r.val; rw [hi.2.1]; omega
  | ⟨2, _⟩ => show win0_5.index t 2 * 1024 + 1 * l.val = l.val; rw [hi.2.2]; omega

theorem iblk6 (c : Dev nD) (t : Fin cfg0.N) (k : Fin 256) : iblk m c 6 t (ix2 0 k) = aN m c k := by
  unfold iblk
  rw [View.read_apply]
  have e : ((cfg0.win 6).blk t).view.emb (ix2 0 k) = ix2 0 k := funext fun a => Fin.ext (by
    match a with
    | ⟨0, _⟩ => show win0_6.index t 0 * 1 + 1 * 0 = 0; rw [(idxX t).2.2.2.1.1]
    | ⟨1, _⟩ => show win0_6.index t 1 * 256 + 1 * k.val = k.val; rw [(idxX t).2.2.2.1.2]; omega)
  show V m c main_v0 _ = _
  rw [e]
  entry_read
  show shapeCast S1x256 (m ((c : Thread nD τ).loc main_arg3)) shapeCasts_S256_S1x256 (ix2 0 k) = _
  pointwise
  rfl

theorem iblk7 (c : Dev nD) (t : Fin cfg0.N) (k e' : Fin 1024) : iblk m c 7 t (ix2 k e') = aO m c k e' := by
  unfold iblk
  rw [View.read_apply]
  have e : ((cfg0.win 7).blk t).view.emb (ix2 k e') = ix2 k e' := funext fun a => Fin.ext (by
    match a with
    | ⟨0, _⟩ => show win0_7.index t 0 * 1024 + 1 * k.val = k.val; rw [(idxX t).2.2.2.2.1]; omega
    | ⟨1, _⟩ => show win0_7.index t 1 * 1024 + 1 * e'.val = e'.val; rw [(idxX t).2.2.2.2.2]; omega)
  show V m c main_v1 _ = _
  rw [e]
  entry_read
  rfl

theorem zeroSt_eq (h : Fin 4) (u : Fin 256) (d : Fin 128) : zeroSt (ix3 h u d) = (0 : EReal) := by
  pointwise [zeroSt, k0_pay2]

section
variable (c : Dev nD) (hg : ∀ b t l, aG m c b t l ≠ ⊤)

/-- The state a sequence has before a block. -/
def before (n : ℕ) (h : Fin 4) : Mat 128 256 := run (Ks (aP m c) (bt n) h) (Gs (aG m c) (bt n) h) (Vs (aP m c) (bt n) h) (4 * (pt n).val)

include hg in
/-- After each point the scratch holds the states of its sequence. -/
theorem scratch_eq : ∀ (n : ℕ) (hn : n < cfg0.N) (h : Fin 4) (u : Fin 256) (d : Fin 128), (outsAt0 m c n hn).2 (ix3 h u d)
    = run (Ks (aP m c) (bt n) h) (Gs (aG m c) (bt n) h) (Vs (aP m c) (bt n) h) (4 * (pt n).val + 4) d u := by
  intro n
  induction n with
  | zero =>
    intro hn h u d
    have e := outsAt0_A m c ⟨0, hn⟩ (Nat.zero_mod _)
    rw [show outsAt0 m c 0 hn = _ from e]
    dsimp only
    rw [sout_A]
    refine blockSt_eq _ _ _ _ _ _ _ _ hg (iblk1 m c ⟨0, hn⟩) (iblk2 m c ⟨0, hn⟩) (iblk4 m c ⟨0, hn⟩) ?_ h u d
    intro h u d
    rw [zeroSt_eq]; rfl
  | succ n ih =>
    intro hn h u d
    by_cases h0 : (n + 1) % 16 = 0
    · have e := outsAt0_A m c ⟨n + 1, hn⟩ h0
      rw [show outsAt0 m c (n + 1) hn = _ from e]
      dsimp only
      rw [sout_A]
      refine blockSt_eq _ _ _ _ _ _ _ _ hg (iblk1 m c ⟨n + 1, hn⟩) (iblk2 m c ⟨n + 1, hn⟩) (iblk4 m c ⟨n + 1, hn⟩) ?_ h u d
      intro h u d
      have hp : (pt (n + 1)).val = 0 := h0
      rw [zeroSt_eq, hp]; rfl
    · have e := outsAt0_B m c ⟨n + 1, hn⟩ h0
      rw [show outsAt0 m c (n + 1) hn = _ from e]
      dsimp only
      rw [sout_B]
      refine blockSt_eq _ _ _ _ _ _ _ _ hg (iblk1 m c ⟨n + 1, hn⟩) (iblk2 m c ⟨n + 1, hn⟩) (iblk4 m c ⟨n + 1, hn⟩) ?_ h u d
      intro h u d
      refine (ih (Nat.lt_of_succ_lt hn) h u d).trans ?_
      have hb : bt (n + 1) = bt n := Fin.ext (by show (n + 1) / 16 % 16 = n / 16 % 16; omega)
      have hp : (pt (n + 1)).val = (pt n).val + 1 := by show (n + 1) % 16 = n % 16 + 1; omega
      show _ = run (Ks (aP m c) (bt (n + 1)) h) (Gs (aG m c) (bt (n + 1)) h) (Vs (aP m c) (bt (n + 1)) h) (4 * (pt (n + 1)).val) d u
      rw [hb, hp]; rfl

include hg in
/-- Each point writes its rows of the result. -/
theorem outs_eq (t : Fin cfg0.N) (r : Fin 256) (l : Fin 1024) :
    (outsAt0 m c t.val t.isLt).1 (ix3 0 r l) = res (aP m c) (aG m c) (aX m c) (aN m c) (aO m c) (bt t.val) (pos (pt t.val) r) l := by
  by_cases h0 : t.val % 16 = 0
  · rw [outsAt0_A m c t h0]
    dsimp only
    rw [out_A]
    refine blockOut_eq _ _ _ _ _ _ _ _ _ _ _ _ _ _ _ _ hg (iblk0 m c t) (iblk1 m c t) (iblk2 m c t) (iblk3 m c t) (iblk4 m c t) (iblk5 m c t) (iblk6 m c t) (iblk7 m c t) ?_ r l
    intro h u d
    have hp : (pt t.val).val = 0 := h0
    rw [zeroSt_eq, hp]; rfl
  · rw [outsAt0_B m c t h0]
    dsimp only
    rw [out_B]
    refine blockOut_eq _ _ _ _ _ _ _ _ _ _ _ _ _ _ _ _ hg (iblk0 m c t) (iblk1 m c t) (iblk2 m c t) (iblk3 m c t) (iblk4 m c t) (iblk5 m c t) (iblk6 m c t) (iblk7 m c t) ?_ r l
    intro h u d
    refine (scratch_eq m c hg (t.val - 1) _ h u d).trans ?_
    have hb : bt (t.val - 1) = bt t.val := Fin.ext (by show (t.val - 1) / 16 % 16 = t.val / 16 % 16; omega)
    have hp : 4 * (pt (t.val - 1)).val + 4 = 4 * (pt t.val).val := by show 4 * ((t.val - 1) % 16) + 4 = 4 * (t.val % 16); omega
    rw [hb, hp]

/-- The result array. -/
def G8 : Vec Ideal S16x4096x1024 .f32 := fun i => res (aP m c) (aG m c) (aX m c) (aN m c) (aO m c) (i 0) (i 1) (i 2)

include hg in
theorem flushed8 (t : Fin cfg0.N) (hf : (cfg0.win 8).flush t = true) :
    (dats m 0 c).flushed 8 t = ((cfg0.win 8).blk t).view.read (Elt Ideal) (G8 m c) := by
  have e : (dats m 0 c).flushed 8 t = (cfg0.win 8).cut (grid0.coords t) (outsAt0 m c t.val t.isLt).1 := by
    show (cfg0.win 8).cut (grid0.coords t) ((dats m 0 c).after 8 t) = _
    rw [after0_8]
  rw [e]
  funext j
  obtain ⟨z, r, l, rfl⟩ : ∃ (z : Fin 1) (r : Fin 256) (l : Fin 1024), j = ix3 z r l := ⟨j 0, j 1, j 2, ValueIdx.eq_ix3 j⟩
  obtain rfl : z = 0 := Subsingleton.elim _ _
  rw [View.read_apply]
  refine (outs_eq m c hg t r l).trans ?_
  have e3 : ((cfg0.win 8).blk t).view.emb (ix3 0 r l) = ix3 (bt t.val) (pos (pt t.val) r) l := funext fun a => Fin.ext (by
    have hi := (idxX t).2.2.1
    match a with
    | ⟨0, _⟩ => show win0_8.index t 0 * 1 + 1 * 0 = (bt t.val).val; rw [hi.1]; omega
    | ⟨1, _⟩ => show win0_8.index t 1 * 256 + 1 * r.val = 256 * (pt t.val).val + r.val; rw [hi.2.1]; omega
    | ⟨2, _⟩ => show win0_8.index t 2 * 1024 + 1 * l.val = l.val; rw [hi.2.2]; omega)
  rw [e3]
  rfl

include hg in
theorem final8 : (dats m 0 c).arrAt 8 cfg0.N = G8 m c :=
  (dats m 0 c).arrAt_eq_of_cover 8 _ (flushed8 m c hg) fun i => by
    have h0 : (i 0 : Nat) < 16 := (i 0).isLt
    have h1 : (i 1 : Nat) < 4096 := (i 1).isLt
    have h2 : (i 2 : Nat) < 1024 := (i 2).isLt
    refine ⟨⟨16 * (i 0 : Nat) + (i 1 : Nat) / 256, by rw [show cfg0.N = 256 from N_0]; omega⟩, flush0_8 _, ?_⟩
    generalize ht : (⟨16 * (i 0 : Nat) + (i 1 : Nat) / 256, _⟩ : Fin cfg0.N) = t
    have htv : t.val = 16 * (i 0 : Nat) + (i 1 : Nat) / 256 := by rw [← ht]
    have hb : (bt t.val).val = (i 0 : Nat) := by show t.val / 16 % 16 = _; omega
    have hp : (pt t.val).val = (i 1 : Nat) / 256 := by show t.val % 16 = _; omega
    show i ∈ ((View.whole main_v2).slice (win0_8.rect t)).set
    rw [View.set_slice_whole, Rect.mem_set_unit]
    have hi := (idxX t).2.2.1
    intro a
    match a with
    | ⟨0, _⟩ =>
      show win0_8.index t 0 * 1 ≤ (i 0 : Nat) ∧ (i 0 : Nat) < win0_8.index t 0 * 1 + 1
      rw [hi.1, hb]; omega
    | ⟨1, _⟩ =>
      show win0_8.index t 1 * 256 ≤ (i 1 : Nat) ∧ (i 1 : Nat) < win0_8.index t 1 * 256 + 256
      rw [hi.2.1, hp]; omega
    | ⟨2, _⟩ =>
      show win0_8.index t 2 * 1024 ≤ (i 2 : Nat) ∧ (i 2 : Nat) < win0_8.index t 2 * 1024 + 1024
      rw [hi.2.2]; omega

end

variable (ρ : Dev nD → PrngReg)

/-- The run with the result array named, the arguments unchanged. -/
theorem run_blocks : θ_run defs (onTc (τ := τ) (main (F := Ideal))) ⟨m, fun _ => 0, ρ⟩ fun r => ∀ c : Dev nD,
      r.2.mem ((c : Thread nD τ).loc main_v2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 8,
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.GlaMixIdeal.Rows
-- ==== Proof.GlaMixValue.lean ====
module

public import proofs.«01_k».proof.Proof.GlaRefValue
public import proofs.«01_k».proof.Proof.GlaMixRun
public import Idealize.ShloMosaic.Lib.Claim

/-! The gated linear attention: where no log decay is `⊤`, the kernel and the reference leave the same result. -/

@[expose] public section

noncomputable section

namespace Cert.GlaRefIdeal.Rows

open Cert.GlaRefIdeal Cert.GlaRefIdeal.Gen Cert.GlaRefIdeal.Value Cert.GlaRefIdeal.Fold
open Idealize.ShloMosaic Idealize.ShloMosaic.TcCoe Idealize.ShloMosaic.StableHlo Idealize.SL.Sem Cert.Proof.Gla

/-- The reference's result array. -/
def outR (m : (ℓ : Loc nD τ sig) → Buf (Elt Ideal) ℓ) (c : Dev nD) : FVec Ideal S16x4096x1024 .f32 :=
  resR (attR (mP m c) (mG m c)) (m ((c.tc : Thread nD τ).loc main_arg3)) (r3 (mP m c)) (m ((c.tc : Thread nD τ).loc main_arg2)) (m ((c.tc : Thread nD τ).loc main_arg4))

/-- It is the specification's. -/
theorem outR_eq (m : (ℓ : Loc nD τ sig) → Buf (Elt Ideal) ℓ) (c : Dev nD) (p : FVec Ideal S16x4096x3072 .bf16) (gk : FVec Ideal S16x4096x512 .f32)
    (x : FVec Ideal S16x4096x1024 .f32) (wn : FVec Ideal S256 .f32) (wo : FVec Ideal S1024x1024 .f32)
    (h0 : m ((c.tc : Thread nD τ).loc main_arg0) = p) (h1 : m ((c.tc : Thread nD τ).loc main_arg1) = gk) (h2 : m ((c.tc : Thread nD τ).loc main_arg2) = x)
    (h3 : m ((c.tc : Thread nD τ).loc main_arg3) = wn) (h4 : m ((c.tc : Thread nD τ).loc main_arg4) = wo) :
    outR m c = fun i => res (fP p) (fG gk) (fun b t l => x (ix3 b t l)) (fun v => wn (ix1 v)) (fun k e => wo (ix2 k e)) (i 0) (i 1) (i 2) := by
  subst h0 h1 h2 h3 h4
  funext i
  obtain ⟨b, t, e, rfl⟩ : ∃ (b : Fin 16) (t : Fin 4096) (e : Fin 1024), i = ix3 b t e := ⟨i 0, i 1, i 2, by
    funext a
    match a with
    | ⟨0, _⟩ => rfl
    | ⟨1, _⟩ => rfl
    | ⟨2, _⟩ => rfl⟩
  exact resR_spec _ _ _ _ _ b t e

/-- The reference's run: its result and its arguments. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v60) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_v60 rfl).trans (final_eq m c),
      (h c main_arg0 rfl).trans (arg_keep m c main_arg0 (by decide +kernel)),
      (h c main_arg1 rfl).trans (arg_keep m c main_arg1 (by decide +kernel)),
      (h c main_arg2 rfl).trans (arg_keep m c main_arg2 (by decide +kernel)),
      (h c main_arg3 rfl).trans (arg_keep m c main_arg3 (by decide +kernel)),
      (h c main_arg4 rfl).trans (arg_keep m c main_arg4 (by decide +kernel))⟩) (run_fold m g)

end Cert.GlaRefIdeal.Rows

namespace Cert.Proof
open Idealize.ShloMosaic Idealize.ShloMosaic.TcCoe Idealize.SL.Sem Cert.Proof.Gla

/-- The precondition says that no log decay is `⊤`. -/
theorem decay_ne_top [hPre_gates_below_inf : Cert.Pre_gates_below_inf.Facts] (p : FVec Ideal ⟨3, ![16, 4096, 3072]⟩ .bf16) (gk : FVec Ideal ⟨3, ![16, 4096, 512]⟩ .f32)
    (x : FVec Ideal ⟨3, ![16, 4096, 1024]⟩ .f32) (wn : FVec Ideal ⟨1, ![256]⟩ .f32) (wo : FVec Ideal ⟨2, ![1024, 1024]⟩ .f32)
    (h : Cert.Pre_gates_below_inf.fn (F := Ideal) p gk x wn wo = fun _ => 1#1) (b : Fin 16) (t : Fin 4096) (l : Fin 512) : gk (ix3 b t l) ≠ (⊤ : EReal) := by
  have e := congrFun h (ix3 b t l)
  intro ht
  have e' : Cert.Pre_gates_below_inf.fn (F := Ideal) p gk x wn wo (ix3 b t l) = BitVec.ofBool (decide ((gk (ix3 b t l) : EReal) < Ideal.ofBits FTy.f32 0x7F800000#32)) := by
    pointwise [Cert.Pre_gates_below_inf.fn]
  rw [e', ht, decide_eq_false (not_lt.2 le_top)] at e
  exact absurd e (by decide)

theorem gla_mix_algebraic [hGlaMixIdeal : Cert.GlaMixIdeal.Facts] [hGlaRefIdeal : Cert.GlaRefIdeal.Facts] [hPre_gates_below_inf : Cert.Pre_gates_below_inf.Facts] :
    Cert.algebraic_GlaMixIdeal_GlaRefIdeal_pre_gates_below_inf := by
  pair_intro
  · run_from Cert.GlaMixIdeal.Rows.run_blocks m g
  · run_from Cert.GlaRefIdeal.Rows.run_value m' g'
    refine Eq.trans ?_ (Cert.GlaMixIdeal.Rows.final8 m c fun b t l => decay_ne_top _ _ _ _ _ (hpre c) b t l).symm
    obtain ⟨h0, h1, h2, h3, h4⟩ := hagree c
    exact Cert.GlaRefIdeal.Rows.outR_eq m' c _ _ _ _ _ h0 h1 h2 h3 h4

end Cert.Proof

end
-- ==== Proof.GlaProjValue.lean ====
module

public import proofs.«01_k».proof.Defs
public import proofs.«01_k».proof.Proof.Gen.GlaProjIdeal.Frame
public import proofs.«01_k».proof.Proof.Gen.GlaProjRefIdeal.Run
public import Idealize.ShloMosaic.Lib.Pipeline.Value
public import Idealize.ShloMosaic.Lib.Pointwise
public import Idealize.ShloMosaic.Lib.Claim
public import Idealize.ShloMosaic.Lib.KernelVsHost

/-! The input projection of the gated linear attention: a row of the first result is the normalised row times the first 3072
columns of the weight; a row of the second is the log-sigmoid of a product of the last 16 columns' numbers with the gate's weight,
divided by 16. The kernel spreads the 16 columns over 128 lanes with zeros behind them, and multiplies them in two parts. -/

@[expose] public section

noncomputable section

namespace Cert.GlaProjRefIdeal.Rows

open Cert.GlaProjRefIdeal Cert.GlaProjRefIdeal.Gen Idealize.ShloMosaic Idealize.ShloMosaic.TcCoe Idealize.SL.Sem

/-- The reference's normalised rows. -/
def rms (x : FVec Ideal S65536x1024 .f32) (w : FVec Ideal S1024 .f32) : FVec Ideal S65536x1024 .f32 :=
  (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 w)))

/-- The reference's product with the whole weight. -/
def up (x : FVec Ideal S65536x1024 .f32) (w : FVec Ideal S1024 .f32) (win : FVec Ideal S1024x3088 .f32) : FVec Ideal S65536x3088 .f32 :=
  (Host.dotGeneral dot_S65536x1024_S1024x3088_S65536x3088_1_0_0_1_n_n none (rms x w) win)

/-- The reference's first result. -/
def refP (x : FVec Ideal S65536x1024 .f32) (w : FVec Ideal S1024 .f32) (win : FVec Ideal S1024x3088 .f32) : FVec Ideal S65536x3072 .bf16 :=
  truncf .bf16 (extractStridedSlice S65536x3072 ![0, 0] (up x w win) slices_S65536x3088_S65536x3072_0_0) bitsLt_bf16_f32

/-- What the reference takes the log-sigmoid of. -/
def lin (x : FVec Ideal S65536x1024 .f32) (w : FVec Ideal S1024 .f32) (win : FVec Ideal S1024x3088 .f32) (wg : FVec Ideal S16x512 .f32) (bg : FVec Ideal S512 .f32) :
    FVec Ideal S65536x512 .f32 :=
  addf (Host.dotGeneral dot_S65536x16_S16x512_S65536x512_1_0_0_1_n_n none (extractStridedSlice S65536x16 ![0, 3072] (up x w win) slices_S65536x3088_S65536x16_0_3072) wg)
    (broadcastInDim S65536x512 ![0, 1] bcast_S1x512_S65536x512_0_1 (broadcastInDim S1x512 ![1] bcast_S512_S1x512_1 bg))

/-- The reference's log-sigmoid over 16. -/
def lsig (L : FVec Ideal S65536x512 .f32) : FVec Ideal S65536x512 .f32 :=
  Host.divf (Host.negf (select
      (cmpf .une (subf (Host.negf L) (broadcastInDim S65536x512 ![] bcast_S_S65536x512 (constant S_ .f32 0x00000000#32))) (subf (Host.negf L) (broadcastInDim S65536x512 ![] bcast_S_S65536x512 (constant S_ .f32 0x00000000#32))))
      (addf (Host.negf L) (broadcastInDim S65536x512 ![] bcast_S_S65536x512 (constant S_ .f32 0x00000000#32)))
      (addf (maximumf (Host.negf L) (broadcastInDim S65536x512 ![] bcast_S_S65536x512 (constant S_ .f32 0x00000000#32)))
        (Host.log1p (Host.exp (Host.negf (Host.absf (subf (Host.negf L) (broadcastInDim S65536x512 ![] bcast_S_S65536x512 (constant S_ .f32 0x00000000#32))))))))))
    (broadcastInDim S65536x512 ![] bcast_S_S65536x512 (constant S_ .f32 0x41800000#32))

/-- The reference's second result. -/
def refG (x : FVec Ideal S65536x1024 .f32) (w : FVec Ideal S1024 .f32) (win : FVec Ideal S1024x3088 .f32) (wg : FVec Ideal S16x512 .f32) (bg : FVec Ideal S512 .f32) :
    FVec Ideal S65536x512 .f32 := lsig (lin x w win wg bg)

variable (m : (ℓ : Loc nD τ sig) → Buf (Elt Ideal) ℓ)

/-- The second result of the reference's run, from the arguments. -/
theorem outG_eq (c : Dev nD) (x : FVec Ideal S65536x1024 .f32) (w : FVec Ideal S1024 .f32) (win : FVec Ideal S1024x3088 .f32)
    (wg : FVec Ideal S16x512 .f32) (bg : FVec Ideal S512 .f32)
    (h0 : m ((c : Thread nD τ).loc main_arg0) = x) (h1 : m ((c : Thread nD τ).loc main_arg1) = w) (h2 : m ((c : Thread nD τ).loc main_arg2) = win)
    (h3 : m ((c : Thread nD τ).loc main_arg3) = wg) (h4 : m ((c : Thread nD τ).loc main_arg4) = bg) :
    Value.res_main_v23 m c = refG x w win wg bg := by
  subst h0 h1 h2 h3 h4; rfl

end Cert.GlaProjRefIdeal.Rows

namespace Cert.GlaProjIdeal.Rows

open Cert.GlaProjIdeal Cert.GlaProjIdeal.Gen Idealize.ShloMosaic Idealize.ShloMosaic.TcCoe Idealize.SL.Sem
open Idealize.ShloMosaic.Pipeline (Dat)
open Cert.GlaProjRefIdeal.Rows (refP refG up rms lin lsig)

/-- The columns of the weight that the kernel's call takes for the first result. -/
def wP (W : FVec Ideal S1024x3088 .f32) : FVec Ideal S1024x3072 .bf16 :=
  truncf .bf16 (extractStridedSlice S1024x3072 ![0, 0] W slices_S1024x3088_S1024x3072_0_0) bitsLt_bf16_f32

/-- The columns of the weight that the kernel's call takes for the gate. -/
def wZ (W : FVec Ideal S1024x3088 .f32) : FVec Ideal S1024x128 .bf16 :=
  truncf .bf16 (pad S1024x128 ![0, 0] ![0, 112] ![0, 0] (extractStridedSlice S1024x16 ![0, 3072] W slices_S1024x3088_S1024x16_0_3072) (sitofp .f32 (constantI S_ 32 0#32) : FVec Ideal S_ .f32) pads_S1024x16_S1024x128_000_01120 h_S_) bitsLt_bf16_f32

/-- The gate's weight as the kernel's call takes it. -/
def wGk (G : FVec Ideal S16x512 .f32) : FVec Ideal S128x512 .bf16 :=
  truncf .bf16 (pad S128x512 ![0, 0] ![112, 0] ![0, 0] G (sitofp .f32 (constantI S_ 32 0#32) : FVec Ideal S_ .f32) pads_S16x512_S128x512_01120_000 h_S_) bitsLt_bf16_f32

theorem sitofp_zero' : (FloatOps.sitofp FTy.f32 0#32 : Ideal .f32) = 0 := sitofp_zero

/-- A row of a block and the row of the array that it holds give the same numbers: the first result. -/
theorem payP_eq_ref (x : Vec Ideal S512x1024 .f32) (w : Vec Ideal S1x1024 .f32) (win : Vec Ideal S1024x3072 .bf16)
    (X : FVec Ideal S65536x1024 .f32) (W : FVec Ideal S1024 .f32) (Win : FVec Ideal S1024x3088 .f32) (r : Fin 512) (R : Fin 65536) (l : Fin 3072)
    (hx : ∀ k : Fin 1024, x (ix2 r k) = X (ix2 R k)) (hw : ∀ k : Fin 1024, w (ix2 0 k) = W (ix1 k))
    (hin : win = wP Win) :
    k0_pay3 x w win (ix2 r l) = refP X W Win (ix2 R l) := by
  subst hin
  pointwise [k0_pay2, k0_pay3, refP, up, rms, wP]
  simp only [hx, hw]

theorem wZ_apply (Win : FVec Ideal S1024x3088 .f32) (k : Fin 1024) (l : Fin 128) :
    wZ Win (ix2 k l) = if h : l.val < 16 then Win (ix2 k ⟨3072 + l.val, by omega⟩) else (0 : EReal) := by
  pointwise [wZ]
  rw [sitofp_zero']

theorem wGk_apply (G : FVec Ideal S16x512 .f32) (k : Fin 128) (l : Fin 512) :
    wGk G (ix2 k l) = if h : k.val < 16 then G (ix2 ⟨k.val, h⟩ l) else (0 : EReal) := by
  pointwise [wGk]
  rw [sitofp_zero']

theorem up_apply (X : FVec Ideal S65536x1024 .f32) (W : FVec Ideal S1024 .f32) (Win : FVec Ideal S1024x3088 .f32) (R : Fin 65536) (l : Fin 3088) :
    up X W Win (ix2 R l) = (∑ k : Fin 1024, (rms X W (ix2 R k) : EReal) * Win (ix2 k l) : EReal) := by
  pointwise [up]

theorem pay2_apply (x : Vec Ideal S512x1024 .f32) (w : Vec Ideal S1x1024 .f32)
    (X : FVec Ideal S65536x1024 .f32) (W : FVec Ideal S1024 .f32) (r : Fin 512) (R : Fin 65536) (l : Fin 1024)
    (hx : ∀ k : Fin 1024, x (ix2 r k) = X (ix2 R k)) (hw : ∀ k : Fin 1024, w (ix2 0 k) = W (ix1 k)) :
    k0_pay2 x w (ix2 r l) = rms X W (ix2 R l) := by
  pointwise [k0_pay2, rms]
  simp only [hx, hw]

theorem rms_apply (X : FVec Ideal S65536x1024 .f32) (W : FVec Ideal S1024 .f32) (R : Fin 65536) (l : Fin 1024) :
    rms X W (ix2 R l) = (X (ix2 R l) * Ideal.rsqrt (Ideal.div (∑ x : Fin 1024, (X (ix2 R x) : EReal) * X (ix2 R x)) (Ideal.ofBits FTy.f32 1149239296#32) + Ideal.ofBits FTy.f32 897988541#32) * W (ix1 l) : EReal) := by
  pointwise [rms]

theorem pay4_apply (x : Vec Ideal S512x1024 .f32) (w : Vec Ideal S1x1024 .f32) (wz : Vec Ideal S1024x128 .bf16) (wg : Vec Ideal S128x512 .bf16) (r l : Fin 512) :
    k0_pay4 x w wz wg wg (ix2 r l) =
      (∑ k : Fin 128, (∑ i : Fin 1024, (k0_pay2 x w (ix2 r i) : EReal) * wz (ix2 i k)) * wg (ix2 k l) +
      ∑ k : Fin 128, ((∑ i : Fin 1024, (k0_pay2 x w (ix2 r i) : EReal) * wz (ix2 i k)) - ∑ i : Fin 1024, (k0_pay2 x w (ix2 r i) : EReal) * wz (ix2 i k)) * wg (ix2 k l) : EReal) := by
  pointwise [k0_pay4]

theorem pay1_apply (v : FVec Ideal S512x512 .f32) (bg : Vec Ideal S1x512 .f32) (r l : Fin 512) :
    k0_pay1 v bg (ix2 r l) = Ideal.div
      (min ((v (ix2 r l) : EReal) + bg (ix2 0 l)) 0 - Ideal.log (1 + Ideal.exp (0 - FloatOps.absf (F := Ideal) (φ := .f32) (v (ix2 r l) + bg (ix2 0 l)))))
      (Ideal.ofBits FTy.f32 1098907648#32) := by
  pointwise [k0_pay1]

theorem lin_apply (X : FVec Ideal S65536x1024 .f32) (W : FVec Ideal S1024 .f32) (Win : FVec Ideal S1024x3088 .f32) (G : FVec Ideal S16x512 .f32) (bg : FVec Ideal S512 .f32)
    (R : Fin 65536) (l : Fin 512) : lin X W Win G bg (ix2 R l) =
      (∑ k : Fin 16, (up X W Win (ix2 R ⟨3072 + k.val, by omega⟩) : EReal) * G (ix2 k l) + bg (ix1 l) : EReal) := by
  pointwise [lin]

theorem lsig_apply (L : FVec Ideal S65536x512 .f32) (R : Fin 65536) (l : Fin 512) : lsig L (ix2 R l) =
    Ideal.div
      (-(max (-(L (ix2 R l) : EReal)) 0 + Ideal.log1p (Ideal.exp (-FloatOps.absf (F := Ideal) (φ := .f32) (-(L (ix2 R l)) : EReal)))))
      (Ideal.ofBits FTy.f32 1098907648#32) := by
  pointwise [lsig]
  exact congrArg (fun t : EReal => Ideal.div (-t) _) (if_neg (fun h => h rfl))

/-! ### Finite numbers -/

/-- A number that is neither infinity. -/
def Fin' (x : EReal) : Prop := ∃ r : ℝ, x = (r : EReal)

theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {n : ℕ} {f : Fin n → EReal} (h : ∀ i, Fin' (f i)) : Fin' (∑ i, f i) :=
  Finset.sum_induction f Fin' (fun _ _ => Fin'.add) Fin'.zero (fun i _ => h i)
theorem Fin'.sub_self {x : EReal} (hx : Fin' x) : x - x = 0 := by
  obtain ⟨a, rfl⟩ := hx; rw [← EReal.coe_sub, _root_.sub_self]; rfl

/-- The root of a positive number is finite. -/
theorem Fin'.rsqrt {x : EReal} {r : ℝ} (hr : 0 < r) (hx : x = (r : EReal)) : Fin' (Ideal.rsqrt x) := by
  subst hx
  refine ⟨(√r)⁻¹, ?_⟩
  show (if r < 0 then (⊥ : EReal) else if r = 0 then ⊤ else ((√r)⁻¹ : ℝ)) = _
  rw [if_neg (not_lt.2 hr.le), if_neg hr.ne']

theorem bits_n : Ideal.ofBits FTy.f32 1149239296#32 = ((1024 : ℝ) : EReal) := by
  simp [Ideal.ofBits, Ideal.ieee]
  rw [← EReal.coe_mul]; norm_num
theorem bits_eps : ∃ e : ℝ, 0 < e ∧ Ideal.ofBits FTy.f32 897988541#32 = (e : EReal) := by
  refine ⟨_, ?_, by simp [Ideal.ofBits, Ideal.ieee]; rfl⟩
  positivity

/-- A sum of squares of finite numbers is a finite number that is not negative. -/
theorem sumsq {n : ℕ} {f : Fin n → EReal} (h : ∀ i, Fin' (f i)) : ∃ r : ℝ, 0 ≤ r ∧ ∑ i, f i * f i = (r : EReal) := by
  refine Finset.sum_induction (fun i => f i * f i) (fun x => ∃ r : ℝ, 0 ≤ r ∧ x = (r : EReal)) ?_ ⟨0, le_rfl, rfl⟩ ?_
  · rintro _ _ ⟨a, ha, rfl⟩ ⟨b, hb, rfl⟩; exact ⟨a + b, add_nonneg ha hb, (EReal.coe_add a b).symm⟩
  · intro i _
    obtain ⟨a, ha⟩ := h i
    exact ⟨a * a, mul_self_nonneg a, by rw [ha, EReal.coe_mul]⟩

/-- The factor of a row is finite. -/
theorem factor_fin {n : ℕ} {f : Fin n → EReal} (h : ∀ i, Fin' (f i)) :
    Fin' (Ideal.rsqrt (Ideal.div (∑ i, f i * f i) (Ideal.ofBits FTy.f32 1149239296#32) + Ideal.ofBits FTy.f32 897988541#32)) := by
  obtain ⟨r, hr, e⟩ := sumsq h
  obtain ⟨ε, hε, e'⟩ := bits_eps
  refine Fin'.rsqrt (r := r * (1024 : ℝ)⁻¹ + ε) (by positivity) ?_
  rw [e, e', bits_n, EReal.coe_add, EReal.coe_mul, EReal.coe_inv]
  congr 1
  exact if_neg (by norm_num)

theorem rms_fin (X : FVec Ideal S65536x1024 .f32) (W : FVec Ideal S1024 .f32) (R : Fin 65536) (l : Fin 1024)
    (hX : ∀ k : Fin 1024, Fin' (X (ix2 R k))) (hW : ∀ k : Fin 1024, Fin' (W (ix1 k))) : Fin' (rms X W (ix2 R l)) := by
  rw [rms_apply]
  exact Fin'.mul (Fin'.mul (hX l) (factor_fin hX)) (hW l)

theorem up_fin (X : FVec Ideal S65536x1024 .f32) (W : FVec Ideal S1024 .f32) (Win : FVec Ideal S1024x3088 .f32) (R : Fin 65536) (l : Fin 3088)
    (hX : ∀ k : Fin 1024, Fin' (X (ix2 R k))) (hW : ∀ k : Fin 1024, Fin' (W (ix1 k))) (hI : ∀ k : Fin 1024, Fin' (Win (ix2 k l))) :
    Fin' (up X W Win (ix2 R l)) := by
  rw [up_apply]
  exact Fin'.sum fun k => Fin'.mul (rms_fin X W R k hX hW) (hI k)

/-! ### The log-sigmoid -/

theorem absf_eq (x : EReal) : (FloatOps.absf (F := Ideal) (φ := .f32) x : EReal) = max x (-x) := rfl

/-- Two spellings of the log-sigmoid agree. -/
theorem logsig (L : EReal) :
    min L 0 - Ideal.log (1 + Ideal.exp (0 - FloatOps.absf (F := Ideal) (φ := .f32) L)) =
      -(max (-L) 0 + Ideal.log1p (Ideal.exp (-FloatOps.absf (F := Ideal) (φ := .f32) (-L)))) := by
  have e1 : Ideal.log (1 + Ideal.exp (0 - FloatOps.absf (F := Ideal) (φ := .f32) L)) = Ideal.log1p (Ideal.exp (-FloatOps.absf (F := Ideal) (φ := .f32) (-L))) := by
    rw [absf_eq, absf_eq, neg_neg, max_comm, zero_sub]; rfl
  have e2 : min L 0 = -max (-L) 0 := by
    rcases le_total L 0 with h | h
    · rw [min_eq_left h, max_eq_left (EReal.neg_nonneg.2 h), neg_neg]
    · rw [min_eq_right h, max_eq_right (by simpa using EReal.neg_le_neg_iff.2 h), neg_zero]
  have hb : max (-L) 0 ≠ ⊥ := (lt_of_lt_of_le EReal.bot_lt_zero (le_max_right _ _)).ne'
  rw [e1, e2]
  by_cases ht : max (-L) 0 = ⊤
  · have hL : L = ⊥ := by
      rcases max_choice (-L) 0 with h | h
      · rw [h] at ht; exact EReal.neg_eq_top_iff.1 ht
      · rw [h] at ht; exact absurd ht (by simp)
    subst hL
    have e3 : Ideal.log1p (Ideal.exp (-FloatOps.absf (F := Ideal) (φ := .f32) (-(⊥ : EReal)))) = 0 := by
      rw [absf_eq, neg_neg]
      show Ideal.log (1 + Ideal.exp (-(max (-(⊥ : EReal)) ⊥))) = 0
      rw [EReal.neg_bot, max_eq_left bot_le, EReal.neg_top]
      show Ideal.log (1 + 0) = 0
      rw [add_zero]
      show (if (1 : ℝ) ≤ 0 then (⊥ : EReal) else (Real.log 1 : ℝ)) = 0
      rw [if_neg (by norm_num), Real.log_one]; rfl
    rw [e3, add_zero, sub_zero]
  · rw [EReal.neg_add (Or.inl hb) (Or.inl ht)]

/-- Of 128 terms of which only the first 16 are not zero the first 16 remain. -/
theorem sum_pad (f : Fin 128 → EReal) (g : Fin 16 → EReal) (h0 : ∀ k : Fin 128, ¬ k.val < 16 → f k = 0)
    (h1 : ∀ k : Fin 16, f ⟨k.val, by omega⟩ = g k) : ∑ k, f k = ∑ k, g k := by
  rw [show (∑ k, f k) = ∑ k : Fin (16 + 112), f k from rfl, Fin.sum_univ_add]
  have e : ∑ k : Fin 112, f (Fin.natAdd 16 k) = 0 :=
    Finset.sum_eq_zero fun k _ => h0 _ (by simp [Fin.natAdd])
  refine (congrArg (fun t : EReal => _ + t) e).trans ((add_zero _).trans ?_)
  exact Finset.sum_congr rfl fun k _ => h1 k

/-- A row of a block and the row of the array that it holds give the same numbers: the second result. -/
theorem payG_eq_ref (x : Vec Ideal S512x1024 .f32) (w : Vec Ideal S1x1024 .f32) (wz : Vec Ideal S1024x128 .bf16) (wg : Vec Ideal S128x512 .bf16) (b : Vec Ideal S1x512 .f32)
    (X : FVec Ideal S65536x1024 .f32) (W : FVec Ideal S1024 .f32) (Win : FVec Ideal S1024x3088 .f32) (G : FVec Ideal S16x512 .f32) (bg : FVec Ideal S512 .f32) (r : Fin 512) (R : Fin 65536) (l : Fin 512)
    (hx : ∀ k : Fin 1024, x (ix2 r k) = X (ix2 R k)) (hw : ∀ k : Fin 1024, w (ix2 0 k) = W (ix1 k))
    (hz : wz = wZ Win) (hg : wg = wGk G) (hb : ∀ l : Fin 512, b (ix2 0 l) = bg (ix1 l))
    (hX : ∀ k : Fin 1024, Fin' (X (ix2 R k))) (hW : ∀ k : Fin 1024, Fin' (W (ix1 k))) (hI : ∀ (k : Fin 1024) (l : Fin 16), Fin' (Win (ix2 k ⟨3072 + l.val, by omega⟩))) :
    k0_pay1 (k0_pay4 x w wz wg wg) b (ix2 r l) = refG X W Win G bg (ix2 R l) := by
  subst hz hg
  have ez : ∀ k : Fin 128, (∑ i : Fin 1024, (k0_pay2 x w (ix2 r i) : EReal) * wZ Win (ix2 i k)) =
      if h : k.val < 16 then (up X W Win (ix2 R ⟨3072 + k.val, by omega⟩) : EReal) else 0 := by
    intro k
    split_ifs with h
    · rw [up_apply]
      refine Finset.sum_congr rfl fun i _ => ?_
      rw [pay2_apply x w X W r R i hx hw, wZ_apply, dif_pos h]
    · refine Finset.sum_eq_zero fun i _ => ?_
      rw [wZ_apply, dif_neg h]; exact mul_zero _
  have e4 : k0_pay4 x w (wZ Win) (wGk G) (wGk G) (ix2 r l) = (∑ k : Fin 16, (up X W Win (ix2 R ⟨3072 + k.val, by omega⟩) : EReal) * G (ix2 k l) : EReal) := by
    rw [pay4_apply]
    simp only [ez]
    have e2 : ∑ k : Fin 128, ((if h : k.val < 16 then (up X W Win (ix2 R ⟨3072 + k.val, by omega⟩) : EReal) else 0) - (if h : k.val < 16 then (up X W Win (ix2 R ⟨3072 + k.val, by omega⟩) : EReal) else 0)) * (wGk G (ix2 k l) : EReal) = 0 := by
      refine Finset.sum_eq_zero fun k _ => ?_
      rw [Fin'.sub_self]
      · exact zero_mul _
      · split_ifs
        · next h => exact up_fin X W Win R _ hX hW fun i => hI i ⟨k.val, h⟩
        · exact Fin'.zero
    refine (congrArg (fun t : EReal => _ + t) e2).trans ((add_zero _).trans ?_)
    refine sum_pad _ _ (fun k h => ?_) (fun k => ?_)
    · rw [dif_neg h]; exact zero_mul _
    · rw [dif_pos k.isLt, wGk_apply, dif_pos k.isLt]
  have eL : (k0_pay4 x w (wZ Win) (wGk G) (wGk G) (ix2 r l) : EReal) + b (ix2 0 l) = lin X W Win G bg (ix2 R l) := by
    rw [e4, hb l, lin_apply]
  rw [pay1_apply, refG, lsig_apply]
  refine congrArg (fun t : EReal => Ideal.div t _) ?_
  exact (congrArg (fun L : EReal => min L 0 - Ideal.log (1 + Ideal.exp (0 - FloatOps.absf (F := Ideal) (φ := .f32) L))) eL).trans (logsig _)

/-- The precondition's test of one number says that it is finite. -/
theorem fin_of_test {x : EReal} (h : BitVec.ofBool (decide (max x (-x) < Ideal.ofBits FTy.f32 0x7F800000#32)) = 1#1) : Fin' x := by
  have htop : Ideal.ofBits .f32 0x7F800000#32 = ⊤ := by simp [Ideal.ofBits, Ideal.ieee]
  rw [htop] at h
  have h' : max x (-x) < ⊤ := by
    by_contra hn
    rw [decide_eq_false hn] at h
    exact absurd h (by decide)
  induction x with
  | bot => simp at h'
  | top => simp at h'
  | coe a => exact ⟨a, rfl⟩

variable (m : (ℓ : Loc nD τ sig) → Buf (Elt Ideal) ℓ)

/-- The run with the result arrays named, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v9_0) = (dats m 0 c).arrAt 6 cfg0.N
      ∧ r.2.mem ((c : Thread nD τ).loc main_v9_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

theorem hz : (![0, 0] : Fin 2 → Nat) = fun _ => 0 := funext fun a => by fin_cases a <;> rfl

/-- The body leaves its payloads in the output blocks. -/
theorem out6_eq (x : Vec Ideal S512x1024 .f32) (w : Vec Ideal S1x1024 .f32) (wp : Vec Ideal S1024x3072 .bf16)
    (wz : Vec Ideal S1024x128 .bf16) (wg : Vec Ideal S128x512 .bf16) (b : Vec Ideal S1x512 .f32) : out0_6 x w wp wz wg b = k0_pay3 x w wp := by
  unfold out0_6
  rw [View.canon_unit_zero hz, View.ld_unit_zero hz, View.ld_unit_zero hz, View.ld_unit_zero hz]

theorem out7_eq (x : Vec Ideal S512x1024 .f32) (w : Vec Ideal S1x1024 .f32) (wp : Vec Ideal S1024x3072 .bf16)
    (wz : Vec Ideal S1024x128 .bf16) (wg : Vec Ideal S128x512 .bf16) (b : Vec Ideal S1x512 .f32) :
    out0_7 x w wp wz wg b = k0_pay1 (k0_pay4 x w wz wg wg) b := by
  unfold out0_7
  rw [View.canon_unit_zero hz, View.ld_unit_zero hz, View.ld_unit_zero hz, View.ld_unit_zero hz, View.ld_unit_zero hz, View.ld_unit_zero hz]

/-- At point `t` windows 0, 6 and 7 stand at row block `t`. -/
theorem index_eq : ∀ t : Fin cfg0.N, (win0_0.index t 0 = t.val ∧ win0_0.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_6.index t 0 = t.val ∧ win0_6.index t 1 = 0) ∧ (win0_7.index t 0 = t.val ∧ win0_7.index t 1 = 0))

/-- The windows of the weights stand at the whole arrays. -/
theorem index_w : ∀ t : Fin cfg0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0))

theorem lt_N (t : Fin cfg0.N) : t.val < 128 := lt_of_lt_of_eq t.isLt N_0

/-- Row `r` of block `t`. -/
def row (t : Fin cfg0.N) (r : Fin 512) : Fin 65536 := ⟨512 * t.val + r.val, by have := lt_N t; omega⟩

theorem iblk0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(index_eq t).1.1]; omega
  | ⟨1, _⟩ => show win0_0.index t 1 * 1024 + 1 * k.val = k.val; rw [(index_eq t).1.2]; omega

theorem iblk1 (c : Dev nD) (t : Fin cfg0.N) (k : Fin 1024) :
    iblk m c 1 t (ix2 0 k) = m ((c : Thread nD τ).loc main_arg1) (ix1 k) := by
  unfold iblk
  rw [View.read_apply]
  have e : ((cfg0.win 1).blk t).view.emb (ix2 0 k) = ix2 0 k := funext fun a => Fin.ext (by
    match a with
    | ⟨0, _⟩ => show win0_1.index t 0 * 1 + 1 * 0 = 0; rw [(index_w t).1.1]
    | ⟨1, _⟩ => show win0_1.index t 1 * 1024 + 1 * k.val = k.val; rw [(index_w t).1.2]; omega)
  show V m c main_v2 _ = _
  rw [e]
  entry_read
  show shapeCast S1x1024 (m ((c : Thread nD τ).loc main_arg1)) shapeCasts_S1024_S1x1024 (ix2 0 k) = _
  pointwise

theorem iblk5 (c : Dev nD) (t : Fin cfg0.N) (k : Fin 512) :
    iblk m c 5 t (ix2 0 k) = m ((c : Thread nD τ).loc main_arg4) (ix1 k) := by
  unfold iblk
  rw [View.read_apply]
  have e : ((cfg0.win 5).blk t).view.emb (ix2 0 k) = ix2 0 k := funext fun a => Fin.ext (by
    match a with
    | ⟨0, _⟩ => show win0_5.index t 0 * 1 + 1 * 0 = 0; rw [(index_w t).2.2.2.2.1]
    | ⟨1, _⟩ => show win0_5.index t 1 * 512 + 1 * k.val = k.val; rw [(index_w t).2.2.2.2.2]; omega)
  show V m c main_v8 _ = _
  rw [e]
  entry_read
  show shapeCast S1x512 (m ((c : Thread nD τ).loc main_arg4)) shapeCasts_S512_S1x512 (ix2 0 k) = _
  pointwise

theorem iblk2 (c : Dev nD) (t : Fin cfg0.N) :
    (iblk m c 2 t : S1024x3072.Idx → EReal) = wP (m ((c : Thread nD τ).loc main_arg2)) := by
  funext j
  unfold iblk
  rw [View.read_apply]
  have e : ((cfg0.win 2).blk t).view.emb j = j := funext fun a => Fin.ext (by
    match a with
    | ⟨0, _⟩ => show win0_2.index t 0 * 1024 + 1 * (j 0).val = (j 0).val; rw [(index_w t).2.1.1]; omega
    | ⟨1, _⟩ => show win0_2.index t 1 * 3072 + 1 * (j 1).val = (j 1).val; rw [(index_w t).2.1.2]; omega)
  show V m c main_v4 _ = _
  rw [e]
  entry_read
  rfl

theorem iblk3 (c : Dev nD) (t : Fin cfg0.N) :
    (iblk m c 3 t : S1024x128.Idx → EReal) = wZ (m ((c : Thread nD τ).loc main_arg2)) := by
  funext j
  unfold iblk
  rw [View.read_apply]
  have e : ((cfg0.win 3).blk t).view.emb j = j := funext fun a => Fin.ext (by
    match a with
    | ⟨0, _⟩ => show win0_3.index t 0 * 1024 + 1 * (j 0).val = (j 0).val; rw [(index_w t).2.2.1.1]; omega
    | ⟨1, _⟩ => show win0_3.index t 1 * 128 + 1 * (j 1).val = (j 1).val; rw [(index_w t).2.2.1.2]; omega)
  show V m c main_v7 _ = _
  rw [e]
  entry_read
  rfl

theorem iblk4 (c : Dev nD) (t : Fin cfg0.N) :
    (iblk m c 4 t : S128x512.Idx → EReal) = wGk (m ((c : Thread nD τ).loc main_arg3)) := by
  funext j
  unfold iblk
  rw [View.read_apply]
  have e : ((cfg0.win 4).blk t).view.emb j = j := funext fun a => Fin.ext (by
    match a with
    | ⟨0, _⟩ => show win0_4.index t 0 * 128 + 1 * (j 0).val = (j 0).val; rw [(index_w t).2.2.2.1.1]; omega
    | ⟨1, _⟩ => show win0_4.index t 1 * 512 + 1 * (j 1).val = (j 1).val; rw [(index_w t).2.2.2.1.2]; omega)
  show V m c main_v1 _ = _
  rw [e]
  entry_read
  rfl

/-- The numbers that the gate's low-rank product is made of are finite. -/
def Finite : Prop := ∀ c : Dev nD,
  (∀ (R : Fin 65536) (k : Fin 1024), Fin' (m ((c : Thread nD τ).loc main_arg0) (ix2 R k)))
  ∧ (∀ k : Fin 1024, Fin' (m ((c : Thread nD τ).loc main_arg1) (ix1 k)))
  ∧ (∀ (k : Fin 1024) (l : Fin 16), Fin' (m ((c : Thread nD τ).loc main_arg2) (ix2 k ⟨3072 + l.val, by omega⟩)))

/-- The reference's result at the launch contents. -/
def GP (c : Dev nD) : Vec Ideal S65536x3072 .bf16 :=
  refP (m ((c : Thread nD τ).loc main_arg0)) (m ((c : Thread nD τ).loc main_arg1)) (m ((c : Thread nD τ).loc main_arg2))

theorem flushedP (c : Dev nD) (t : Fin cfg0.N) (hf : (cfg0.win 6).flush t = true) :
    (dats m 0 c).flushed 6 t = ((cfg0.win 6).blk t).view.read (Elt Ideal) (GP m c) := by
  show (cfg0.win 6).cut (grid0.coords t) ((dats m 0 c).after 6 t) = _
  rw [after0_6]
  funext j
  obtain ⟨r, l, rfl⟩ : ∃ (r : Fin 512) (l : Fin 3072), j = ix2 r l := ⟨j 0, j 1, ValueIdx.eq_ix2 j⟩
  rw [View.read_apply]
  show out0_6 (iblk m c 0 t) (iblk m c 1 t) (iblk m c 2 t) (iblk m c 3 t) (iblk m c 4 t) (iblk m c 5 t) (ix2 r l) = _
  rw [out6_eq, payP_eq_ref _ _ _ _ _ _ r (row t r) l (iblk0 m c t r) (iblk1 m c t) (iblk2 m c t)]
  refine congrArg _ (funext fun a => Fin.ext ?_)
  match a with
  | ⟨0, _⟩ => show 512 * t.val + r.val = win0_6.index t 0 * 512 + 1 * r.val; rw [(index_eq t).2.1.1]; omega
  | ⟨1, _⟩ => show l.val = win0_6.index t 1 * 3072 + 1 * l.val; rw [(index_eq t).2.1.2]; omega

/-- The result array is the reference's. -/
theorem finalP (c : Dev nD) : (dats m 0 c).arrAt 6 cfg0.N = GP m c :=
  (dats m 0 c).arrAt_eq_of_cover 6 _ (flushedP m c) fun i => by
    have h0 : (i 0 : Nat) < 65536 := (i 0).isLt
    have h1 : (i 1 : Nat) < 3072 := (i 1).isLt
    refine ⟨⟨(i 0 : Nat) / 512, by rw [show cfg0.N = 128 from N_0]; omega⟩, flush0_6 _, ?_⟩
    generalize ht : (⟨(i 0 : Nat) / 512, _⟩ : Fin cfg0.N) = t
    have htv : t.val = (i 0 : Nat) / 512 := by rw [← ht]
    show i ∈ ((View.whole main_v9_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index_eq t).2.1.1]; omega
    | ⟨1, _⟩ =>
      show win0_6.index t 1 * 3072 ≤ (i 1 : Nat) ∧ (i 1 : Nat) < win0_6.index t 1 * 3072 + 3072
      rw [(index_eq t).2.1.2]; omega

/-- The reference's result at the launch contents. -/
def GG (c : Dev nD) : Vec Ideal S65536x512 .f32 :=
  refG (m ((c : Thread nD τ).loc main_arg0)) (m ((c : Thread nD τ).loc main_arg1)) (m ((c : Thread nD τ).loc main_arg2)) (m ((c : Thread nD τ).loc main_arg3)) (m ((c : Thread nD τ).loc main_arg4))

theorem flushedG (hm : Finite m) (c : Dev nD) (t : Fin cfg0.N) (hf : (cfg0.win 7).flush t = true) :
    (dats m 0 c).flushed 7 t = ((cfg0.win 7).blk t).view.read (Elt Ideal) (GG m c) := by
  show (cfg0.win 7).cut (grid0.coords t) ((dats m 0 c).after 7 t) = _
  rw [after0_7]
  funext j
  obtain ⟨r, l, rfl⟩ : ∃ (r : Fin 512) (l : Fin 512), j = ix2 r l := ⟨j 0, j 1, ValueIdx.eq_ix2 j⟩
  rw [View.read_apply]
  show out0_7 (iblk m c 0 t) (iblk m c 1 t) (iblk m c 2 t) (iblk m c 3 t) (iblk m c 4 t) (iblk m c 5 t) (ix2 r l) = _
  rw [out7_eq, payG_eq_ref _ _ _ _ _ _ _ _ _ _ r (row t r) l (iblk0 m c t r) (iblk1 m c t) (iblk3 m c t) (iblk4 m c t) (iblk5 m c t) (fun k => (hm c).1 _ k) (hm c).2.1 (hm c).2.2]
  refine congrArg _ (funext fun a => Fin.ext ?_)
  match a with
  | ⟨0, _⟩ => show 512 * t.val + r.val = win0_7.index t 0 * 512 + 1 * r.val; rw [(index_eq t).2.2.1]; omega
  | ⟨1, _⟩ => show l.val = win0_7.index t 1 * 512 + 1 * l.val; rw [(index_eq t).2.2.2]; omega

/-- The result array is the reference's. -/
theorem finalG (hm : Finite m) (c : Dev nD) : (dats m 0 c).arrAt 7 cfg0.N = GG m c :=
  (dats m 0 c).arrAt_eq_of_cover 7 _ (flushedG m hm c) fun i => by
    have h0 : (i 0 : Nat) < 65536 := (i 0).isLt
    have h1 : (i 1 : Nat) < 512 := (i 1).isLt
    refine ⟨⟨(i 0 : Nat) / 512, by rw [show cfg0.N = 128 from N_0]; omega⟩, flush0_7 _, ?_⟩
    generalize ht : (⟨(i 0 : Nat) / 512, _⟩ : Fin cfg0.N) = t
    have htv : t.val = (i 0 : Nat) / 512 := by rw [← ht]
    show i ∈ ((View.whole main_v9_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index_eq t).2.2.1]; omega
    | ⟨1, _⟩ =>
      show win0_7.index t 1 * 512 ≤ (i 1 : Nat) ∧ (i 1 : Nat) < win0_7.index t 1 * 512 + 512
      rw [(index_eq t).2.2.2]; omega

/-- The precondition says that they are finite. -/
theorem finite_of [Cert.Pre_gla_proj_finite.Facts] (x : FVec Ideal S65536x1024 .f32) (w : FVec Ideal S1024 .f32) (W : FVec Ideal S1024x3088 .f32)
    (G : FVec Ideal S16x512 .f32) (b : FVec Ideal S512 .f32)
    (h0 : (Cert.Pre_gla_proj_finite.fn x w W G b).1 = fun _ => 1#1) (h1 : (Cert.Pre_gla_proj_finite.fn x w W G b).2.1 = fun _ => 1#1)
    (h2 : (Cert.Pre_gla_proj_finite.fn x w W G b).2.2 = fun _ => 1#1) :
    (∀ (R : Fin 65536) (k : Fin 1024), Fin' (x (ix2 R k))) ∧ (∀ k : Fin 1024, Fin' (w (ix1 k)))
      ∧ (∀ (k : Fin 1024) (l : Fin 16), Fin' (W (ix2 k ⟨3072 + l.val, by omega⟩))) := by
  refine ⟨fun R k => ?_, fun k => ?_, fun k l => ?_⟩
  · have h := congrFun h0 (ix2 R k)
    dsimp only [Cert.Pre_gla_proj_finite.fn] at h
    exact fin_of_test h
  · have h := congrFun h1 (ix1 k)
    dsimp only [Cert.Pre_gla_proj_finite.fn] at h
    exact fin_of_test h
  · have h := congrFun h2 (ix2 k l)
    refine fin_of_test (Eq.trans ?_ h)
    pointwise [Cert.Pre_gla_proj_finite.fn]
    rfl

end Cert.GlaProjIdeal.Rows

namespace Cert.Proof
open Idealize.ShloMosaic Idealize.ShloMosaic.TcCoe Idealize.SL.Sem

theorem gla_proj_algebraic [hGlaProjIdeal : Cert.GlaProjIdeal.Facts] [hGlaProjRefIdeal : Cert.GlaProjRefIdeal.Facts]
    [hPre_gla_proj_finite : Cert.Pre_gla_proj_finite.Facts] : Cert.algebraic_GlaProjIdeal_GlaProjRefIdeal_pre_gla_proj_finite := by
  pair_intro
  · run_from Cert.GlaProjIdeal.Rows.run_blocks m g
  · run_from Cert.GlaProjRefIdeal.Value.run m' g'
    · exact (Cert.GlaProjIdeal.Rows.finalP m c).symm
    · refine Eq.trans ?_ (Cert.GlaProjIdeal.Rows.finalG m
        (fun c => Cert.GlaProjIdeal.Rows.finite_of _ _ _ _ _ (hpre c).1 (hpre c).2.1 (hpre c).2.2) c).symm
      obtain ⟨h0, h1, h2, h3, h4⟩ := hagree c
      exact Cert.GlaProjRefIdeal.Rows.outG_eq m' c _ _ _ _ _ h0 h1 h2 h3 h4

end Cert.Proof

end
-- ==== Proof.NormValue.lean ====
module

public import proofs.«01_k».proof.Defs
public import proofs.«01_k».proof.Proof.Gen.NormIdeal.Value
public import proofs.«01_k».proof.Proof.Gen.NormRefIdeal.Run
public import Idealize.ShloMosaic.Lib.Pipeline.Value
public import Idealize.ShloMosaic.Lib.Pointwise
public import Idealize.ShloMosaic.Lib.Claim

@[expose] public section

noncomputable section

namespace Cert.NormIdeal.Rows

open Cert.NormIdeal Cert.NormIdeal.Gen Idealize.ShloMosaic Idealize.ShloMosaic.TcCoe Idealize.SL.Sem
open Idealize.ShloMosaic.Pipeline (Dat)

/-- The reference's term for the normalised rows. -/
def ref (x : FVec Ideal S65536x1024 .f32) (w : FVec Ideal S1024 .f32) : FVec Ideal S65536x1024 .f32 :=
  mulf (mulf x (broadcastInDim Cert.NormRefIdeal.S65536x1024 ![0, 1] Cert.NormRefIdeal.Gen.bcast_S65536x1_S65536x1024_0_1 (Host.rsqrt (addf (Host.divf (broadcastInDim Cert.NormRefIdeal.S65536x1 ![0] Cert.NormRefIdeal.Gen.bcast_S65536_S65536x1_0 (Host.reduceAdd (mulf x x) (constant Cert.NormRefIdeal.S_ .f32 0x00000000#32) Cert.NormRefIdeal.Gen.reducesTo_S65536x1024_S65536_d1 Cert.NormRefIdeal.Gen.h_S_)) (broadcastInDim Cert.NormRefIdeal.S65536x1 ![] Cert.NormRefIdeal.Gen.bcast_S_S65536x1 (constant Cert.NormRefIdeal.S_ .f32 0x44800000#32))) (broadcastInDim Cert.NormRefIdeal.S65536x1 ![] Cert.NormRefIdeal.Gen.bcast_S_S65536x1 (constant Cert.NormRefIdeal.S_ .f32 0x358637BD#32)))))) (broadcastInDim Cert.NormRefIdeal.S65536x1024 ![0, 1] Cert.NormRefIdeal.Gen.bcast_S1x1024_S65536x1024_0_1 (broadcastInDim Cert.NormRefIdeal.S1x1024 ![1] Cert.NormRefIdeal.Gen.bcast_S1024_S1x1024_1 w))

/-- A row of a block and the row of the array that it holds are normalised to the same numbers. -/
theorem pay_eq_ref (x : Vec Ideal S512x1024 .f32) (w : Vec Ideal S1x1024 .f32) (X : FVec Ideal S65536x1024 .f32)
    (W : FVec Ideal S1024 .f32) (r : Fin 512) (R : Fin 65536) (l : Fin 1024)
    (hx : ∀ k : Fin 1024, x (ix2 r k) = X (ix2 R k)) (hw : ∀ k : Fin 1024, w (ix2 0 k) = W (ix1 k)) :
    k0_pay1 x w (ix2 r l) = ref X W (ix2 R l) := by
  pointwise [k0_pay1, ref]
  simp only [hx, hw]

variable (m : (ℓ : Loc nD τ sig) → Buf (Elt Ideal) ℓ)

theorem hz : (![0, 0] : Fin 2 → Nat) = fun _ => 0 := funext fun a => by fin_cases a <;> rfl

/-- The body leaves its payload in the output block. -/
theorem out_eq (x : Vec Ideal S512x1024 .f32) (w : Vec Ideal S1x1024 .f32) : out0_2 x w = k0_pay1 x w := by
  unfold out0_2
  rw [View.canon_unit_zero hz, View.ld_unit_zero hz, View.ld_unit_zero hz]

/-- At point `t` windows 0 and 2 stand at row block `t`, window 1 at the whole weight. -/
theorem index_eq : ∀ t : Fin cfg0.N, win0_0.index t 0 = t.val ∧ win0_0.index t 1 = 0 ∧ win0_2.index t 0 = t.val
    ∧ win0_2.index t 1 = 0 ∧ win0_1.index t 0 = 0 ∧ win0_1.index t 1 = 0 :=
  (by decide +kernel : ∀ t : Fin grid0.N, win0_0.index t 0 = t.val ∧ win0_0.index t 1 = 0 ∧ win0_2.index t 0 = t.val
    ∧ win0_2.index t 1 = 0 ∧ win0_1.index t 0 = 0 ∧ win0_1.index t 1 = 0)

theorem lt_N (t : Fin cfg0.N) : t.val < 128 := lt_of_lt_of_eq t.isLt N_0

/-- Row `r` of block `t`. -/
def row (t : Fin cfg0.N) (r : Fin 512) : Fin 65536 := ⟨512 * t.val + r.val, by have := lt_N t; omega⟩

theorem iblk0 (c : Dev nD) (t : Fin cfg0.N) (r : Fin 512) (k : Fin 1024) :
    iblk m c 0 t (ix2 r k) = m ((c : Thread nD τ).loc main_arg0) (ix2 (row t r) k) := by
  unfold iblk
  rw [View.read_apply]
  show V m c main_arg0 _ = _
  rw [V_main_arg0]
  refine congrArg _ (funext fun a => Fin.ext ?_)
  match a with
  | ⟨0, _⟩ => show win0_0.index t 0 * 512 + 1 * r.val = 512 * t.val + r.val; rw [(index_eq t).1]; omega
  | ⟨1, _⟩ => show win0_0.index t 1 * 1024 + 1 * k.val = k.val; rw [(index_eq t).2.1]; omega

theorem iblk1 (c : Dev nD) (t : Fin cfg0.N) (k : Fin 1024) :
    iblk m c 1 t (ix2 0 k) = m ((c : Thread nD τ).loc main_arg1) (ix1 k) := by
  unfold iblk
  rw [View.read_apply]
  have e : ((cfg0.win 1).blk t).view.emb (ix2 0 k) = ix2 0 k := funext fun a => Fin.ext (by
    match a with
    | ⟨0, _⟩ => show win0_1.index t 0 * 1 + 1 * 0 = 0; rw [(index_eq t).2.2.2.2.1]
    | ⟨1, _⟩ => show win0_1.index t 1 * 1024 + 1 * k.val = k.val; rw [(index_eq t).2.2.2.2.2]; omega)
  show V m c main_v0 _ = _
  rw [e]
  entry_read
  show shapeCast S1x1024 (m ((c : Thread nD τ).loc main_arg1)) shapeCasts_S1024_S1x1024 (ix2 0 k) = _
  pointwise

theorem flushed (c : Dev nD) (t : Fin cfg0.N) (hf : (cfg0.win 2).flush t = true) :
    (dats m 0 c).flushed 2 t = ((cfg0.win 2).blk t).view.read (Elt Ideal)
      (ref (m ((c : Thread nD τ).loc main_arg0)) (m ((c : Thread nD τ).loc main_arg1)) : Vec Ideal S65536x1024 .f32) := by
  rw [Value.flushed2]
  funext j
  obtain ⟨r, l, rfl⟩ : ∃ (r : Fin 512) (l : Fin 1024), j = ix2 r l := ⟨j 0, j 1, ValueIdx.eq_ix2 j⟩
  rw [View.read_apply]
  show out0_2 (iblk m c 0 t) (iblk m c 1 t) (ix2 r l) = _
  rw [out_eq, pay_eq_ref _ _ _ _ r (row t r) l (iblk0 m c t r) (iblk1 m c t)]
  refine congrArg _ (funext fun a => Fin.ext ?_)
  match a with
  | ⟨0, _⟩ => show 512 * t.val + r.val = win0_2.index t 0 * 512 + 1 * r.val; rw [(index_eq t).2.2.1]; omega
  | ⟨1, _⟩ => show l.val = win0_2.index t 1 * 1024 + 1 * l.val; rw [(index_eq t).2.2.2.1]; omega

/-- The result array is the reference's. -/
theorem final (c : Dev nD) : (dats m 0 c).arrAt 2 cfg0.N
    = (ref (m ((c : Thread nD τ).loc main_arg0)) (m ((c : Thread nD τ).loc main_arg1)) : Vec Ideal S65536x1024 .f32) :=
  (dats m 0 c).arrAt_eq_of_cover 2 _ (flushed m c) fun i => by
    have h0 : (i 0 : Nat) < 65536 := (i 0).isLt
    have h1 : (i 1 : Nat) < 1024 := (i 1).isLt
    refine ⟨⟨(i 0 : Nat) / 512, by rw [show cfg0.N = 128 from N_0]; omega⟩, flush0_2 _, ?_⟩
    generalize ht : (⟨(i 0 : Nat) / 512, _⟩ : Fin cfg0.N) = t
    have htv : t.val = (i 0 : Nat) / 512 := by rw [← ht]
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(index_eq t).2.2.1]; omega
    | ⟨1, _⟩ =>
      show win0_2.index t 1 * 1024 ≤ (i 1 : Nat) ∧ (i 1 : Nat) < win0_2.index t 1 * 1024 + 1024
      rw [(index_eq t).2.2.2.1]; omega

end Cert.NormIdeal.Rows

namespace Cert.Proof
open Idealize.ShloMosaic Idealize.ShloMosaic.TcCoe Idealize.SL.Sem

theorem norm_algebraic [hNormIdeal : Cert.NormIdeal.Facts] [hNormRefIdeal : Cert.NormRefIdeal.Facts] :
    Cert.algebraic_NormIdeal_NormRefIdeal := by
  pair_intro
  · run_from Cert.NormIdeal.Value.run_blocks m g
  · run_from Cert.NormRefIdeal.Value.run m' g'
    exact (Cert.NormIdeal.Rows.final m c).symm

end Cert.Proof

end
-- ==== Proof.lean ====
/-
  The certificate. Each kernel call's frame is the generated one; each reference leaves its arguments alone and has no
  semaphores; no rewriting rule was applied between a program and its ideal form, so `preserves` says nothing; the
  value claims are proved in the modules under `Proof/`.
-/
module

public import proofs.«01_k».proof.Defs
public import proofs.«01_k».proof.Proof.Gen.GlaMix
public import proofs.«01_k».proof.Proof.Gen.GlaMix.Frame
public import proofs.«01_k».proof.Proof.Gen.GlaMixIdeal
public import proofs.«01_k».proof.Proof.Gen.GlaMixIdeal.Frame
public import proofs.«01_k».proof.Proof.Gen.GlaRefIdeal
public import proofs.«01_k».proof.Proof.Gen.GlaRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.GlaProj
public import proofs.«01_k».proof.Proof.Gen.GlaProj.Frame
public import proofs.«01_k».proof.Proof.Gen.GlaProjIdeal
public import proofs.«01_k».proof.Proof.Gen.GlaProjIdeal.Frame
public import proofs.«01_k».proof.Proof.Gen.GlaProjRefIdeal
public import proofs.«01_k».proof.Proof.Gen.GlaProjRefIdeal.Run
public import proofs.«01_k».proof.Proof.Gen.GdnProj
public import proofs.«01_k».proof.Proof.Gen.GdnProj.Frame
public import proofs.«01_k».proof.Proof.Gen.GdnProjIdeal
public import proofs.«01_k».proof.Proof.Gen.GdnProjIdeal.Frame
public import proofs.«01_k».proof.Proof.Gen.GdnProjRefIdeal
public import proofs.«01_k».proof.Proof.Gen.GdnProjRefIdeal.Run
public import proofs.«01_k».proof.Proof.Gen.GdnMix
public import proofs.«01_k».proof.Proof.Gen.GdnMix.Frame
public import proofs.«01_k».proof.Proof.Gen.GdnMixIdeal
public import proofs.«01_k».proof.Proof.Gen.GdnMixIdeal.Frame
public import proofs.«01_k».proof.Proof.Gen.GdnRefIdeal
public import proofs.«01_k».proof.Proof.Gen.Pre_gates_below_inf
public import proofs.«01_k».proof.Proof.Gen.Pre_gla_proj_finite
public import proofs.«01_k».proof.Proof.FfnValue
public import proofs.«01_k».proof.Proof.GdnProjValue
public import proofs.«01_k».proof.Proof.GdnRefRun
public import proofs.«01_k».proof.Proof.GlaMixValue
public import proofs.«01_k».proof.Proof.GlaProjValue
public import proofs.«01_k».proof.Proof.GlaRefRun
public import proofs.«01_k».proof.Proof.NormValue
public import Idealize.ShloMosaic.Adequacy
public import Idealize.ShloMosaic.Init
public import Idealize.ShloMosaic.Lib.Quiescent

@[expose] public section

noncomputable section

namespace Cert.Proof

open Idealize.ShloMosaic Idealize.SL.Sem

theorem frame_FfnRefIdeal : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run m ρ)

theorem frame_NormRefIdeal : Cert.quiescent_NormRefIdeal := fun m ρ _ =>
  (θ_run Cert.NormRefIdeal.defs _ _).mono
    (fun r h => ⟨fun c => (h c).2, Idealize.ShloMosaic.sem_eq_zero_of_no_sems (by decide) r.2⟩)
    (Cert.NormRefIdeal.Value.run m ρ)

theorem frame_GlaProjRefIdeal : Cert.quiescent_GlaProjRefIdeal := fun m ρ _ =>
  (θ_run Cert.GlaProjRefIdeal.defs _ _).mono
    (fun r h => ⟨fun c => (h c).2.2, Idealize.ShloMosaic.sem_eq_zero_of_no_sems (by decide) r.2⟩)
    (Cert.GlaProjRefIdeal.Value.run m ρ)

theorem frame_GdnProjRefIdeal : Cert.quiescent_GdnProjRefIdeal := fun m ρ _ =>
  (θ_run Cert.GdnProjRefIdeal.defs _ _).mono
    (fun r h => ⟨fun c => (h c).2.2, Idealize.ShloMosaic.sem_eq_zero_of_no_sems (by decide) r.2⟩)
    (Cert.GdnProjRefIdeal.Value.run m ρ)

theorem claim : Cert.Claim :=
  ⟨Cert.GlaMix.Gen.facts,
  Cert.GlaMixIdeal.Gen.facts,
  Cert.GlaRefIdeal.Gen.facts,
  Cert.Ffn.Gen.facts,
  Cert.FfnIdeal.Gen.facts,
  Cert.FfnRefIdeal.Gen.facts,
  Cert.Norm.Gen.facts,
  Cert.NormIdeal.Gen.facts,
  Cert.NormRefIdeal.Gen.facts,
  Cert.GlaProj.Gen.facts,
  Cert.GlaProjIdeal.Gen.facts,
  Cert.GlaProjRefIdeal.Gen.facts,
  Cert.GdnProj.Gen.facts,
  Cert.GdnProjIdeal.Gen.facts,
  Cert.GdnProjRefIdeal.Gen.facts,
  Cert.GdnMix.Gen.facts,
  Cert.GdnMixIdeal.Gen.facts,
  Cert.GdnRefIdeal.Gen.facts,
  Cert.Pre_gates_below_inf.Gen.facts,
  Cert.Pre_gla_proj_finite.Gen.facts,
  fun m ρ _ => Cert.GlaMix.Gen.frame m ρ,
  fun m ρ _ => Cert.GlaMixIdeal.Gen.frame m ρ,
  fun m ρ _ => (fun m ρ _ => Cert.GlaMixIdeal.Gen.frame m ρ) m ρ trivial,
  gla_ref_frame,
  fun m ρ _ => gla_ref_frame m ρ trivial,
  fun m ρ _ => Cert.Ffn.Gen.frame m ρ,
  fun m ρ _ => Cert.FfnIdeal.Gen.frame m ρ,
  frame_FfnRefIdeal,
  fun m ρ _ => Cert.Norm.Gen.frame m ρ,
  fun m ρ _ => Cert.NormIdeal.Gen.frame m ρ,
  frame_NormRefIdeal,
  fun m ρ _ => Cert.GlaProj.Gen.frame m ρ,
  fun m ρ _ => Cert.GlaProjIdeal.Gen.frame m ρ,
  fun m ρ _ => (fun m ρ _ => Cert.GlaProjIdeal.Gen.frame m ρ) m ρ trivial,
  frame_GlaProjRefIdeal,
  fun m ρ _ => frame_GlaProjRefIdeal m ρ trivial,
  fun m ρ _ => Cert.GdnProj.Gen.frame m ρ,
  fun m ρ _ => Cert.GdnProjIdeal.Gen.frame m ρ,
  frame_GdnProjRefIdeal,
  fun m ρ _ => Cert.GdnMix.Gen.frame m ρ,
  fun m ρ _ => Cert.GdnMixIdeal.Gen.frame m ρ,
  gdn_ref_frame,
  trivial,
  gla_mix_algebraic,
  trivial,
  ffn_algebraic,
  trivial,
  norm_algebraic,
  trivial,
  gla_proj_algebraic,
  trivial,
  gdn_proj_algebraic,
  trivial⟩

end Cert.Proof

end
